-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v114) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_inputs.lean ====
abbrev S16384x1024 : Shape := ⟨2, ![16384, 1024]⟩
abbrev S1024 : Shape := ⟨1, ![1024]⟩
abbrev S_ : Shape := ⟨0, ![]⟩
abbrev S1x1024 : Shape := ⟨2, ![1, 1024]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)

variable [Facts]

def fn_part1 {F : FTy → Type} [FloatOps F] (main_arg6 : FVec F S1024 .f32) (main_arg7 : FVec F S1024 .f32) (main_arg8 : FVec F S1024 .f32) (main_v18 : IVec S16384x1024 1) : IVec S16384x1024 1 :=
  let main_v19 : FVec F S1024 .f32 := Host.absf main_arg6
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  let main_v22 : FVec F S1024 .f32 := Host.absf main_arg7
  let main_cst_5 : FVec F S_ .f32 := constant S_ .f32 0x7F800000#32
  let main_v23 : FVec F S1024 .f32 := broadcastInDim S1024 ![] bcast_S_S1024 main_cst_5
  let main_v24 : IVec S1024 1 := cmpf .olt main_v22 main_v23
  let main_v25 : IVec S1024 1 := andi main_v21 main_v24
  let main_v26 : FVec F S1024 .f32 := Host.absf main_arg8
  let main_cst_6 : FVec F S_ .f32 := constant S_ .f32 0x7F800000#32
  let main_v27 : FVec F S1024 .f32 := broadcastInDim S1024 ![] bcast_S_S1024 main_cst_6
  let main_v28 : IVec S1024 1 := cmpf .olt main_v26 main_v27
  let main_v29 : IVec S1024 1 := andi main_v25 main_v28
  let main_v30 : IVec S1x1024 1 := broadcastInDim S1x1024 ![1] bcast_S1024_S1x1024_1 main_v29
  let main_v31 : IVec S16384x1024 1 := broadcastInDim S16384x1024 ![0, 1] bcast_S1x1024_S16384x1024_0_1 main_v30
  let main_v32 : IVec S16384x1024 1 := andi main_v18 main_v31
  main_v32

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S16384x1024 .f32) (main_arg6 : FVec F S1024 .f32) (main_arg7 : FVec F S1024 .f32) (main_arg8 : FVec F S1024 .f32) (main_arg9 : FVec F S1024 .f32) (main_arg10 : FVec F S1024 .f32) : IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : IVec S16384x1024 1 := andi main_v2 main_v5
  let main_v7 : FVec F S16384x1024 .f32 := Host.absf main_arg2
  let main_cst_1 : FVec F S_ .f32 := constant S_ .f32 0x7F800000#32
  let main_v8 : FVec F S16384x1024 .f32 := broadcastInDim S16384x1024 ![] bcast_S_S16384x1024 main_cst_1
  let main_v9 : IVec S16384x1024 1 := cmpf .olt main_v7 main_v8
  let main_v10 : IVec S16384x1024 1 := andi main_v6 main_v9
  let main_v11 : FVec F S16384x1024 .f32 := Host.absf main_arg3
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_v14 : IVec S16384x1024 1 := andi main_v10 main_v13
  let main_v15 : FVec F S16384x1024 .f32 := Host.absf main_arg4
  let main_cst_3 : FVec F S_ .f32 := constant S_ .f32 0x7F800000#32
  let main_v16 : FVec F S16384x1024 .f32 := broadcastInDim S16384x1024 ![] bcast_S_S16384x1024 main_cst_3
  let main_v17 : IVec S16384x1024 1 := cmpf .olt main_v15 main_v16
  let main_v18 : IVec S16384x1024 1 := andi main_v14 main_v17
  fn_part1 (F := F) main_arg6 main_arg7 main_arg8 main_v18
-- ==== Kernel.lean ====
abbrev S16384x1024 : Shape := ⟨2, ![16384, 1024]⟩
abbrev S1024 : Shape := ⟨1, ![1024]⟩
abbrev S1x1024 : Shape := ⟨2, ![1, 1024]⟩
abbrev S64x1024 : Shape := ⟨2, ![64, 1024]⟩
abbrev S8x128x128 : Shape := ⟨3, ![8, 128, 128]⟩
abbrev S128x128 : Shape := ⟨2, ![128, 128]⟩
abbrev S64x64 : Shape := ⟨2, ![64, 64]⟩
abbrev S64x128 : Shape := ⟨2, ![64, 128]⟩
abbrev S1x128 : Shape := ⟨2, ![1, 128]⟩
abbrev S256x128 : Shape := ⟨2, ![256, 128]⟩
abbrev S256x256 : Shape := ⟨2, ![256, 256]⟩
abbrev S128x256 : Shape := ⟨2, ![128, 256]⟩
abbrev S1x128x128 : Shape := ⟨3, ![1, 128, 128]⟩

abbrev nBuf : Space → Nat
  | .hbm => 17
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16384x1024, .bf16⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S64x1024, .bf16⟩
  | .local _ .vmem, ⟨18, _⟩ => ⟨S64x1024, .bf16⟩
  | .local _ .vmem, ⟨19, _⟩ => ⟨S8x128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨3, ![4, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S16384x1024 : Shape := ⟨2, ![16384, 1024]⟩
abbrev S1024 : Shape := ⟨1, ![1024]⟩
abbrev S4x4096x16x64 : Shape := ⟨4, ![4, 4096, 16, 64]⟩
abbrev S16x64 : Shape := ⟨2, ![16, 64]⟩
abbrev S1x1x16x64 : Shape := ⟨4, ![1, 1, 16, 64]⟩
abbrev S_ : Shape := ⟨0, ![]⟩
abbrev S4x4096x16 : Shape := ⟨3, ![4, 4096, 16]⟩
abbrev S4x4096x16x1 : Shape := ⟨4, ![4, 4096, 16, 1]⟩
abbrev S4096x4x16x64 : Shape := ⟨4, ![4096, 4, 16, 64]⟩
abbrev S4x16x64x64 : Shape := ⟨4, ![4, 16, 64, 64]⟩
abbrev S1x4x16x64 : Shape := ⟨4, ![1, 4, 16, 64]⟩
abbrev S4x16x64 : Shape := ⟨3, ![4, 16, 64]⟩
abbrev S4x16x1x64 : Shape := ⟨4, ![4, 16, 1, 64]⟩
abbrev S4x16x64x1 : Shape := ⟨4, ![4, 16, 64, 1]⟩

abbrev nBuf : Space → Nat
  | .hbm => 183
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S16384x1024, .f32⟩
  | 5 => ⟨S16384x1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S4x4096x16x64, .f32⟩
  | 12 => ⟨S16x64, .f32⟩
  | 13 => ⟨S1x1x16x64, .f32⟩
  | 14 => ⟨S4x4096x16x64, .f32⟩
  | 15 => ⟨S4x4096x16x64, .f32⟩
  | 16 => ⟨S4x4096x16x64, .f32⟩
  | 17 => ⟨S_, .f32⟩
  | 18 => ⟨S4x4096x16, .f32⟩
  | 19 => ⟨S4x4096x16x1, .f32⟩
  | 20 => ⟨S4x4096x16x1, .f32⟩
  | 21 => ⟨S_, .f32⟩
  | 22 => ⟨S4x4096x16x1, .f32⟩
  | 23 => ⟨S4x4096x16x1, .f32⟩
  | 24 => ⟨S4x4096x16x64, .f32⟩
  | 25 => ⟨S4x4096x16x64, .f32⟩
  | 26 => ⟨S4x4096x16x64, .f32⟩
  | 27 => ⟨S16384x1024, .f32⟩
  | 28 => ⟨S4x4096x16x64, .f32⟩
  | 29 => ⟨S4x4096x16x64, .f32⟩
  | 30 => ⟨S4x4096x16x64, .f32⟩
  | 31 => ⟨S_, .f32⟩
  | 32 => ⟨S4x4096x16x64, .f32⟩
  | 33 => ⟨S4x4096x16x64, .f32⟩
  | 34 => ⟨S16x64, .f32⟩
  | 35 => ⟨S1x1x16x64, .f32⟩
  | 36 => ⟨S4x4096x16x64, .f32⟩
  | 37 => ⟨S4x4096x16x64, .f32⟩
  | 38 => ⟨S_, .f32⟩
  | 39 => ⟨S4x4096x16x64, .f32⟩
  | 40 => ⟨S4x4096x16x64, .f32⟩
  | 41 => ⟨S4x4096x16x64, .f32⟩
  | 42 => ⟨S4x4096x16x64, .f32⟩
  | 43 => ⟨S4x4096x16x64, .f32⟩
  | 44 => ⟨S4096x4x16x64, .f32⟩
  | 45 => ⟨S4096x4x16x64, .f32⟩
  | 46 => ⟨S4096x4x16x64, .f32⟩
  | 47 => ⟨S4096x4x16x64, .f32⟩
  | 48 => ⟨S4096x4x16x64, .f32⟩
  | 49 => ⟨S4096x4x16x64, .f32⟩
  | 50 => ⟨S_, .f32⟩
  | 51 => ⟨S4x16x64x64, .f32⟩
  | 52 => ⟨S_, .f32⟩
  | 53 => ⟨S4096x4x16x64, .f32⟩
  | 54 => ⟨S_, .i32⟩
  | 55 => ⟨S4096x4x16x64, .f32⟩
  | 56 => ⟨S4096x4x16x64, .f32⟩
  | 57 => ⟨S4096x4x16x64, .f32⟩
  | 58 => ⟨S4096x4x16x64, .f32⟩
  | 59 => ⟨S4096x4x16x64, .f32⟩
  | 60 => ⟨S4096x4x16x64, .f32⟩
  | 61 => ⟨S_, .i32⟩
  | 62 => ⟨S4x16x64x64, .f32⟩
  | 63 => ⟨S4096x4x16x64, .f32⟩
  | 64 => ⟨S_, .i32⟩
  | 65 => ⟨S_, .i1⟩
  | 66 => ⟨S_, .i32⟩
  | 67 => ⟨S_, .i32⟩
  | 68 => ⟨S_, .i32⟩
  | 69 => ⟨S1x4x16x64, .f32⟩
  | 70 => ⟨S4x16x64, .f32⟩
  | 71 => ⟨S_, .i32⟩
  | 72 => ⟨S_, .i32⟩
  | 73 => ⟨S_, .i32⟩
  | 74 => ⟨S1x4x16x64, .f32⟩
  | 75 => ⟨S4x16x64, .f32⟩
  | 76 => ⟨S_, .i32⟩
  | 77 => ⟨S_, .i32⟩
  | 78 => ⟨S_, .i32⟩
  | 79 => ⟨S1x4x16x64, .f32⟩
  | 80 => ⟨S4x16x64, .f32⟩
  | 81 => ⟨S_, .i32⟩
  | 82 => ⟨S_, .i32⟩
  | 83 => ⟨S_, .i32⟩
  | 84 => ⟨S1x4x16x64, .f32⟩
  | 85 => ⟨S4x16x64, .f32⟩
  | 86 => ⟨S_, .i32⟩
  | 87 => ⟨S_, .i32⟩
  | 88 => ⟨S_, .i32⟩
  | 89 => ⟨S1x4x16x64, .f32⟩
  | 90 => ⟨S4x16x64, .f32⟩
  | 91 => ⟨S_, .i32⟩
  | 92 => ⟨S_, .i32⟩
  | 93 => ⟨S_, .i32⟩
  | 94 => ⟨S1x4x16x64, .f32⟩
  | 95 => ⟨S4x16x64, .f32⟩
  | 96 => ⟨S4x16x64, .f32⟩
  | 97 => ⟨S4x16x64, .f32⟩
  | 98 => ⟨S4x16x1x64, .f32⟩
  | 99 => ⟨S4x16x64x64, .f32⟩
  | 100 => ⟨S4x16x64x64, .f32⟩
  | 101 => ⟨S4x16x64x1, .f32⟩
  | 102 => ⟨S4x16x64, .f32⟩
  | 103 => ⟨S4x16x1x64, .f32⟩
  | 104 => ⟨S4x16x64x64, .f32⟩
  | 105 => ⟨S4x16x64x64, .f32⟩
  | 106 => ⟨S4x16x64x64, .f32⟩
  | 107 => ⟨S4x16x64x64, .f32⟩
  | 108 => ⟨S4x16x64x1, .f32⟩
  | 109 => ⟨S4x16x1x64, .f32⟩
  | 110 => ⟨S4x16x64x64, .f32⟩
  | 111 => ⟨S4x16x64x64, .f32⟩
  | 112 => ⟨S4x16x64x64, .f32⟩
  | 113 => ⟨S4x16x64x64, .f32⟩
  | 114 => ⟨S4x16x64, .f32⟩
  | 115 => ⟨S1x4x16x64, .f32⟩
  | 116 => ⟨S_, .i32⟩
  | 117 => ⟨S_, .i32⟩
  | 118 => ⟨S_, .i32⟩
  | 119 => ⟨S4096x4x16x64, .f32⟩
  | 120 => ⟨S_, .i32⟩
  | 121 => ⟨S_, .i32⟩
  | 122 => ⟨S4x4096x16x64, .f32⟩
  | 123 => ⟨S_, .f32⟩
  | 124 => ⟨S4x4096x16, .f32⟩
  | 125 => ⟨S4x4096x16x1, .f32⟩
  | 126 => ⟨S_, .f32⟩
  | 127 => ⟨S4x4096x16x1, .f32⟩
  | _ => ⟨S16384x1024, .f32⟩

abbrev hbmTy0_1 (i : Nat) : BufTy := match i % 128 with
  | 0 => ⟨S4x4096x16x1, .f32⟩
  | 1 => ⟨S4x4096x16x64, .f32⟩
  | 2 => ⟨S4x4096x16x64, .f32⟩
  | 3 => ⟨S4x4096x16x64, .f32⟩
  | 4 => ⟨S_, .f32⟩
  | 5 => ⟨S4x4096x16, .f32⟩
  | 6 => ⟨S4x4096x16x1, .f32⟩
  | 7 => ⟨S_, .f32⟩
  | 8 => ⟨S4x4096x16x1, .f32⟩
  | 9 => ⟨S4x4096x16x1, .f32⟩
  | 10 => ⟨S4x4096x16x64, .f32⟩
  | 11 => ⟨S4x4096x16x64, .f32⟩
  | 12 => ⟨S_, .f32⟩
  | 13 => ⟨S4x4096x16x1, .f32⟩
  | 14 => ⟨S4x4096x16x1, .f32⟩
  | 15 => ⟨S4x4096x16x1, .f32⟩
  | 16 => ⟨S4x4096x16x64, .f32⟩
  | 17 => ⟨S4x4096x16x64, .f32⟩
  | 18 => ⟨S16x64, .f32⟩
  | 19 => ⟨S1x1x16x64, .f32⟩
  | 20 => ⟨S4x4096x16x64, .f32⟩
  | 21 => ⟨S4x4096x16x64, .f32⟩
  | 22 => ⟨S16x64, .f32⟩
  | 23 => ⟨S1x1x16x64, .f32⟩
  | 24 => ⟨S4x4096x16x64, .f32⟩
  | 25 => ⟨S4x4096x16x64, .f32⟩
  | 26 => ⟨S4x4096x16x64, .f32⟩
  | 27 => ⟨S4x4096x16x64, .f32⟩
  | 28 => ⟨S4x4096x16x64, .f32⟩
  | 29 => ⟨S_, .f32⟩
  | 30 => ⟨S4x4096x16x64, .f32⟩
  | 31 => ⟨S4x4096x16x64, .f32⟩
  | 32 => ⟨S16x64, .f32⟩
  | 33 => ⟨S1x1x16x64, .f32⟩
  | 34 => ⟨S4x4096x16x64, .f32⟩
  | 35 => ⟨S4x4096x16x64, .f32⟩
  | 36 => ⟨S_, .f32⟩
  | 37 => ⟨S4x4096x16x64, .f32⟩
  | 38 => ⟨S4x4096x16x64, .f32⟩
  | 39 => ⟨S4x4096x16x64, .f32⟩
  | 40 => ⟨S4x4096x16x64, .f32⟩
  | 41 => ⟨S16x64, .f32⟩
  | 42 => ⟨S1x1x16x64, .f32⟩
  | 43 => ⟨S4x4096x16x64, .f32⟩
  | 44 => ⟨S4x4096x16x64, .f32⟩
  | 45 => ⟨S_, .f32⟩
  | 46 => ⟨S4x4096x16, .f32⟩
  | 47 => ⟨S4x4096x16x1, .f32⟩
  | 48 => ⟨S4x4096x16x64, .f32⟩
  | 49 => ⟨S4x4096x16x64, .f32⟩
  | 50 => ⟨S4x4096x16x64, .f32⟩
  | 51 => ⟨S4x4096x16x64, .f32⟩
  | 52 => ⟨S16384x1024, .f32⟩
  | 53 => ⟨S16384x1024, .f32⟩
  | 54 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_c : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_v37_3 : Ref sig .tc := ⟨.hbm, 58, rfl⟩
abbrev main_v37_4 : Ref sig .tc := ⟨.hbm, 59, rfl⟩
abbrev main_v37_5 : Ref sig .tc := ⟨.hbm, 60, rfl⟩
abbrev main_v37_6 : Ref sig .tc := ⟨.hbm, 61, rfl⟩
abbrev main_v37_7 : Ref sig .tc := ⟨.hbm, 62, rfl⟩
abbrev main_v37_8 : Ref sig .tc := ⟨.hbm, 63, rfl⟩
abbrev main_while0c_c_21 : Ref sig .tc := ⟨.hbm, 64, rfl⟩
abbrev main_while0c_v91 : Ref sig .tc := ⟨.hbm, 65, rfl⟩
abbrev main_while0b_call0_c : Ref sig .tc := ⟨.hbm, 66, rfl⟩
abbrev main_while0b_call0_c_0 : Ref sig .tc := ⟨.hbm, 67, rfl⟩
abbrev main_while0b_call0_c_1 : Ref sig .tc := ⟨.hbm, 68, rfl⟩
abbrev main_while0b_call0_v0 : Ref sig .tc := ⟨.hbm, 69, rfl⟩
abbrev main_while0b_v91 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_v0 : Ref sig .tc := ⟨.hbm, 74, rfl⟩
abbrev main_while0b_v92 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_v0 : Ref sig .tc := ⟨.hbm, 79, rfl⟩
abbrev main_while0b_v93 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_v0 : Ref sig .tc := ⟨.hbm, 84, rfl⟩
abbrev main_while0b_v94 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_v0 : Ref sig .tc := ⟨.hbm, 89, rfl⟩
abbrev main_while0b_v95 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_v0 : Ref sig .tc := ⟨.hbm, 94, rfl⟩
abbrev main_while0b_v96 : Ref sig .tc := ⟨.hbm, 95, rfl⟩
abbrev main_while0b_v97 : Ref sig .tc := ⟨.hbm, 96, rfl⟩
abbrev main_while0b_v98 : Ref sig .tc := ⟨.hbm, 97, rfl⟩
abbrev main_while0b_v99 : Ref sig .tc := ⟨.hbm, 98, rfl⟩
abbrev main_while0b_v100 : Ref sig .tc := ⟨.hbm, 99, rfl⟩
abbrev main_while0b_v101 : Ref sig .tc := ⟨.hbm, 100, rfl⟩
abbrev main_while0b_v102 : Ref sig .tc := ⟨.hbm, 101, rfl⟩
abbrev main_while0b_v103 : Ref sig .tc := ⟨.hbm, 102, rfl⟩
abbrev main_while0b_v104 : Ref sig .tc := ⟨.hbm, 103, rfl⟩
abbrev main_while0b_v105 : Ref sig .tc := ⟨.hbm, 104, rfl⟩
abbrev main_while0b_v106 : Ref sig .tc := ⟨.hbm, 105, rfl⟩
abbrev main_while0b_v107 : Ref sig .tc := ⟨.hbm, 106, rfl⟩
abbrev main_while0b_v108 : Ref sig .tc := ⟨.hbm, 107, rfl⟩
abbrev main_while0b_v109 : Ref sig .tc := ⟨.hbm, 108, rfl⟩
abbrev main_while0b_v110 : Ref sig .tc := ⟨.hbm, 109, rfl⟩
abbrev main_while0b_v111 : Ref sig .tc := ⟨.hbm, 110, rfl⟩
abbrev main_while0b_v112 : Ref sig .tc := ⟨.hbm, 111, rfl⟩
abbrev main_while0b_v113 : Ref sig .tc := ⟨.hbm, 112, rfl⟩
abbrev main_while0b_v114 : Ref sig .tc := ⟨.hbm, 113, rfl⟩
abbrev main_while0b_v115 : Ref sig .tc := ⟨.hbm, 114, rfl⟩
abbrev main_while0b_call6_v0 : Ref sig .tc := ⟨.hbm, 115, rfl⟩
abbrev main_while0b_call6_c : Ref sig .tc := ⟨.hbm, 116, rfl⟩
abbrev main_while0b_call6_c_0 : Ref sig .tc := ⟨.hbm, 117, rfl⟩
abbrev main_while0b_call6_c_1 : Ref sig .tc := ⟨.hbm, 118, rfl⟩
abbrev main_while0b_v116 : Ref sig .tc := ⟨.hbm, 119, rfl⟩
abbrev main_while0b_c_21 : Ref sig .tc := ⟨.hbm, 120, rfl⟩
abbrev main_while0b_v117 : Ref sig .tc := ⟨.hbm, 121, rfl⟩
abbrev main_v38 : Ref sig .tc := ⟨.hbm, 122, rfl⟩
abbrev main_cst_5 : Ref sig .tc := ⟨.hbm, 123, rfl⟩
abbrev main_v39 : Ref sig .tc := ⟨.hbm, 124, rfl⟩
abbrev main_v40 : Ref sig .tc := ⟨.hbm, 125, rfl⟩
abbrev main_cst_6 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_cst_7 : Ref sig .tc := ⟨.hbm, 132, rfl⟩
abbrev main_v46 : Ref sig .tc := ⟨.hbm, 133, rfl⟩
abbrev main_v47 : Ref sig .tc := ⟨.hbm, 134, rfl⟩
abbrev main_cst_8 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_cst_9 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_cst_10 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_cst_11 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_cst_12 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S4096x12288, .bf16⟩
  | .hbm, ⟨3, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x4096 : Shape := ⟨2, ![16384, 4096]⟩
abbrev S4096x12288 : Shape := ⟨2, ![4096, 12288]⟩
abbrev S16384x12288 : Shape := ⟨2, ![16384, 12288]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S16384x12288, .f32⟩
  | .hbm, ⟨3, _⟩ => ⟨S16384x12288, .f32⟩
  | .hbm, ⟨4, _⟩ => ⟨S16384x12288, .f32⟩
  | .hbm, ⟨5, _⟩ => ⟨S_, .f32⟩
  | .hbm, ⟨6, _⟩ => ⟨S16384x12288, .f32⟩
  | .hbm, ⟨7, _⟩ => ⟨S16384x12288, .f32⟩
  | .hbm, ⟨8, _⟩ => ⟨S_, .f32⟩
  | .hbm, ⟨9, _⟩ => ⟨S16384x12288, .f32⟩
  | .hbm, ⟨10, _⟩ => ⟨S16384x12288, .f32⟩
  | .hbm, ⟨11, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4096x4096, .bf16⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x4096 : Shape := ⟨2, ![16384, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S16384x4096 : Shape := ⟨2, ![16384, 4096]⟩
abbrev S4096x8192 : Shape := ⟨2, ![4096, 8192]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S16384x8192 : Shape := ⟨2, ![16384, 8192]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 37
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .f32⟩
  | .hbm, ⟨2, _⟩ => ⟨S4096x8192, .bf16⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S4096x96, .f32⟩
  | .hbm, ⟨27, _⟩ => ⟨S_, .f32⟩
  | .hbm, ⟨28, _⟩ => ⟨S4096x16, .f32⟩
  | .hbm, ⟨29, _⟩ => ⟨S_, .f32⟩
  | .hbm, ⟨30, _⟩ => ⟨S4096x96, .f32⟩
  | .hbm, ⟨31, _⟩ => ⟨S4096x96, .f32⟩
  | .hbm, ⟨32, _⟩ => ⟨S4096x128, .f32⟩
  | .hbm, ⟨33, _⟩ => ⟨S4096x16, .f32⟩
  | .hbm, ⟨34, _⟩ => ⟨S4096x128, .f32⟩
  | .hbm, ⟨35, _⟩ => ⟨S4096x128, .f32⟩
  | .hbm, ⟨36, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c6_i32 : BitVec 32 := 6#32
  let v0 : BitVec 1 := Scalar.cmpi .sge arg1 c6_i32
  let c10_i32 : BitVec 32 := 10#32
  let v1 : BitVec 1 := Scalar.cmpi .slt arg1 c10_i32
  let v2 : BitVec 1 := Scalar.andi v0 v1
  let c10_i32_0 : BitVec 32 := 10#32
  let v3 : BitVec 1 := Scalar.cmpi .sge arg1 c10_i32_0
  let c10_i32_1 : BitVec 32 := 10#32
  let v4 : BitVec 32 := Scalar.subi arg1 c10_i32_1
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi v4 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_5 : BitVec 32 := 0#32
  let v15 : BitVec 1 := Scalar.cmpi .eq v14 c0_i32_5
  let v16 : BitVec 1 := Scalar.andi v3 v15
  let v21 : BitVec 1 := Scalar.ori v2 v16
  let v22 : BitVec 32 := Scalar.extui v21
  let c0_i32_9 : BitVec 32 := 0#32
  let v23 : BitVec 1 := Scalar.cmpi .ne v22 c0_i32_9
  v23

def k0_cond2 (i : grid0.Coords) : BitVec 1 :=
  let arg1 : BitVec 32 := BitVec.ofNat 32 (i 1).val
  let c6_i32 : BitVec 32 := 6#32
  let v0 : BitVec 1 := Scalar.cmpi .sge arg1 c6_i32
  let c10_i32 : BitVec 32 := 10#32
  let v1 : BitVec 1 := Scalar.cmpi .slt arg1 c10_i32
  let v2 : BitVec 1 := Scalar.andi v0 v1
  let c10_i32_0 : BitVec 32 := 10#32
  let v3 : BitVec 1 := Scalar.cmpi .sge arg1 c10_i32_0
  let c10_i32_1 : BitVec 32 := 10#32
  let v4 : BitVec 32 := Scalar.subi arg1 c10_i32_1
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi v4 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_5 : BitVec 32 := 0#32
  let v15 : BitVec 1 := Scalar.cmpi .eq v14 c0_i32_5
  let v16 : BitVec 1 := Scalar.andi v3 v15
  let v24 : BitVec 1 := Scalar.ori v2 v16
  let v_true : BitVec 1 := 1#1
  let v25 : BitVec 1 := Scalar.xori v24 v_true
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x4096 : Shape := ⟨2, ![16384, 4096]⟩
abbrev S4096x8192 : Shape := ⟨2, ![4096, 8192]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S16384x8192 : Shape := ⟨2, ![16384, 8192]⟩
abbrev S4x4096x8192 : Shape := ⟨3, ![4, 4096, 8192]⟩
abbrev S4x4096x2048 : Shape := ⟨3, ![4, 4096, 2048]⟩
abbrev S4x4096x16x128 : Shape := ⟨4, ![4, 4096, 16, 128]⟩
abbrev S1x4096x1x16 : Shape := ⟨4, ![1, 4096, 1, 16]⟩
abbrev S4x4096x16x16 : Shape := ⟨4, ![4, 4096, 16, 16]⟩
abbrev S4x4096x16x96 : Shape := ⟨4, ![4, 4096, 16, 96]⟩
abbrev S4x4096x3072 : Shape := ⟨3, ![4, 4096, 3072]⟩
abbrev S4x4096x6x4x128 : Shape := ⟨5, ![4, 4096, 6, 4, 128]⟩
abbrev S4x4096x1x4x128 : Shape := ⟨5, ![4, 4096, 1, 4, 128]⟩
abbrev S4x4096x4x128 : Shape := ⟨4, ![4, 4096, 4, 128]⟩
abbrev S4x4096x4x16 : Shape := ⟨4, ![4, 4096, 4, 16]⟩
abbrev S4x4096x4x96 : Shape := ⟨4, ![4, 4096, 4, 96]⟩

abbrev nBuf : Space → Nat
  | .hbm => 122
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S4096, .f32⟩
  | .hbm, ⟨17, _⟩ => ⟨S4096x1, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S16384x8192, .f32⟩
  | .hbm, ⟨25, _⟩ => ⟨S4x4096x8192, .f32⟩
  | .hbm, ⟨26, _⟩ => ⟨S4x4096x2048, .f32⟩
  | .hbm, ⟨27, _⟩ => ⟨S4x4096x16x128, .f32⟩
  | .hbm, ⟨28, _⟩ => ⟨S1x4096x1x16, .f32⟩
  | .hbm, ⟨29, _⟩ => ⟨S1x4096x1x16, .f32⟩
  | .hbm, ⟨30, _⟩ => ⟨S4x4096x16x16, .f32⟩
  | .hbm, ⟨31, _⟩ => ⟨S4x4096x16x16, .f32⟩
  | .hbm, ⟨32, _⟩ => ⟨S4x4096x16x16, .f32⟩
  | .hbm, ⟨33, _⟩ => ⟨S4x4096x16x16, .f32⟩
  | .hbm, ⟨34, _⟩ => ⟨S4x4096x16x16, .f32⟩
  | .hbm, ⟨35, _⟩ => ⟨S4x4096x16x16, .f32⟩
  | .hbm, ⟨36, _⟩ => ⟨S4x4096x16x16, .f32⟩
  | .hbm, ⟨37, _⟩ => ⟨S4x4096x16x16, .f32⟩
  | .hbm, ⟨38, _⟩ => ⟨S4x4096x16x16, .f32⟩
  | .hbm, ⟨39, _⟩ => ⟨S4x4096x16x16, .f32⟩
  | .hbm, ⟨40, _⟩ => ⟨S4x4096x16x16, .f32⟩
  | .hbm, ⟨41, _⟩ => ⟨S4x4096x16x16, .f32⟩
  | .hbm, ⟨42, _⟩ => ⟨S4x4096x16x96, .f32⟩
  | .hbm, ⟨43, _⟩ => ⟨S4x4096x16x128, .f32⟩
  | .hbm, ⟨44, _⟩ => ⟨S_, .f32⟩
  | .hbm, ⟨45, _⟩ => ⟨S4x4096x16x128, .f32⟩
  | .hbm, ⟨46, _⟩ => ⟨S4x4096x16x128, .f32⟩
  | .hbm, ⟨47, _⟩ => ⟨S4x4096x3072, .f32⟩
  | .hbm, ⟨48, _⟩ => ⟨S4x4096x6x4x128, .f32⟩
  | .hbm, ⟨49, _⟩ => ⟨S4x4096x1x4x128, .f32⟩
  | .hbm, ⟨50, _⟩ => ⟨S4x4096x4x128, .f32⟩
  | .hbm, ⟨51, _⟩ => ⟨S1x4096x1x16, .f32⟩
  | .hbm, ⟨52, _⟩ => ⟨S1x4096x1x16, .f32⟩
  | .hbm, ⟨53, _⟩ => ⟨S4x4096x4x16, .f32⟩
  | .hbm, ⟨54, _⟩ => ⟨S4x4096x4x16, .f32⟩
  | .hbm, ⟨55, _⟩ => ⟨S4x4096x4x16, .f32⟩
  | .hbm, ⟨56, _⟩ => ⟨S4x4096x4x16, .f32⟩
  | .hbm, ⟨57, _⟩ => ⟨S4x4096x4x16, .f32⟩
  | .hbm, ⟨58, _⟩ => ⟨S4x4096x4x16, .f32⟩
  | .hbm, ⟨59, _⟩ => ⟨S4x4096x4x16, .f32⟩
  | .hbm, ⟨60, _⟩ => ⟨S4x4096x4x16, .f32⟩
  | .hbm, ⟨61, _⟩ => ⟨S4x4096x4x16, .f32⟩
  | .hbm, ⟨62, _⟩ => ⟨S4x4096x4x16, .f32⟩
  | .hbm, ⟨63, _⟩ => ⟨S4x4096x4x16, .f32⟩
  | .hbm, ⟨64, _⟩ => ⟨S4x4096x4x16, .f32⟩
  | .hbm, ⟨65, _⟩ => ⟨S4x4096x4x96, .f32⟩
  | .hbm, ⟨66, _⟩ => ⟨S4x4096x4x128, .f32⟩
  | .hbm, ⟨67, _⟩ => ⟨S4x4096x1x4x128, .f32⟩
  | .hbm, ⟨68, _⟩ => ⟨S4x4096x4x128, .f32⟩
  | .hbm, ⟨69, _⟩ => ⟨S4x4096x1x4x128, .f32⟩
  | .hbm, ⟨70, _⟩ => ⟨S4x4096x4x128, .f32⟩
  | .hbm, ⟨71, _⟩ => ⟨S1x4096x1x16, .f32⟩
  | .hbm, ⟨72, _⟩ => ⟨S1x4096x1x16, .f32⟩
  | .hbm, ⟨73, _⟩ => ⟨S4x4096x4x16, .f32⟩
  | .hbm, ⟨74, _⟩ => ⟨S4x4096x4x16, .f32⟩
  | .hbm, ⟨75, _⟩ => ⟨S4x4096x4x16, .f32⟩
  | .hbm, ⟨76, _⟩ => ⟨S4x4096x4x16, .f32⟩
  | .hbm, ⟨77, _⟩ => ⟨S4x4096x4x16, .f32⟩
  | .hbm, ⟨78, _⟩ => ⟨S4x4096x4x16, .f32⟩
  | .hbm, ⟨79, _⟩ => ⟨S4x4096x4x16, .f32⟩
  | .hbm, ⟨80, _⟩ => ⟨S4x4096x4x16, .f32⟩
  | .hbm, ⟨81, _⟩ => ⟨S4x4096x4x16, .f32⟩
  | .hbm, ⟨82, _⟩ => ⟨S4x4096x4x16, .f32⟩
  | .hbm, ⟨83, _⟩ => ⟨S4x4096x4x16, .f32⟩
  | .hbm, ⟨84, _⟩ => ⟨S4x4096x4x16, .f32⟩
  | .hbm, ⟨85, _⟩ => ⟨S4x4096x4x96, .f32⟩
  | .hbm, ⟨86, _⟩ => ⟨S4x4096x4x128, .f32⟩
  | .hbm, ⟨87, _⟩ => ⟨S4x4096x1x4x128, .f32⟩
  | .hbm, ⟨88, _⟩ => ⟨S4x4096x4x128, .f32⟩
  | .hbm, ⟨89, _⟩ => ⟨S4x4096x1x4x128, .f32⟩
  | .hbm, ⟨90, _⟩ => ⟨S4x4096x4x128, .f32⟩
  | .hbm, ⟨91, _⟩ => ⟨S1x4096x1x16, .f32⟩
  | .hbm, ⟨92, _⟩ => ⟨S1x4096x1x16, .f32⟩
  | .hbm, ⟨93, _⟩ => ⟨S4x4096x4x16, .f32⟩
  | .hbm, ⟨94, _⟩ => ⟨S4x4096x4x16, .f32⟩
  | .hbm, ⟨95, _⟩ => ⟨S4x4096x4x16, .f32⟩
  | .hbm, ⟨96, _⟩ => ⟨S4x4096x4x16, .f32⟩
  | .hbm, ⟨97, _⟩ => ⟨S4x4096x4x16, .f32⟩
  | .hbm, ⟨98, _⟩ => ⟨S4x4096x4x16, .f32⟩
  | .hbm, ⟨99, _⟩ => ⟨S4x4096x4x16, .f32⟩
  | .hbm, ⟨100, _⟩ => ⟨S4x4096x4x16, .f32⟩
  | .hbm, ⟨101, _⟩ => ⟨S4x4096x4x16, .f32⟩
  | .hbm, ⟨102, _⟩ => ⟨S4x4096x4x16, .f32⟩
  | .hbm, ⟨103, _⟩ => ⟨S4x4096x4x16, .f32⟩
  | .hbm, ⟨104, _⟩ => ⟨S4x4096x4x16, .f32⟩
  | .hbm, ⟨105, _⟩ => ⟨S4x4096x4x96, .f32⟩
  | .hbm, ⟨106, _⟩ => ⟨S4x4096x4x128, .f32⟩
  | .hbm, ⟨107, _⟩ => ⟨S4x4096x1x4x128, .f32⟩
  | .hbm, ⟨108, _⟩ => ⟨S4x4096x4x128, .f32⟩
  | .hbm, ⟨109, _⟩ => ⟨S4x4096x1x4x128, .f32⟩
  | .hbm, ⟨110, _⟩ => ⟨S4x4096x1x4x128, .f32⟩
  | .hbm, ⟨111, _⟩ => ⟨S4x4096x1x4x128, .f32⟩
  | .hbm, ⟨112, _⟩ => ⟨S4x4096x1x4x128, .f32⟩
  | .hbm, ⟨113, _⟩ => ⟨S4x4096x1x4x128, .f32⟩
  | .hbm, ⟨114, _⟩ => ⟨S4x4096x1x4x128, .f32⟩
  | .hbm, ⟨115, _⟩ => ⟨S4x4096x6x4x128, .f32⟩
  | .hbm, ⟨116, _⟩ => ⟨S4x4096x3072, .f32⟩
  | .hbm, ⟨117, _⟩ => ⟨S4x4096x2048, .f32⟩
  | .hbm, ⟨118, _⟩ => ⟨S4x4096x3072, .f32⟩
  | .hbm, ⟨119, _⟩ => ⟨S4x4096x8192, .f32⟩
  | .hbm, ⟨120, _⟩ => ⟨S16384x8192, .f32⟩
  | .hbm, ⟨121, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_3 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩

abbrev nD : Nat := 1
abbrev τ : Topo := Topo.v7x

variable {F : FTy → Type} [FloatOps F]
-- ==== Kernel5.lean ====
abbrev S16384x1024 : Shape := ⟨2, ![16384, 1024]⟩
abbrev S16384x2048 : Shape := ⟨2, ![16384, 2048]⟩
abbrev S4096x4096 : Shape := ⟨2, ![4096, 4096]⟩
abbrev S16384x12288 : Shape := ⟨2, ![16384, 12288]⟩
abbrev S1024x4096 : Shape := ⟨2, ![1024, 4096]⟩
abbrev S2048x4096 : Shape := ⟨2, ![2048, 4096]⟩
abbrev S16384x4096 : Shape := ⟨2, ![16384, 4096]⟩
abbrev S1024x1024 : Shape := ⟨2, ![1024, 1024]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 10
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x1024, .bf16⟩
  | .hbm, ⟨3, _⟩ => ⟨S4096x4096, .f32⟩
  | .hbm, ⟨4, _⟩ => ⟨S16384x12288, .bf16⟩
  | .hbm, ⟨5, _⟩ => ⟨S4096x4096, .bf16⟩
  | .hbm, ⟨6, _⟩ => ⟨S1024x4096, .bf16⟩
  | .hbm, ⟨7, _⟩ => ⟨S2048x4096, .bf16⟩
  | .hbm, ⟨8, _⟩ => ⟨S1024x4096, .bf16⟩
  | .hbm, ⟨9, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16384x1024 : Shape := ⟨2, ![16384, 1024]⟩
abbrev S16384x2048 : Shape := ⟨2, ![16384, 2048]⟩
abbrev S4096x4096 : Shape := ⟨2, ![4096, 4096]⟩
abbrev S16384x12288 : Shape := ⟨2, ![16384, 12288]⟩
abbrev S16384x3x4096 : Shape := ⟨3, ![16384, 3, 4096]⟩
abbrev S1024x4096 : Shape := ⟨2, ![1024, 4096]⟩
abbrev S2048x4096 : Shape := ⟨2, ![2048, 4096]⟩
abbrev S16384x4096 : Shape := ⟨2, ![16384, 4096]⟩
abbrev S16384x1x4096 : Shape := ⟨3, ![16384, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x1024, .bf16⟩
  | .hbm, ⟨3, _⟩ => ⟨S4096x4096, .f32⟩
  | .hbm, ⟨4, _⟩ => ⟨S16384x12288, .bf16⟩
  | .hbm, ⟨5, _⟩ => ⟨S16384x3x4096, .bf16⟩
  | .hbm, ⟨6, _⟩ => ⟨S1024x4096, .f32⟩
  | .hbm, ⟨7, _⟩ => ⟨S2048x4096, .f32⟩
  | .hbm, ⟨8, _⟩ => ⟨S1024x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x1x4096, .bf16⟩
  | .hbm, ⟨13, _⟩ => ⟨S16384x4096, .bf16⟩
  | .hbm, ⟨14, _⟩ => ⟨S16384x4096, .f32⟩
  | .hbm, ⟨15, _⟩ => ⟨S16384x4096, .f32⟩
  | .hbm, ⟨16, _⟩ => ⟨S16384x1x4096, .bf16⟩
  | .hbm, ⟨17, _⟩ => ⟨S16384x4096, .bf16⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x1x4096, .bf16⟩
  | .hbm, ⟨22, _⟩ => ⟨S16384x4096, .bf16⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S4x4096 : Shape := ⟨2, ![4, 4096]⟩
abbrev S4x1x4096 : Shape := ⟨3, ![4, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4x4096, .f32⟩
  | .hbm, ⟨4, _⟩ => ⟨S4096x4096, .bf16⟩
  | .hbm, ⟨5, _⟩ => ⟨S4x1x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x4096 : Shape := ⟨2, ![16384, 4096]⟩
abbrev S4096x4096 : Shape := ⟨2, ![4096, 4096]⟩
abbrev S4x4096 : Shape := ⟨2, ![4, 4096]⟩
abbrev S4x4096x4096 : Shape := ⟨3, ![4, 4096, 4096]⟩
abbrev S4x1x4096 : Shape := ⟨3, ![4, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4x4096, .f32⟩
  | .hbm, ⟨4, _⟩ => ⟨S16384x4096, .f32⟩
  | .hbm, ⟨5, _⟩ => ⟨S4x4096x4096, .f32⟩
  | .hbm, ⟨6, _⟩ => ⟨S4x4096x4096, .f32⟩
  | .hbm, ⟨7, _⟩ => ⟨S4x1x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S4x4096 : Shape := ⟨2, ![4, 4096]⟩
abbrev S1x4096 : Shape := ⟨2, ![1, 4096]⟩
abbrev S4x1x4096 : Shape := ⟨3, ![4, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4x1x4096, .f32⟩
  | .hbm, ⟨6, _⟩ => ⟨S4x1x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x4096 : Shape := ⟨2, ![16384, 4096]⟩
abbrev S4096 : Shape := ⟨1, ![4096]⟩
abbrev S4x4096 : Shape := ⟨2, ![4, 4096]⟩
abbrev S4x4096x4096 : Shape := ⟨3, ![4, 4096, 4096]⟩
abbrev S_ : Shape := ⟨0, ![]⟩
abbrev S4x4096x1 : Shape := ⟨3, ![4, 4096, 1]⟩
abbrev S1x1x4096 : Shape := ⟨3, ![1, 1, 4096]⟩
abbrev S4x1x4096 : Shape := ⟨3, ![4, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S4x1x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x4096x4096, .f32⟩
  | .hbm, ⟨26, _⟩ => ⟨S4x4096x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S16384x4096, .f32⟩
  | .hbm, ⟨31, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel8.lean ====
abbrev S16384x8192 : Shape := ⟨2, ![16384, 8192]⟩
abbrev S3x1024 : Shape := ⟨2, ![3, 1024]⟩
abbrev S_ : Shape := ⟨0, ![]⟩
abbrev S8x1024 : Shape := ⟨2, ![8, 1024]⟩
abbrev S1 : Shape := ⟨1, ![1]⟩
abbrev S16384x1024 : Shape := ⟨2, ![16384, 1024]⟩
abbrev S512x3072 : Shape := ⟨2, ![512, 3072]⟩
abbrev S8x3072 : Shape := ⟨2, ![8, 3072]⟩
abbrev S512x1024 : Shape := ⟨2, ![512, 1024]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x8192, .bf16⟩
  | .hbm, ⟨1, _⟩ => ⟨S3x1024, .f32⟩
  | .hbm, ⟨2, _⟩ => ⟨S_, .f32⟩
  | .hbm, ⟨3, _⟩ => ⟨S8x1024, .f32⟩
  | .hbm, ⟨4, _⟩ => ⟨S_, .i32⟩
  | .hbm, ⟨5, _⟩ => ⟨S1, .i32⟩
  | .hbm, ⟨6, _⟩ => ⟨S8x1024, .f32⟩
  | .hbm, ⟨7, _⟩ => ⟨S16384x1024, .bf16⟩
  | .local _ .vmem, ⟨0, _⟩ => ⟨S512x3072, .bf16⟩
  | .local _ .vmem, ⟨1, _⟩ => ⟨S512x3072, .bf16⟩
  | .local _ .vmem, ⟨2, _⟩ => ⟨S8x3072, .bf16⟩
  | .local _ .vmem, ⟨3, _⟩ => ⟨S8x3072, .bf16⟩
  | .local _ .vmem, ⟨4, _⟩ => ⟨S8x1024, .f32⟩
  | .local _ .vmem, ⟨5, _⟩ => ⟨S512x1024, .bf16⟩
  | .local _ .vmem, ⟨6, _⟩ => ⟨S512x1024, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16384x8192 : Shape := ⟨2, ![16384, 8192]⟩
abbrev S3x1024 : Shape := ⟨2, ![3, 1024]⟩
abbrev S16384x3072 : Shape := ⟨2, ![16384, 3072]⟩
abbrev S4x4096x3072 : Shape := ⟨3, ![4, 4096, 3072]⟩
abbrev S4x4096x1024 : Shape := ⟨3, ![4, 4096, 1024]⟩
abbrev S_ : Shape := ⟨0, ![]⟩
abbrev S4x4098x1024 : Shape := ⟨3, ![4, 4098, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S3x1024, .f32⟩
  | .hbm, ⟨2, _⟩ => ⟨S16384x3072, .bf16⟩
  | .hbm, ⟨3, _⟩ => ⟨S16384x3072, .f32⟩
  | .hbm, ⟨4, _⟩ => ⟨S4x4096x3072, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S_, .i32⟩
  | .hbm, ⟨10, _⟩ => ⟨S_, .f32⟩
  | .hbm, ⟨11, _⟩ => ⟨S4x4098x1024, .f32⟩
  | .hbm, ⟨12, _⟩ => ⟨S1x1024, .f32⟩
  | .hbm, ⟨13, _⟩ => ⟨S1024, .f32⟩
  | .hbm, ⟨14, _⟩ => ⟨S4x4096x1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | .hbm, ⟨18, _⟩ => ⟨S_, .f32⟩
  | .hbm, ⟨19, _⟩ => ⟨S4x4096x1024, .f32⟩
  | .hbm, ⟨20, _⟩ => ⟨S4x4096x1024, .f32⟩
  | .hbm, ⟨21, _⟩ => ⟨S1x1024, .f32⟩
  | .hbm, ⟨22, _⟩ => ⟨S1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S1x1024, .f32⟩
  | .hbm, ⟨29, _⟩ => ⟨S1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S16384x1024, .f32⟩
  | .hbm, ⟨37, _⟩ => ⟨S16384x1024, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Proof.Products.lean ====
/-
  Matrix products over the extended reals, read one entry at a time, for any extents.
-/
module

public import Idealize.ShloMosaic.Lib.MatmulPlain
public import Idealize.ShloMosaic.Lib.StackMember
public import Idealize.ShloMosaic.Lib.Pipeline.ValueKit

@[expose] public section

namespace Cert.Proof.Products

open Idealize.ShloMosaic
open scoped BigOperators

variable {M K N : ℕ} {φ₁ φ₂ : FTy}

/-- The sum that one entry of a matrix product is. -/
noncomputable def dot (a : (⟨2, ![M, K]⟩ : Shape).Idx → EReal) (b : (⟨2, ![K, N]⟩ : Shape).Idx → EReal) (i : Fin M) (j : Fin N) : EReal :=
  ∑ k : Fin K, a (ix2 i k) * b (ix2 k j)

/-- Two entries of products agree when the row and the column they are made of do. -/
theorem dot_congr {M' N' : ℕ} {a : (⟨2, ![M, K]⟩ : Shape).Idx → EReal} {b : (⟨2, ![K, N]⟩ : Shape).Idx → EReal}
    {a' : (⟨2, ![M', K]⟩ : Shape).Idx → EReal} {b' : (⟨2, ![K, N']⟩ : Shape).Idx → EReal}
    {i : Fin M} {j : Fin N} {i' : Fin M'} {j' : Fin N'}
    (ha : ∀ k, a (ix2 i k) = a' (ix2 i' k)) (hb : ∀ k, b (ix2 k j) = b' (ix2 k j')) :
    dot a b i j = dot a' b' i' j' :=
  Finset.sum_congr rfl fun k _ => by rw [ha k, hb k]

/-- A product of an M×K and a K×N matrix onto zero. -/
theorem nn_zero (p : Option ContractPrecision) (a : FVec Ideal ⟨2, ![M, K]⟩ φ₁) (b : FVec Ideal ⟨2, ![K, N]⟩ φ₂)
    (j : (⟨2, ![M, N]⟩ : Shape).Idx) :
    FloatOps.matmul (DotDims.plain M K N) p a b (constant ⟨2, ![M, N]⟩ .f32 0x00000000#32) j
      = dot a b (j 0) (j 1) := by
  obtain ⟨r, c, rfl⟩ : ∃ (r : Fin M) (c : Fin N), j = ix2 r c := ⟨j 0, j 1, eq_ix2 j⟩
  refine (Ideal.matmul_plain_apply p a b (constant ⟨2, ![M, N]⟩ .f32 0x00000000#32) r c).trans ?_
  show Ideal.ofBits .f32 0x00000000#32 + _ = _
  rw [Ideal.ofBits_zero_f32, zero_add]
  rfl

/-- A product of an M×K matrix and the transpose of an N×K matrix onto zero. -/
theorem nt_zero (p : Option ContractPrecision) (a : FVec Ideal ⟨2, ![M, K]⟩ φ₁) (b : FVec Ideal ⟨2, ![N, K]⟩ φ₂)
    (j : (⟨2, ![M, N]⟩ : Shape).Idx) :
    FloatOps.matmul (DotDims.transposedRhs M K N) p a b (constant ⟨2, ![M, N]⟩ .f32 0x00000000#32) j
      = ∑ k : Fin K, a (ix2 (j 0) k) * b (ix2 (j 1) k) := by
  obtain ⟨r, c, rfl⟩ : ∃ (r : Fin M) (c : Fin N), j = ix2 r c := ⟨j 0, j 1, eq_ix2 j⟩
  refine (Ideal.matmul_transposedRhs_apply p a b (constant ⟨2, ![M, N]⟩ .f32 0x00000000#32) r c).trans ?_
  show Ideal.ofBits .f32 0x00000000#32 + _ = _
  rw [Ideal.ofBits_zero_f32, zero_add]
  rfl

/-- A product of the transpose of a K×M matrix and a K×N matrix onto zero. -/
theorem tn_zero (w : DotDims.WF ⟨2, ![K, M]⟩ ⟨2, ![K, N]⟩ ⟨2, ![M, N]⟩ [0] [0] [1] [1] [] [])
    (p : Option ContractPrecision) (a : FVec Ideal ⟨2, ![K, M]⟩ φ₁) (b : FVec Ideal ⟨2, ![K, N]⟩ φ₂)
    (j : (⟨2, ![M, N]⟩ : Shape).Idx) :
    FloatOps.matmul (⟨[0], [0], [1], [1], [], [], w⟩ : DotDims _ _ _) p a b
        (constant ⟨2, ![M, N]⟩ .f32 0x00000000#32) j
      = ∑ k : Fin K, a (ix2 k (j 0)) * b (ix2 k (j 1)) := by
  rw [Ideal.matmul_constant_zero_apply, ← Equiv.sum_comp (ValueIdx.contrEquiv1
    (⟨[0], [0], [1], [1], [], [], w⟩ : DotDims _ _ _) K rfl rfl).symm]
  refine Finset.sum_congr rfl fun c _ => ?_
  have hc := ValueIdx.contrEquiv1_symm_val (⟨[0], [0], [1], [1], [], [], w⟩ : DotDims _ _ _) K rfl rfl c
  congr 2
  · funext ax; apply Fin.ext
    match ax with
    | ⟨0, _⟩ => simp [DotDims.lhsIdx]; exact hc
    | ⟨1, _⟩ => simp [DotDims.lhsIdx]; rfl
  · funext ax; apply Fin.ext
    match ax with
    | ⟨0, _⟩ => simp [DotDims.rhsIdx]; exact hc
    | ⟨1, _⟩ => simp [DotDims.rhsIdx]; rfl

/-- The host's product of an M×K and a K×N matrix. -/
theorem host_nn (p : Option ContractPrecision) (a : FVec Ideal ⟨2, ![M, K]⟩ φ₁) (b : FVec Ideal ⟨2, ![K, N]⟩ φ₂)
    (j : (⟨2, ![M, N]⟩ : Shape).Idx) :
    Host.dotGeneral (DotDims.plain M K N) p a b j = dot a b (j 0) (j 1) := by
  refine Eq.trans ?_ (nn_zero p a b j)
  show FloatOps.dotGeneral _ p _ a b j = _
  rw [Ideal.dotGeneral_apply, Ideal.matmul_constant_zero_apply]

end Cert.Proof.Products
-- ==== Proof.Gate2.lean ====
/-
  The merge gate: the logistic function of a matrix product. The blocks the tiled kernel writes, put together, are the
  logistic function of the whole product.
-/
module

public import proofs.«01_k».proof.Defs
public import proofs.«01_k».proof.Proof.Gen.Kernel2Ideal.Value
public import proofs.«01_k».proof.Proof.Gen.Reference2Ideal.Run
public import proofs.«01_k».proof.Proof.Products
public import Idealize.ShloMosaic.Lib.IdealHost

@[expose] public section

noncomputable section

namespace Cert.Proof.Gate2

open Idealize.ShloMosaic Idealize.SL.Sem Cert.Kernel2Ideal
open Cert.Kernel2Ideal.Gen Idealize.ShloMosaic.TcCoe
open Idealize.ShloMosaic.Pipeline (Dat Cfg Window)

variable (m : (ℓ : Loc nD τ sig) → Buf (Elt Ideal) ℓ) (ρ : Dev nD → PrngReg)

/-- The logistic function of the whole product. -/
def prod (a : Vec Ideal S16384x4096 .bf16) (w : Vec Ideal S4096x12288 .f32) : Vec Ideal S16384x12288 .bf16 :=
  fun i => Ideal.logistic (Products.dot a w (i 0) (i 1))

/-- Where each window's block sits at a grid point. -/
theorem idx (t : Fin cfg0.N) : win0_0.index t = ![(grid0.coords t 0).val, 0]
    ∧ win0_1.index t = ![0, (grid0.coords t 1).val]
    ∧ win0_2.index t = ![(grid0.coords t 0).val, (grid0.coords t 1).val] := by
  revert t; decide +kernel

/-- One entry of a block. -/
theorem pay_apply (x : Vec Ideal S1024x4096 .bf16) (y : Vec Ideal S4096x512 .bf16) (j : S1024x512.Idx) :
    k0_pay1 x y j = Ideal.logistic (Products.dot x y (j 0) (j 1)) := by
  unfold k0_pay1
  rw [shapeCast_self]
  exact congrArg Ideal.logistic (Products.nn_zero (M := 1024) (K := 4096) (N := 512) none x y j)

/-- The result array after the run is the logistic function of the whole product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply]
  refine congrArg Ideal.logistic (Products.dot_congr (fun k => ?_) fun k => ?_)
  · blk_ext [iblk, idx t]
  · unfold iblk
    entry_read
    blk_ext [idx t]

/-- Kernel and reference end with the same array. -/
theorem tie : Cert.algebraic_Kernel2Ideal_Reference2Ideal := by
  intro m g m' g' _ hag
  refine ⟨fun c => prod (m ((c : Thread nD τ).loc main_arg0)) (m ((c : Thread nD τ).loc main_arg1)),
    (θ_run _ _ _).mono (fun r h c => ⟨(h c).1.trans (final m c), (h c).2⟩) (Value.run_blocks m g),
    (θ_run _ _ _).mono (fun r h c => ⟨(h c).1.trans ?_, (h c).2⟩) (Reference2Ideal.Value.run m' g')⟩
  rw [(hag c).1, (hag c).2]
  beta_reduce
  generalize m ((c.tc : Thread nD τ).loc main_arg0) = a
  generalize m ((c.tc : Thread nD τ).loc main_arg1) = w
  funext i
  have h := Products.host_nn (M := 16384) (K := 4096) (N := 12288) (φ₁ := .bf16) (φ₂ := .f32) none a w i
  show Ideal.div (Ideal.ofBits .f32 0x3F800000#32) (Ideal.ofBits .f32 0x3F800000#32 + Ideal.exp (-_)) = _
  rw [Ideal.ofBits_one_f32]
  exact congrArg Ideal.logistic h

end Cert.Proof.Gate2

end
-- ==== Proof.Gate3.lean ====
/-
  The product of the recurrence's gate projection: the blocks the tiled kernel writes, put together, are the whole
  matrix product.
-/
module

public import proofs.«01_k».proof.Defs
public import proofs.«01_k».proof.Proof.Gen.Kernel3Ideal.Value
public import proofs.«01_k».proof.Proof.Gen.Reference3Ideal.Run
public import proofs.«01_k».proof.Proof.Products
public import Idealize.ShloMosaic.Lib.IdealHost

@[expose] public section

noncomputable section

namespace Cert.Proof.Gate3

open Idealize.ShloMosaic Idealize.SL.Sem Cert.Kernel3Ideal
open Cert.Kernel3Ideal.Gen Idealize.ShloMosaic.TcCoe
open Idealize.ShloMosaic.Pipeline (Dat Cfg Window)

variable (m : (ℓ : Loc nD τ sig) → Buf (Elt Ideal) ℓ) (ρ : Dev nD → PrngReg)

/-- The whole product. -/
def prod (a : Vec Ideal S16384x4096 .bf16) (w : Vec Ideal S4096x4096 .f32) : Vec Ideal S16384x4096 .f32 :=
  fun i => Products.dot a w (i 0) (i 1)

/-- Where each window's block sits at a grid point. -/
theorem idx (t : Fin cfg0.N) : win0_0.index t = ![(grid0.coords t 0).val, 0]
    ∧ win0_1.index t = ![0, (grid0.coords t 1).val]
    ∧ win0_2.index t = ![(grid0.coords t 0).val, (grid0.coords t 1).val] := by
  revert t; decide +kernel

/-- One entry of the block product. -/
theorem pay_apply (x : Vec Ideal S1024x4096 .bf16) (y : Vec Ideal S4096x512 .bf16) (j : S1024x512.Idx) :
    k0_pay1 x y j = Products.dot x y (j 0) (j 1) := by
  unfold k0_pay1
  rw [shapeCast_self]
  exact Products.nn_zero (M := 1024) (K := 4096) (N := 512) none x y j

/-- The result array after the run is the whole product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply]
  refine Products.dot_congr (fun k => ?_) fun k => ?_
  · blk_ext [iblk, idx t]
  · unfold iblk
    entry_read
    blk_ext [idx t]

/-- Kernel and reference end with the same product. -/
theorem tie : Cert.algebraic_Kernel3Ideal_Reference3Ideal := by
  intro m g m' g' _ hag
  refine ⟨fun c => prod (m ((c : Thread nD τ).loc main_arg0)) (m ((c : Thread nD τ).loc main_arg1)),
    (θ_run _ _ _).mono (fun r h c => ⟨(h c).1.trans (final m c), (h c).2⟩) (Value.run_blocks m g),
    (θ_run _ _ _).mono (fun r h c => ⟨(h c).1.trans ?_, (h c).2⟩) (Reference3Ideal.Value.run m' g')⟩
  rw [(hag c).1, (hag c).2]
  beta_reduce
  generalize m ((c.tc : Thread nD τ).loc main_arg0) = a
  generalize m ((c.tc : Thread nD τ).loc main_arg1) = w
  funext i
  exact Products.host_nn (M := 16384) (K := 4096) (N := 4096) none a w i

end Cert.Proof.Gate3

end
-- ==== Proof.Qkv4.lean ====
/-
  The projection to the convolution's inputs, the queries and the keys and values: a matrix product whose query heads
  and key heads are turned, lane by lane, by an angle that grows with the position; the queries are scaled as well. The
  tiled kernel turns a head by two rotations of its lanes and three tables, the reference by the two halves of its
  first lanes. Both end with the same array.
-/
module

public import proofs.«01_k».proof.Defs
public import proofs.«01_k».proof.Proof.Gen.Kernel4Ideal.Value
public import proofs.«01_k».proof.Proof.Gen.Reference4Ideal.Run
public import proofs.«01_k».proof.Proof.Products
public import Idealize.ShloMosaic.Lib.IdealHost
public import Idealize.ShloMosaic.Lib.KernelVsHost
public import Idealize.ShloMosaic.Lib.Pipeline.ReadBack
public import Idealize.ShloMosaic.Lib.StableHlo.RunRead

@[expose] public section

set_option maxRecDepth 16384

noncomputable section

namespace Cert.Proof.Qkv4

open Idealize.ShloMosaic Idealize.SL.Sem Cert.Kernel4Ideal
open Cert.Kernel4Ideal.Gen Idealize.ShloMosaic.TcCoe
open Idealize.ShloMosaic.Pipeline (Dat Cfg Window)

variable (m : (ℓ : Loc nD τ sig) → Buf (Elt Ideal) ℓ) (ρ : Dev nD → PrngReg)

/-! ## The mathematics of one entry -/

/-- A head of 128 lanes turned by the angles with cosines `c` and sines `s`: the first sixteen lanes with the next
    sixteen, the others as they are. -/
def turned (x : Fin 128 → EReal) (c s : Fin 16 → EReal) (l : Fin 128) : EReal :=
  if h : l.val < 16 then x l * c ⟨l.val, h⟩ - x ⟨l.val + 16, by omega⟩ * s ⟨l.val, h⟩
  else if h' : l.val < 32 then x l * c ⟨l.val - 16, by omega⟩ + x ⟨l.val - 16, by omega⟩ * s ⟨l.val - 16, by omega⟩
  else x l

/-- The table that multiplies the head itself. -/
def tabC (c : Fin 16 → EReal) (l : Fin 128) : EReal :=
  if h : l.val < 16 then c ⟨l.val, h⟩ else if h' : l.val < 32 then c ⟨l.val - 16, by omega⟩ else 0 + 1

/-- The table that multiplies the head moved down by sixteen lanes. -/
def tabA (s : Fin 16 → EReal) (l : Fin 128) : EReal :=
  if h : l.val < 16 then -s ⟨l.val, h⟩ else 0

/-- The table that multiplies the head moved up by sixteen lanes. -/
def tabB (s : Fin 16 → EReal) (l : Fin 128) : EReal :=
  if h : l.val < 16 then 0 else if h' : l.val < 32 then s ⟨l.val - 16, by omega⟩ else 0

/-- A real factor that is not negative goes over a sum. -/
theorem real_mul_add (p : ℝ) (hp : 0 ≤ p) (a b : EReal) : (p : EReal) * (a + b) = p * a + p * b :=
  EReal.left_distrib_of_nonneg_of_ne_top (EReal.coe_nonneg.mpr hp) (EReal.coe_ne_top p) a b

/-- Two rotations and three tables turn a scaled head as the two halves do. -/
theorem rolled_eq_turned (x : Fin 128 → EReal) (f : EReal) (hf : ∃ p : ℝ, 0 ≤ p ∧ f = p) (c s : Fin 16 → EReal) (l : Fin 128) :
    x l * f * tabC c l + x ⟨(l.val + 16) % 128, by omega⟩ * f * tabA s l + x ⟨(l.val + 112) % 128, by omega⟩ * f * tabB s l
      = turned x c s l * f := by
  obtain ⟨p, hp, rfl⟩ := hf
  unfold tabC tabA tabB turned
  by_cases h : l.val < 16
  · rw [dif_pos h, dif_pos h, dif_pos h, dif_pos h, mul_zero, add_zero]
    have e : (⟨(l.val + 16) % 128, by omega⟩ : Fin 128) = ⟨l.val + 16, by omega⟩ := Fin.ext (by simp only; omega)
    rw [e, mul_comm (_ - _) (p : EReal), sub_eq_add_neg, real_mul_add p hp, mul_neg, mul_neg]
    ac_rfl
  · by_cases h' : l.val < 32
    · rw [dif_neg h, dif_neg h, dif_neg h, dif_neg h, dif_pos h', dif_pos h', dif_pos h', mul_zero, add_zero]
      have e : (⟨(l.val + 112) % 128, by omega⟩ : Fin 128) = ⟨l.val - 16, by omega⟩ := Fin.ext (by simp only; omega)
      rw [e, mul_comm (_ + _) (p : EReal), real_mul_add p hp]
      ac_rfl
    · rw [dif_neg h, dif_neg h, dif_neg h, dif_neg h, dif_neg h', dif_neg h', dif_neg h', mul_zero, add_zero, mul_zero, add_zero,
        zero_add, mul_one]

/-- The queries' scale, as the number that its word is. -/
def scale : EReal := Ideal.ofBits .f32 0x3DB504F3#32

/-- The scale is a real number that is not negative. -/
theorem scale_real : ∃ p : ℝ, 0 ≤ p ∧ scale = p := by
  refine ⟨(11863283 : ℝ) / 134217728, by norm_num, ?_⟩
  unfold scale
  simp [Ideal.ofBits, Ideal.ieee]
  rw [← EReal.coe_mul]
  norm_num

/-- The angles of the rotation: the position times the powers of the base. -/
def ang : Vec Ideal S4096x16 .f32 :=
  mulf (F := Ideal) (φ := .f32) (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

/-- The cosines at a row's position. -/
def cosAt (r : Fin 16384) (l : Fin 16) : EReal := Host.cos (F := Ideal) (φ := .f32) ang (ix2 (⟨r.val % 4096, by omega⟩ : Fin 4096) l)

/-- The sines at a row's position. -/
def sinAt (r : Fin 16384) (l : Fin 16) : EReal := Host.sin (F := Ideal) (φ := .f32) ang (ix2 (⟨r.val % 4096, by omega⟩ : Fin 4096) l)

/-- The entry of row `r` in head `q`, lane `l`, of the array whose columns are 64 heads: heads 24 to 39 are queries,
    and from 40 on four key heads and four value heads alternate. -/
def entry (z : Fin 16384 → Fin 8192 → EReal) (r : Fin 16384) (q : Fin 64) (l : Fin 128) : EReal :=
  if 24 ≤ q.val ∧ q.val < 40 then turned (fun k => z r ⟨128 * q.val + k.val, by omega⟩) (cosAt r) (sinAt r) l * scale
  else if 40 ≤ q.val ∧ q.val / 4 % 2 = 0 then turned (fun k => z r ⟨128 * q.val + k.val, by omega⟩) (cosAt r) (sinAt r) l
  else z r ⟨128 * q.val + l.val, by omega⟩

/-- The whole result. -/
def whole (a : Vec Ideal S16384x4096 .bf16) (w : Vec Ideal S4096x8192 .f32) : Vec Ideal S16384x8192 .bf16 :=
  fun i => entry (fun r c => Products.dot a w r c) (i 0)
    (⟨(i 1).val / 128, by have h : (i 1).val < 8192 := (i 1).isLt; omega⟩ : Fin 64) (⟨(i 1).val % 128, by omega⟩ : Fin 128)

/-! ## The kernel's side -/

/-- Where each window's block sits at a grid point. -/
theorem idx (t : Fin cfg0.N) : win0_0.index t = ![(grid0.coords t 0).val, 0]
    ∧ win0_1.index t = ![0, (grid0.coords t 1).val]
    ∧ win0_2.index t = ![(grid0.coords t 0).val % 4, 0]
    ∧ win0_3.index t = ![(grid0.coords t 0).val % 4, 0]
    ∧ win0_4.index t = ![(grid0.coords t 0).val % 4, 0]
    ∧ win0_5.index t = ![(grid0.coords t 0).val, (grid0.coords t 1).val] := by
  revert t; decide +kernel

/-- A grid point's coordinates. -/
theorem coords (t : Fin cfg0.N) : (grid0.coords t 0).val = t.val / 16 ∧ (grid0.coords t 1).val = t.val % 16 := by
  revert t; decide +kernel

/-- Three bands of columns side by side, read at an index. -/
theorem cat3 (A B : Vec Ideal S4096x16 .f32) (C : Vec Ideal S4096x96 .f32) (r : Fin 4096) (l : Fin 128) :
    concatenate S4096x128 1 [⟨S4096x16, A⟩, ⟨S4096x16, B⟩, ⟨S4096x96, C⟩]
      concatenates_S4096x16_S4096x16_S4096x96_S4096x128_d1 (ix2 r l)
    = if h : l.val < 16 then A (ix2 r ⟨l.val, h⟩) else if h' : l.val < 32 then B (ix2 r ⟨l.val - 16, by omega⟩)
      else C (ix2 r ⟨l.val - 32, by omega⟩) := by
  pointwise
  by_cases h : l.val < 16
  · rw [dif_pos h, dif_pos h]
  · by_cases h' : l.val < 32
    · rw [dif_neg h, dif_neg h, dif_pos h', dif_pos (by omega)]
    · rw [dif_neg h, dif_neg h, dif_neg h', dif_neg (by omega)]
      exact congrArg C (by funext ax; match ax with | ⟨0, _⟩ => rfl | ⟨1, _⟩ => exact Fin.ext (by show l.val - 16 - 16 = l.val - 32; omega))

/-- The first table, as the host computes it. -/
theorem V23 (c : Dev nD) : V m c main_v23 = concatenate S4096x128 1 [⟨S4096x16, Host.cos ang⟩, ⟨S4096x16, Host.cos ang⟩,
      ⟨S4096x96, addf (F := Ideal) (φ := .f32) (broadcastInDim S4096x96 ![] bcast_S_S4096x96 (constant S_ .f32 0x00000000#32))
        (broadcastInDim S4096x96 ![] bcast_S_S4096x96 (constant S_ .f32 0x3F800000#32))⟩]
      concatenates_S4096x16_S4096x16_S4096x96_S4096x128_d1 := by
  unfold V
  after_reads_simp
  rfl

/-- The second table, as the host computes it. -/
theorem V25 (c : Dev nD) : V m c main_v25 = concatenate S4096x128 1 [⟨S4096x16, Host.negf (Host.sin ang)⟩,
      ⟨S4096x16, broadcastInDim S4096x16 ![] bcast_S_S4096x16 (constant (F := Ideal) S_ .f32 0x00000000#32)⟩,
      ⟨S4096x96, broadcastInDim S4096x96 ![] bcast_S_S4096x96 (constant (F := Ideal) S_ .f32 0x00000000#32)⟩]
      concatenates_S4096x16_S4096x16_S4096x96_S4096x128_d1 := by
  unfold V
  after_reads_simp
  rfl

/-- The third table, as the host computes it. -/
theorem V26 (c : Dev nD) : V m c main_v26 = concatenate S4096x128 1 [
      ⟨S4096x16, broadcastInDim S4096x16 ![] bcast_S_S4096x16 (constant (F := Ideal) S_ .f32 0x00000000#32)⟩,
      ⟨S4096x16, Host.sin ang⟩,
      ⟨S4096x96, broadcastInDim S4096x96 ![] bcast_S_S4096x96 (constant (F := Ideal) S_ .f32 0x00000000#32)⟩]
      concatenates_S4096x16_S4096x16_S4096x96_S4096x128_d1 := by
  unfold V
  after_reads_simp
  rfl

/-- A row of a block, as a row of the array. -/
def rowOf (t : Fin cfg0.N) (r : Fin 1024) : Fin 16384 :=
  ⟨(grid0.coords t 0).val * 1024 + r.val, by have := (coords t).1; have := t.isLt; have h : cfg0.N = 256 := by decide +kernel
                                             omega⟩

/-- A row of a block, as a position in its sequence. -/
def posOf (t : Fin cfg0.N) (r : Fin 1024) : Fin 4096 :=
  ⟨(grid0.coords t 0).val % 4 * 1024 + r.val, by omega⟩

theorem posOf_eq (t : Fin cfg0.N) (r : Fin 1024) : (⟨(rowOf t r).val % 4096, by omega⟩ : Fin 4096) = posOf t r :=
  Fin.ext (by unfold rowOf posOf; simp only; omega)

theorem zero_word : Ideal.ofBits .f32 0x00000000#32 = 0 := Ideal.ofBits_zero_f32

/-- The block of the first table. -/
theorem blk2 (c : Dev nD) (t : Fin cfg0.N) (r : Fin 1024) (l : Fin 128) :
    k0_pay6 (iblk m c 2 t) (ix2 r l) = tabC (cosAt (rowOf t r)) l := by
  have h : iblk m c 2 t (ix2 r l) = V m c main_v23 (ix2 (posOf t r) l) := by blk_ext [iblk, idx t, posOf]
  unfold k0_pay6 tabC cosAt
  rw [shapeCast_self, h, V23, cat3, posOf_eq]
  refine dite_congr rfl (fun _ => rfl) fun _ => dite_congr rfl (fun _ => rfl) fun _ => ?_
  show Ideal.ofBits .f32 0x00000000#32 + Ideal.ofBits .f32 0x3F800000#32 = _
  rw [Ideal.ofBits_zero_f32, Ideal.ofBits_one_f32]

/-- The block of the second table. -/
theorem blk3 (c : Dev nD) (t : Fin cfg0.N) (r : Fin 1024) (l : Fin 128) :
    k0_pay7 (iblk m c 3 t) (ix2 r l) = tabA (sinAt (rowOf t r)) l := by
  have h : iblk m c 3 t (ix2 r l) = V m c main_v25 (ix2 (posOf t r) l) := by blk_ext [iblk, idx t, posOf]
  unfold k0_pay7 tabA sinAt
  rw [shapeCast_self, h, V25, cat3, posOf_eq]
  refine dite_congr rfl (fun _ => rfl) fun _ => ?_
  by_cases h' : l.val < 32
  · rw [dif_pos h']; exact Ideal.ofBits_zero_f32
  · rw [dif_neg h']; exact Ideal.ofBits_zero_f32

/-- The block of the third table. -/
theorem blk4 (c : Dev nD) (t : Fin cfg0.N) (r : Fin 1024) (l : Fin 128) :
    k0_pay8 (iblk m c 4 t) (ix2 r l) = tabB (sinAt (rowOf t r)) l := by
  have h : iblk m c 4 t (ix2 r l) = V m c main_v26 (ix2 (posOf t r) l) := by blk_ext [iblk, idx t, posOf]
  unfold k0_pay8 tabB sinAt
  rw [shapeCast_self, h, V26, cat3, posOf_eq]
  exact dite_congr rfl (fun _ => Ideal.ofBits_zero_f32) fun _ => dite_congr rfl (fun _ => rfl) fun _ => Ideal.ofBits_zero_f32

/-- The product of a row's block and a column's block is an entry of the whole product. -/
theorem prod (c : Dev nD) (t : Fin cfg0.N) (r : Fin 1024) (k : Fin 512) (K : Fin 8192)
    (hK : K.val = (grid0.coords t 1).val * 512 + k.val) :
    k0_pay1 (iblk m c 0 t) (iblk m c 1 t) (ix2 r k)
      = Products.dot (m ((c : Thread nD τ).loc main_arg0)) (m ((c : Thread nD τ).loc main_arg1)) (rowOf t r) K := by
  unfold k0_pay1
  rw [shapeCast_self]
  refine (Products.nn_zero (M := 1024) (K := 4096) (N := 512) (φ₁ := .bf16) (φ₂ := .bf16) none _ _ (ix2 r k)).trans ?_
  refine Products.dot_congr (fun k' => ?_) fun k' => ?_
  · blk_ext [iblk, idx t, rowOf]
  · unfold iblk
    entry_read
    blk_ext [idx t, hK]

/-- The chain of operations that turns a band of 128 columns, at an index. -/
theorem core (X : FVec Ideal S1024x512 .f32) (o : ℕ) (hs : S1024x512.Slices ![0, o] S1024x128) (f : Ideal .f32)
    (u v w : FVec Ideal S1024x128 .f32) (r : Fin 1024) (l : Fin 128) (ho : o + 128 ≤ 512) :
    truncf .bf16 (addf (addf (mulf (mulf (extractStridedSlice S1024x128 ![0, o] X hs) (broadcast S1024x128 f)) u)
        (mulf (dynamicRotate 1 112#32 none (mulf (extractStridedSlice S1024x128 ![0, o] X hs) (broadcast S1024x128 f)) rotates_S1024x128_d1) v))
        (mulf (dynamicRotate 1 16#32 none (mulf (extractStridedSlice S1024x128 ![0, o] X hs) (broadcast S1024x128 f)) rotates_S1024x128_d1) w)) bitsLt_bf16_f32 (ix2 r l)
      = (X (ix2 r ⟨o + l.val, by omega⟩) : EReal) * f * (u (ix2 r l) : EReal)
        + (X (ix2 r ⟨o + (l.val + 16) % 128, by omega⟩) : EReal) * f * (v (ix2 r l) : EReal)
        + (X (ix2 r ⟨o + (l.val + 112) % 128, by omega⟩) : EReal) * f * (w (ix2 r l) : EReal) := by
  pointwise
  have e₁ : (l.val + 128 - 112) % 128 = (l.val + 16) % 128 := by omega
  have e₂ : (l.val + 128 - 16) % 128 = (l.val + 112) % 128 := by omega
  simp only [e₁, e₂]

/-- The factor of a block: the queries' scale on the queries' columns, one elsewhere. -/
theorem factor (t : Fin cfg0.N) : (k0_pay5 (F := Ideal)
      (Scalar.andi (Scalar.cmpi CmpIPredicate.sge (BitVec.ofNat 32 (grid0.coords t 1).val) 6#32)
        (Scalar.cmpi CmpIPredicate.slt (BitVec.ofNat 32 (grid0.coords t 1).val) 10#32)) : EReal)
      = if 6 ≤ (grid0.coords t 1).val ∧ (grid0.coords t 1).val < 10 then scale else 1 := by
  have h := (coords t).2
  have hb : ∀ j : Fin 16, Scalar.andi (Scalar.cmpi CmpIPredicate.sge (BitVec.ofNat 32 j.val) 6#32)
        (Scalar.cmpi CmpIPredicate.slt (BitVec.ofNat 32 j.val) 10#32) = if 6 ≤ j.val ∧ j.val < 10 then 1#1 else 0#1 := by decide +kernel
  have := hb ⟨(grid0.coords t 1).val, by omega⟩
  simp only at this
  rw [this]
  split_ifs with hc
  · rfl
  · show Ideal.ofBits .f32 0x3F800000#32 = _
    exact Ideal.ofBits_one_f32

/-- A turned entry of a block is the entry of the whole result. -/
theorem piece (c : Dev nD) (t : Fin cfg0.N) (n : ℕ) (hn : n < 4) (r : Fin 1024) (l : Fin 128)
    (h0 : t.val % 16 = 6 ∨ t.val % 16 = 7 ∨ t.val % 16 = 8 ∨ t.val % 16 = 9 ∨ t.val % 16 = 10 ∨ t.val % 16 = 12 ∨ t.val % 16 = 14)
    (o : ℕ) (ho : o = 128 * n) (f : EReal) (hf : f = if 6 ≤ (grid0.coords t 1).val ∧ (grid0.coords t 1).val < 10 then scale else 1)
    (I : S16384x8192.Idx) (hI0 : (I 0).val = (rowOf t r).val) (hI1 : (I 1).val = (grid0.coords t 1).val * 512 + o + l.val) :
    (k0_pay1 (iblk m c 0 t) (iblk m c 1 t) (ix2 r ⟨o + l.val, by omega⟩) : EReal) * f * (k0_pay6 (iblk m c 2 t) (ix2 r l) : EReal)
      + (k0_pay1 (iblk m c 0 t) (iblk m c 1 t) (ix2 r ⟨o + (l.val + 16) % 128, by omega⟩) : EReal) * f * (k0_pay7 (iblk m c 3 t) (ix2 r l) : EReal)
      + (k0_pay1 (iblk m c 0 t) (iblk m c 1 t) (ix2 r ⟨o + (l.val + 112) % 128, by omega⟩) : EReal) * f * (k0_pay8 (iblk m c 4 t) (ix2 r l) : EReal)
      = whole (m ((c : Thread nD τ).loc main_arg0)) (m ((c : Thread nD τ).loc main_arg1)) I := by
  have hc := (coords t).2
  have hlt : t.val % 16 < 16 := by omega
  have hI0' : I 0 = rowOf t r := Fin.ext hI0
  have hq : (I 1).val / 128 = 4 * (grid0.coords t 1).val + n := by omega
  have hl : (I 1).val % 128 = l.val := by omega
  have hdot : ∀ (k : ℕ) (hk : k < 128), k0_pay1 (iblk m c 0 t) (iblk m c 1 t) (ix2 r ⟨o + k, by omega⟩)
      = (fun k : Fin 128 => Products.dot (m ((c : Thread nD τ).loc main_arg0)) (m ((c : Thread nD τ).loc main_arg1)) (rowOf t r)
        (⟨128 * (4 * (grid0.coords t 1).val + n) + k.val, by omega⟩ : Fin 8192)) ⟨k, hk⟩ := fun k hk =>
    prod m c t r _ _ (by simp only; omega)
  rw [blk2, blk3, blk4, hdot l.val l.isLt, hdot _ (Nat.mod_lt _ (by norm_num)), hdot _ (Nat.mod_lt _ (by norm_num))]
  have hreal : ∃ p : ℝ, 0 ≤ p ∧ f = p := by
    rw [hf]; split_ifs
    · exact scale_real
    · exact ⟨1, zero_le_one, rfl⟩
  refine (rolled_eq_turned (fun k : Fin 128 => Products.dot (m ((c : Thread nD τ).loc main_arg0)) (m ((c : Thread nD τ).loc main_arg1)) (rowOf t r)
        (⟨128 * (4 * (grid0.coords t 1).val + n) + k.val, by omega⟩ : Fin 8192)) f hreal (cosAt (rowOf t r)) (sinAt (rowOf t r)) l).trans ?_
  unfold whole entry
  simp only [hq, hl, hI0']
  by_cases hb : 6 ≤ (grid0.coords t 1).val ∧ (grid0.coords t 1).val < 10
  · rw [if_pos (by omega), hf, if_pos hb]
  · rw [if_neg (by omega), if_pos (by omega), hf, if_neg hb, mul_one]

/-- An entry of a block that is not turned. -/
theorem plain (c : Dev nD) (t : Fin cfg0.N) (r : Fin 1024) (k : Fin 512)
    (h0 : ¬(t.val % 16 = 6 ∨ t.val % 16 = 7 ∨ t.val % 16 = 8 ∨ t.val % 16 = 9 ∨ t.val % 16 = 10 ∨ t.val % 16 = 12 ∨ t.val % 16 = 14))
    (I : S16384x8192.Idx) (hI0 : (I 0).val = (rowOf t r).val) (hI1 : (I 1).val = (grid0.coords t 1).val * 512 + k.val) :
    k0_pay1 (iblk m c 0 t) (iblk m c 1 t) (ix2 r k)
      = whole (m ((c : Thread nD τ).loc main_arg0)) (m ((c : Thread nD τ).loc main_arg1)) I := by
  have hc := (coords t).2
  have hI0' : I 0 = rowOf t r := Fin.ext hI0
  have hlt : t.val % 16 < 16 := by omega
  rw [prod m c t r k (I 1) hI1]
  unfold whole entry
  rw [if_neg (by simp only; omega), if_neg (by simp only; omega), hI0']
  refine congrArg (Products.dot _ _ _) (Fin.ext ?_)
  simp only
  omega

/-- The result array after the run. -/
theorem final (c : Dev nD) : (dats m 0 c).arrAt 5 cfg0.N
    = whole (m ((c : Thread nD τ).loc main_arg0)) (m ((c : Thread nD τ).loc main_arg1)) := by
  refine (dats m 0 c).arrAt_eq_of_covers 5 _ (by decide +kernel) fun t hf y => ?_
  rw [after0_5]
  generalize hI : ((cfg0.win 5).blk t).view.emb y = I
  have e0 : (I 0).val = (grid0.coords t 0).val * 1024 + (y 0).val := by
    rw [← hI]; blk_simp; simp [idx t]
  have e1 : (I 1).val = (grid0.coords t 1).val * 512 + (y 1).val := by
    rw [← hI]; blk_simp; simp [idx t]
  by_cases h0 : (t.val % 16 = 6 ∨ t.val % 16 = 7 ∨ t.val % 16 = 8 ∨ t.val % 16 = 9 ∨ t.val % 16 = 10 ∨ t.val % 16 = 12 ∨ t.val % 16 = 14)
  · rw [outsAt0_B m c t h0 (not_not.mpr h0)]
    frame_out
    have hturn := h0
    clear h0
    canon_tiles x h
    · obtain ⟨r, l, rfl⟩ : ∃ (r : Fin 1024) (l : Fin 128), x = ix2 r l := ⟨x 0, x 1, eq_ix2 x⟩
      exact (core _ 384 slices_S1024x512_o0_384_S1024x128 _ _ _ _ r l (by norm_num)).trans
        (piece m c t 3 (by norm_num) r l hturn 384 (by norm_num) _ (factor t) I (e0.trans (by rw [h0]; rfl)) (e1.trans (by rw [h1]; exact (Nat.add_assoc _ _ _).symm)))
    · obtain ⟨r, l, rfl⟩ : ∃ (r : Fin 1024) (l : Fin 128), x = ix2 r l := ⟨x 0, x 1, eq_ix2 x⟩
      exact (core _ 256 slices_S1024x512_o0_256_S1024x128 _ _ _ _ r l (by norm_num)).trans
        (piece m c t 2 (by norm_num) r l hturn 256 (by norm_num) _ (factor t) I (e0.trans (by rw [h0]; rfl)) (e1.trans (by rw [h1]; exact (Nat.add_assoc _ _ _).symm)))
    · obtain ⟨r, l, rfl⟩ : ∃ (r : Fin 1024) (l : Fin 128), x = ix2 r l := ⟨x 0, x 1, eq_ix2 x⟩
      exact (core _ 128 slices_S1024x512_o0_128_S1024x128 _ _ _ _ r l (by norm_num)).trans
        (piece m c t 1 (by norm_num) r l hturn 128 (by norm_num) _ (factor t) I (e0.trans (by rw [h0]; rfl)) (e1.trans (by rw [h1]; exact (Nat.add_assoc _ _ _).symm)))
    · obtain ⟨r, l, rfl⟩ : ∃ (r : Fin 1024) (l : Fin 128), x = ix2 r l := ⟨x 0, x 1, eq_ix2 x⟩
      exact (core _ 0 slices_S1024x512_o0_0_S1024x128 _ _ _ _ r l (by norm_num)).trans
        (piece m c t 0 (by norm_num) r l hturn 0 (by norm_num) _ (factor t) I (e0.trans (by rw [h0]; rfl)) (e1.trans (by rw [h1]; rfl)))
  · rw [outsAt0_A m c t h0 h0]
    frame_out
    obtain ⟨r, k, rfl⟩ : ∃ (r : Fin 1024) (k : Fin 512), y = ix2 r k := ⟨y 0, y 1, eq_ix2 y⟩
    exact plain m c t r k h0 I e0 e1

end Cert.Proof.Qkv4

end
-- ==== Proof.Read4.lean ====
/-
  The reference's side of the projection with turned heads: the parts of its array, read at
  an index.
-/
module

public import proofs.«01_k».proof.Proof.Qkv4

@[expose] public section

set_option maxRecDepth 16384

noncomputable section

namespace Cert.Proof.Qkv4

open Idealize.ShloMosaic Idealize.SL.Sem Cert.Reference4Ideal
open Cert.Reference4Ideal.Gen Idealize.ShloMosaic.TcCoe

/-- The cosines over the sixteen query heads. -/
def spread16 (A : FVec Ideal S4096x16 .f32) : FVec Ideal S4x4096x16x16 .f32 :=
  broadcastInDim S4x4096x16x16 ![0, 1, 2, 3] bcast_S1x4096x1x16_S4x4096x16x16_0_1_2_3 (broadcastInDim S1x4096x1x16 ![1, 3] bcast_S4096x16_S1x4096x1x16_1_3 A)

/-- The cosines over the four key heads. -/
def spread4 (A : FVec Ideal S4096x16 .f32) : FVec Ideal S4x4096x4x16 .f32 :=
  broadcastInDim S4x4096x4x16 ![0, 1, 2, 3] bcast_S1x4096x1x16_S4x4096x4x16_0_1_2_3 (broadcastInDim S1x4096x1x16 ![1, 3] bcast_S4096x16_S1x4096x1x16_1_3 A)

/-- Sixteen heads, turned. -/
def turn16 (C S : FVec Ideal S4096x16 .f32) (X : FVec Ideal S4x4096x16x128 .f32) : FVec Ideal S4x4096x16x128 .f32 :=
  concatenate S4x4096x16x128 3
    [⟨S4x4096x16x16, subf (mulf (extractStridedSlice S4x4096x16x16 ![0, 0, 0, 0] X slices_S4x4096x16x128_S4x4096x16x16_0_0_0_0) (spread16 C))
        (mulf (extractStridedSlice S4x4096x16x16 ![0, 0, 0, 16] X slices_S4x4096x16x128_S4x4096x16x16_0_0_0_16) (spread16 S))⟩,
     ⟨S4x4096x16x16, addf (mulf (extractStridedSlice S4x4096x16x16 ![0, 0, 0, 16] X slices_S4x4096x16x128_S4x4096x16x16_0_0_0_16) (spread16 C))
        (mulf (extractStridedSlice S4x4096x16x16 ![0, 0, 0, 0] X slices_S4x4096x16x128_S4x4096x16x16_0_0_0_0) (spread16 S))⟩,
     ⟨S4x4096x16x96, extractStridedSlice S4x4096x16x96 ![0, 0, 0, 32] X slices_S4x4096x16x128_S4x4096x16x96_0_0_0_32⟩]
    concatenates_S4x4096x16x16_S4x4096x16x16_S4x4096x16x96_S4x4096x16x128_d3

/-- Four heads, turned. -/
def turn4 (C S : FVec Ideal S4096x16 .f32) (X : FVec Ideal S4x4096x4x128 .f32) : FVec Ideal S4x4096x4x128 .f32 :=
  concatenate S4x4096x4x128 3
    [⟨S4x4096x4x16, subf (mulf (extractStridedSlice S4x4096x4x16 ![0, 0, 0, 0] X slices_S4x4096x4x128_S4x4096x4x16_0_0_0_0) (spread4 C))
        (mulf (extractStridedSlice S4x4096x4x16 ![0, 0, 0, 16] X slices_S4x4096x4x128_S4x4096x4x16_0_0_0_16) (spread4 S))⟩,
     ⟨S4x4096x4x16, addf (mulf (extractStridedSlice S4x4096x4x16 ![0, 0, 0, 16] X slices_S4x4096x4x128_S4x4096x4x16_0_0_0_16) (spread4 C))
        (mulf (extractStridedSlice S4x4096x4x16 ![0, 0, 0, 0] X slices_S4x4096x4x128_S4x4096x4x16_0_0_0_0) (spread4 S))⟩,
     ⟨S4x4096x4x96, extractStridedSlice S4x4096x4x96 ![0, 0, 0, 32] X slices_S4x4096x4x128_S4x4096x4x96_0_0_0_32⟩]
    concatenates_S4x4096x4x16_S4x4096x4x16_S4x4096x4x96_S4x4096x4x128_d3

theorem turn16_apply (C S : FVec Ideal S4096x16 .f32) (X : FVec Ideal S4x4096x16x128 .f32) (b : Fin 4) (s : Fin 4096) (h : Fin 16) (l : Fin 128) :
    turn16 C S X (ix4 b s h l) = turned (fun k => X (ix4 b s h k)) (fun j => C (ix2 s j)) (fun j => S (ix2 s j)) l := by
  unfold turn16 turned spread16
  pointwise
  by_cases h1 : l.val < 16
  · rw [dif_pos h1, dif_pos h1]
    have e : (⟨16 + l.val, by omega⟩ : Fin 128) = ⟨l.val + 16, by omega⟩ := Fin.ext (by simp only; omega)
    rw [e]
  · by_cases h2 : l.val < 32
    · rw [dif_neg h1, dif_neg h1, dif_pos h2, dif_pos (by omega)]
      have e : (⟨16 + (l.val - 16), by omega⟩ : Fin 128) = l := Fin.ext (by simp only; omega)
      rw [e]
    · rw [dif_neg h1, dif_neg h1, dif_neg h2, dif_neg (by omega)]
      have e : (⟨32 + (l.val - 16 - 16), by omega⟩ : Fin 128) = l := Fin.ext (by simp only; omega)
      rw [e]

theorem turn4_apply (C S : FVec Ideal S4096x16 .f32) (X : FVec Ideal S4x4096x4x128 .f32) (b : Fin 4) (s : Fin 4096) (h : Fin 4) (l : Fin 128) :
    turn4 C S X (ix4 b s h l) = turned (fun k => X (ix4 b s h k)) (fun j => C (ix2 s j)) (fun j => S (ix2 s j)) l := by
  unfold turn4 turned spread4
  pointwise
  by_cases h1 : l.val < 16
  · rw [dif_pos h1, dif_pos h1]
    have e : (⟨16 + l.val, by omega⟩ : Fin 128) = ⟨l.val + 16, by omega⟩ := Fin.ext (by simp only; omega)
    rw [e]
  · by_cases h2 : l.val < 32
    · rw [dif_neg h1, dif_neg h1, dif_pos h2, dif_pos (by omega)]
      have e : (⟨16 + (l.val - 16), by omega⟩ : Fin 128) = l := Fin.ext (by simp only; omega)
      rw [e]
    · rw [dif_neg h1, dif_neg h1, dif_neg h2, dif_neg (by omega)]
      have e : (⟨32 + (l.val - 16 - 16), by omega⟩ : Fin 128) = l := Fin.ext (by simp only; omega)
      rw [e]

/-- The four heads of one of the six key and value groups. -/
def group (z : FVec Ideal S4x4096x8192 .f32) (j : ℕ) (hj : S4x4096x6x4x128.Slices ![0, 0, j, 0, 0] S4x4096x1x4x128) : FVec Ideal S4x4096x4x128 .f32 :=
  shapeCast S4x4096x4x128 (extractStridedSlice S4x4096x1x4x128 ![0, 0, j, 0, 0]
    (shapeCast S4x4096x6x4x128 (extractStridedSlice S4x4096x3072 ![0, 0, 5120] z slices_S4x4096x8192_S4x4096x3072_0_0_5120)
      shapeCasts_S4x4096x3072_S4x4096x6x4x128) hj) shapeCasts_S4x4096x1x4x128_S4x4096x4x128

theorem group_apply (z : FVec Ideal S4x4096x8192 .f32) (j : ℕ) (hj6 : j < 6) (hj : S4x4096x6x4x128.Slices ![0, 0, j, 0, 0] S4x4096x1x4x128)
    (b : Fin 4) (s : Fin 4096) (h : Fin 4) (l : Fin 128) :
    group z j hj (ix4 b s h l) = z (ix3 b s ⟨5120 + (j * 4 + h.val) * 128 + l.val, by omega⟩) := by
  unfold group
  pointwise
  exact congrArg (fun k => z (ix3 b s k)) (Fin.ext (by simp only; omega))

/-- The heads of the queries. -/
def queries (z : FVec Ideal S4x4096x8192 .f32) : FVec Ideal S4x4096x16x128 .f32 :=
  shapeCast S4x4096x16x128 (extractStridedSlice S4x4096x2048 ![0, 0, 3072] z slices_S4x4096x8192_S4x4096x2048_0_0_3072) shapeCasts_S4x4096x2048_S4x4096x16x128

theorem queries_apply (z : FVec Ideal S4x4096x8192 .f32) (b : Fin 4) (s : Fin 4096) (h : Fin 16) (l : Fin 128) :
    queries z (ix4 b s h l) = z (ix3 b s ⟨3072 + h.val * 128 + l.val, by omega⟩) := by
  unfold queries
  pointwise
  exact congrArg (fun k => z (ix3 b s k)) (Fin.ext (by simp only; omega))

/-- A group on an axis of its own. -/
def lift (X : FVec Ideal S4x4096x4x128 .f32) : FVec Ideal S4x4096x1x4x128 .f32 :=
  broadcastInDim S4x4096x1x4x128 ![0, 1, 3, 4] bcast_S4x4096x4x128_S4x4096x1x4x128_0_1_3_4 X

/-- The six groups one beside the other: keys turned, values as they are. -/
def groups (C S : FVec Ideal S4096x16 .f32) (z : FVec Ideal S4x4096x8192 .f32) : FVec Ideal S4x4096x6x4x128 .f32 :=
  concatenate S4x4096x6x4x128 2
    [⟨S4x4096x1x4x128, lift (turn4 C S (group z 0 slices_S4x4096x6x4x128_S4x4096x1x4x128_0_0_0_0_0))⟩,
     ⟨S4x4096x1x4x128, lift (group z 1 slices_S4x4096x6x4x128_S4x4096x1x4x128_0_0_1_0_0)⟩,
     ⟨S4x4096x1x4x128, lift (turn4 C S (group z 2 slices_S4x4096x6x4x128_S4x4096x1x4x128_0_0_2_0_0))⟩,
     ⟨S4x4096x1x4x128, lift (group z 3 slices_S4x4096x6x4x128_S4x4096x1x4x128_0_0_3_0_0)⟩,
     ⟨S4x4096x1x4x128, lift (turn4 C S (group z 4 slices_S4x4096x6x4x128_S4x4096x1x4x128_0_0_4_0_0))⟩,
     ⟨S4x4096x1x4x128, lift (group z 5 slices_S4x4096x6x4x128_S4x4096x1x4x128_0_0_5_0_0)⟩]
    concatenates_S4x4096x1x4x128_S4x4096x1x4x128_S4x4096x1x4x128_S4x4096x1x4x128_S4x4096x1x4x128_S4x4096x1x4x128_S4x4096x6x4x128_d2

theorem groups_apply (C S : FVec Ideal S4096x16 .f32) (z : FVec Ideal S4x4096x8192 .f32) (b : Fin 4) (s : Fin 4096) (j : Fin 6) (h : Fin 4) (l : Fin 128) :
    groups C S z (ix5 b s j h l) = if j.val % 2 = 0
      then turned (fun k => z (ix3 b s ⟨5120 + (j.val * 4 + h.val) * 128 + k.val, by omega⟩)) (fun j => C (ix2 s j)) (fun j => S (ix2 s j)) l
      else z (ix3 b s ⟨5120 + (j.val * 4 + h.val) * 128 + l.val, by omega⟩) := by
  unfold groups lift
  match j with
  | ⟨0, _⟩ =>
    rw [if_pos (by norm_num)]
    refine Eq.trans (b := turn4 C S (group z 0 slices_S4x4096x6x4x128_S4x4096x1x4x128_0_0_0_0_0) (ix4 b s h l)) (by pointwise) ?_
    rw [turn4_apply]
    exact congrArg (fun x : Fin 128 → EReal => turned x _ _ l) (funext fun k => group_apply z 0 (by norm_num) _ b s h k)
  | ⟨1, _⟩ =>
    rw [if_neg (by norm_num)]
    refine Eq.trans (b := group z 1 slices_S4x4096x6x4x128_S4x4096x1x4x128_0_0_1_0_0 (ix4 b s h l)) (by pointwise) ?_
    exact group_apply z 1 (by norm_num) _ b s h l
  | ⟨2, _⟩ =>
    rw [if_pos (by norm_num)]
    refine Eq.trans (b := turn4 C S (group z 2 slices_S4x4096x6x4x128_S4x4096x1x4x128_0_0_2_0_0) (ix4 b s h l)) (by pointwise) ?_
    rw [turn4_apply]
    exact congrArg (fun x : Fin 128 → EReal => turned x _ _ l) (funext fun k => group_apply z 2 (by norm_num) _ b s h k)
  | ⟨3, _⟩ =>
    rw [if_neg (by norm_num)]
    refine Eq.trans (b := group z 3 slices_S4x4096x6x4x128_S4x4096x1x4x128_0_0_3_0_0 (ix4 b s h l)) (by pointwise) ?_
    exact group_apply z 3 (by norm_num) _ b s h l
  | ⟨4, _⟩ =>
    rw [if_pos (by norm_num)]
    refine Eq.trans (b := turn4 C S (group z 4 slices_S4x4096x6x4x128_S4x4096x1x4x128_0_0_4_0_0) (ix4 b s h l)) (by pointwise) ?_
    rw [turn4_apply]
    exact congrArg (fun x : Fin 128 → EReal => turned x _ _ l) (funext fun k => group_apply z 4 (by norm_num) _ b s h k)
  | ⟨5, _⟩ =>
    rw [if_neg (by norm_num)]
    refine Eq.trans (b := group z 5 slices_S4x4096x6x4x128_S4x4096x1x4x128_0_0_5_0_0 (ix4 b s h l)) (by pointwise) ?_
    exact group_apply z 5 (by norm_num) _ b s h l

/-- The reference's array of the product. -/
def laid (C S : FVec Ideal S4096x16 .f32) (P : FVec Ideal S16384x8192 .f32) : FVec Ideal S16384x8192 .bf16 :=
  truncf .bf16 (shapeCast S16384x8192 (concatenate S4x4096x8192 2
    [⟨S4x4096x3072, extractStridedSlice S4x4096x3072 ![0, 0, 0] (shapeCast S4x4096x8192 P shapeCasts_S16384x8192_S4x4096x8192) slices_S4x4096x8192_S4x4096x3072_0_0_0⟩,
     ⟨S4x4096x2048, shapeCast S4x4096x2048 (mulf (turn16 C S (queries (shapeCast S4x4096x8192 P shapeCasts_S16384x8192_S4x4096x8192)))
        (broadcastInDim S4x4096x16x128 ![] bcast_S_S4x4096x16x128 (constant S_ .f32 0x3DB504F3#32))) shapeCasts_S4x4096x16x128_S4x4096x2048⟩,
     ⟨S4x4096x3072, shapeCast S4x4096x3072 (groups C S (shapeCast S4x4096x8192 P shapeCasts_S16384x8192_S4x4096x8192)) shapeCasts_S4x4096x6x4x128_S4x4096x3072⟩]
    concatenates_S4x4096x3072_S4x4096x2048_S4x4096x3072_S4x4096x8192_d2) shapeCasts_S4x4096x8192_S16384x8192) bitsLt_bf16_f32

theorem result_eq (m : (ℓ : Loc nD τ sig) → Buf (Elt Ideal) ℓ) (c : Dev nD) : Value.res_main_v114 m c
    = laid (Host.cos ang) (Host.sin ang) (Host.dotGeneral (F := Ideal) (φ₁ := .bf16) (φ₂ := .f32) dot_S16384x4096_S4096x8192_S16384x8192_1_0_0_1_n_n none
        (m ((c.tc : Thread nD τ).loc main_arg0)) (m ((c.tc : Thread nD τ).loc main_arg1))) := by
  unfold Value.res_main_v114 laid
  rfl

end Cert.Proof.Qkv4

end
-- ==== Proof.Tie4.lean ====
/-
  The reference's side of the projection with turned heads: its array, read at an index, and the claim that kernel and
  reference end with the same array.
-/
module

public import proofs.«01_k».proof.Proof.Read4

@[expose] public section

set_option maxRecDepth 16384

noncomputable section

namespace Cert.Proof.Qkv4

open Idealize.ShloMosaic Idealize.SL.Sem Cert.Reference4Ideal
open Cert.Reference4Ideal.Gen Idealize.ShloMosaic.TcCoe

/-- The product, its rows laid out by sequence and position. -/
theorem seq_apply (P : FVec Ideal S16384x8192 .f32) (b : Fin 4) (s : Fin 4096) (k : Fin 8192) :
    shapeCast S4x4096x8192 P shapeCasts_S16384x8192_S4x4096x8192 (ix3 b s k) = P (ix2 (⟨b.val * 4096 + s.val, by omega⟩ : Fin 16384) k) := by
  pointwise

/-- Three bands of columns, the rows of all sequences one below the other, read at an index. -/
theorem bands_apply (P : FVec Ideal S16384x8192 .f32) (Q : FVec Ideal S4x4096x16x128 .f32) (K : FVec Ideal S4x4096x6x4x128 .f32)
    (r : Fin 16384) (k : Fin 8192) :
    truncf .bf16 (shapeCast S16384x8192 (concatenate S4x4096x8192 2
      [⟨S4x4096x3072, extractStridedSlice S4x4096x3072 ![0, 0, 0] (shapeCast S4x4096x8192 P shapeCasts_S16384x8192_S4x4096x8192) slices_S4x4096x8192_S4x4096x3072_0_0_0⟩,
       ⟨S4x4096x2048, shapeCast S4x4096x2048 (mulf Q
          (broadcastInDim S4x4096x16x128 ![] bcast_S_S4x4096x16x128 (constant S_ .f32 0x3DB504F3#32))) shapeCasts_S4x4096x16x128_S4x4096x2048⟩,
       ⟨S4x4096x3072, shapeCast S4x4096x3072 K shapeCasts_S4x4096x6x4x128_S4x4096x3072⟩]
      concatenates_S4x4096x3072_S4x4096x2048_S4x4096x3072_S4x4096x8192_d2) shapeCasts_S4x4096x8192_S16384x8192) bitsLt_bf16_f32 (ix2 r k)
    = if h1 : k.val < 3072 then P (ix2 r k) else if h2 : k.val - 3072 < 2048
      then Q (ix4 (⟨r.val / 4096, by omega⟩ : Fin 4) (⟨r.val % 4096, by omega⟩ : Fin 4096) (⟨(k.val - 3072) / 128, by omega⟩ : Fin 16) (⟨(k.val - 3072) % 128, by omega⟩ : Fin 128)) * scale
      else K (ix5 (⟨r.val / 4096, by omega⟩ : Fin 4) (⟨r.val % 4096, by omega⟩ : Fin 4096) (⟨(k.val - 3072 - 2048) / 512, by omega⟩ : Fin 6)
        (⟨(k.val - 3072 - 2048) / 128 % 4, by omega⟩ : Fin 4) (⟨(k.val - 3072 - 2048) % 128, by omega⟩ : Fin 128)) := by
  unfold scale
  pointwise

/-- The reference's array at an index is the entry of the result. -/
theorem laid_apply (P : FVec Ideal S16384x8192 .f32) (r : Fin 16384) (k : Fin 8192) :
    laid (Host.cos ang) (Host.sin ang) P (ix2 r k) = entry (fun r c => P (ix2 r c)) r
      (⟨k.val / 128, by omega⟩ : Fin 64) (⟨k.val % 128, by omega⟩ : Fin 128) := by
  have hrow : ∀ k : Fin 8192, shapeCast S4x4096x8192 P shapeCasts_S16384x8192_S4x4096x8192
      (ix3 (⟨r.val / 4096, by omega⟩ : Fin 4) (⟨r.val % 4096, by omega⟩ : Fin 4096) k) = P (ix2 r k) := fun k =>
    (seq_apply P _ _ k).trans (congrArg (fun r' => P (ix2 r' k)) (Fin.ext (by simp only; omega)))
  refine (bands_apply P _ _ r k).trans ?_
  by_cases h1 : k.val < 3072
  · refine (dif_pos h1).trans ?_
    have n1 : ¬(24 ≤ (⟨k.val / 128, by omega⟩ : Fin 64).val ∧ (⟨k.val / 128, by omega⟩ : Fin 64).val < 40) := by simp only; omega
    have n2 : ¬(40 ≤ (⟨k.val / 128, by omega⟩ : Fin 64).val ∧ (⟨k.val / 128, by omega⟩ : Fin 64).val / 4 % 2 = 0) := by simp only; omega
    unfold entry
    refine Eq.trans ?_ ((if_neg n1).trans (if_neg n2)).symm
    exact congrArg (fun k' => P (ix2 r k')) (Fin.ext (by simp only; omega))
  · refine (dif_neg h1).trans ?_
    by_cases h2 : k.val - 3072 < 2048
    · refine (dif_pos h2).trans ?_
      have n1 : 24 ≤ (⟨k.val / 128, by omega⟩ : Fin 64).val ∧ (⟨k.val / 128, by omega⟩ : Fin 64).val < 40 := by simp only; omega
      have hl : (⟨(k.val - 3072) % 128, by omega⟩ : Fin 128) = ⟨k.val % 128, by omega⟩ := Fin.ext (by simp only; omega)
      unfold entry
      refine Eq.trans ?_ (if_pos n1).symm
      rw [turn16_apply, hl]
      refine congrArg (fun x : Fin 128 → EReal => turned x (cosAt r) (sinAt r) _ * scale) (funext fun k' => ?_)
      rw [queries_apply, hrow]
      exact congrArg (fun k' => P (ix2 r k')) (Fin.ext (by simp only; omega))
    · refine (dif_neg h2).trans ?_
      have n1 : ¬(24 ≤ (⟨k.val / 128, by omega⟩ : Fin 64).val ∧ (⟨k.val / 128, by omega⟩ : Fin 64).val < 40) := by simp only; omega
      have hl : (⟨(k.val - 3072 - 2048) % 128, by omega⟩ : Fin 128) = ⟨k.val % 128, by omega⟩ := Fin.ext (by simp only; omega)
      unfold entry
      refine Eq.trans ?_ (if_neg n1).symm
      rw [groups_apply, hl]
      by_cases h3 : (k.val - 3072 - 2048) / 512 % 2 = 0
      · refine (if_pos h3).trans ?_
        have n2 : 40 ≤ (⟨k.val / 128, by omega⟩ : Fin 64).val ∧ (⟨k.val / 128, by omega⟩ : Fin 64).val / 4 % 2 = 0 := by simp only; omega
        refine Eq.trans ?_ (if_pos n2).symm
        refine congrArg (fun x : Fin 128 → EReal => turned x (cosAt r) (sinAt r) _) (funext fun k' => ?_)
        rw [hrow]
        exact congrArg (fun k' => P (ix2 r k')) (Fin.ext (by simp only; omega))
      · refine (if_neg h3).trans ?_
        have n2 : ¬(40 ≤ (⟨k.val / 128, by omega⟩ : Fin 64).val ∧ (⟨k.val / 128, by omega⟩ : Fin 64).val / 4 % 2 = 0) := by simp only; omega
        refine Eq.trans ?_ (if_neg n2).symm
        rw [hrow]
        exact congrArg (fun k' => P (ix2 r k')) (Fin.ext (by simp only; omega))

/-- Kernel and reference end with the same array. -/
theorem tie : Cert.algebraic_Kernel4Ideal_Reference4Ideal := by
  intro m g m' g' _ hag
  refine ⟨fun c => whole (m ((c : Thread Kernel4Ideal.nD Kernel4Ideal.τ).loc Kernel4Ideal.main_arg0)) (m ((c : Thread Kernel4Ideal.nD Kernel4Ideal.τ).loc Kernel4Ideal.main_arg1)),
    (θ_run _ _ _).mono (fun r h c => ⟨(h c).1.trans (final m c), (h c).2⟩) (Kernel4Ideal.Value.run_blocks m g),
    (θ_run _ _ _).mono (fun r h c => ⟨(h c).1.trans ?_, (h c).2⟩) (Value.run m' g')⟩
  rw [result_eq, (hag c).1, (hag c).2]
  beta_reduce
  generalize m ((c.tc : Thread Kernel4Ideal.nD Kernel4Ideal.τ).loc Kernel4Ideal.main_arg0) = a
  generalize m ((c.tc : Thread Kernel4Ideal.nD Kernel4Ideal.τ).loc Kernel4Ideal.main_arg1) = w
  funext i
  obtain ⟨r, k, rfl⟩ : ∃ (r : Fin 16384) (k : Fin 8192), i = ix2 r k := ⟨i 0, i 1, eq_ix2 i⟩
  refine (laid_apply _ r k).trans ?_
  unfold whole
  refine congrArg (fun z : Fin 16384 → Fin 8192 → EReal => entry z r _ _) (funext fun r => funext fun k => ?_)
  exact Products.host_nn (M := 16384) (K := 4096) (N := 8192) (φ₁ := .bf16) (φ₂ := .f32) none a w (ix2 r k)

end Cert.Proof.Qkv4

end
-- ==== Proof.Merge5.lean ====
/-
  The merge of the three branches: each entry is the sum of three gates times entries of three matrix products, one per
  branch, each with its own band of rows of the shared weight. The blocks the tiled kernel writes, put together, are
  that array.
-/
module

public import proofs.«01_k».proof.Defs
public import proofs.«01_k».proof.Proof.Gen.Kernel5Ideal.Value
public import proofs.«01_k».proof.Proof.Gen.Reference5Ideal.Run
public import proofs.«01_k».proof.Proof.Products
public import Idealize.ShloMosaic.Lib.IdealHost

@[expose] public section

set_option maxRecDepth 16384

noncomputable section

namespace Cert.Proof.Merge5

open Idealize.ShloMosaic Idealize.SL.Sem Cert.Kernel5Ideal
open Cert.Kernel5Ideal.Gen Idealize.ShloMosaic.TcCoe
open Idealize.ShloMosaic.Pipeline (Dat Cfg Window)

variable (m : (ℓ : Loc nD τ sig) → Buf (Elt Ideal) ℓ) (ρ : Dev nD → PrngReg)

/-- One branch: the gate in the band of columns that begins at `o`, times the product with the band of rows of the
    weight that begins at `p`. -/
def branch {K : ℕ} (o p : ℕ) (ho : o + 4096 ≤ 12288) (hp : p + K ≤ 4096) (a : (⟨2, ![16384, K]⟩ : Shape).Idx → EReal)
    (w : S4096x4096.Idx → EReal) (g : S16384x12288.Idx → EReal) (r : Fin 16384) (c : Fin 4096) : EReal :=
  g (ix2 r (⟨o + c.val, by omega⟩ : Fin 12288))
    * Products.dot a (fun j : (⟨2, ![K, 4096]⟩ : Shape).Idx => w (ix2 (⟨p + (j 0).val, by have h : (j 0).val < K := (j 0).isLt; omega⟩ : Fin 4096) (j 1))) r c

/-- The sum of the three branches. -/
def whole (a : Vec Ideal S16384x1024 .bf16) (b : Vec Ideal S16384x2048 .bf16) (d : Vec Ideal S16384x1024 .bf16)
    (w : Vec Ideal S4096x4096 .f32) (g : Vec Ideal S16384x12288 .bf16) : Vec Ideal S16384x4096 .bf16 :=
  fun i => branch 0 0 (by norm_num) (by norm_num) a w g (i 0) (i 1)
    + branch 4096 1024 (by norm_num) (by norm_num) b w g (i 0) (i 1)
    + branch 8192 3072 (by norm_num) (by norm_num) d w g (i 0) (i 1)

/-- Where each window's block sits at a grid point. -/
theorem idx (t : Fin cfg0.N) : win0_0.index t = ![(grid0.coords t 0).val, 0]
    ∧ win0_1.index t = ![(grid0.coords t 0).val, 0]
    ∧ win0_2.index t = ![(grid0.coords t 0).val, 0]
    ∧ win0_3.index t = ![0, (grid0.coords t 1).val]
    ∧ win0_4.index t = ![0, (grid0.coords t 1).val]
    ∧ win0_5.index t = ![0, (grid0.coords t 1).val]
    ∧ win0_6.index t = ![(grid0.coords t 0).val, (grid0.coords t 1).val]
    ∧ win0_7.index t = ![(grid0.coords t 0).val, 8 + (grid0.coords t 1).val]
    ∧ win0_8.index t = ![(grid0.coords t 0).val, 16 + (grid0.coords t 1).val]
    ∧ win0_9.index t = ![(grid0.coords t 0).val, (grid0.coords t 1).val] := by
  revert t; decide +kernel

/-- One entry of a block. -/
theorem pay_apply (g₀ : Vec Ideal S1024x512 .bf16) (a : Vec Ideal S1024x1024 .bf16) (u : Vec Ideal S1024x512 .bf16)
    (g₁ : Vec Ideal S1024x512 .bf16) (b : Vec Ideal S1024x2048 .bf16) (v : Vec Ideal S2048x512 .bf16)
    (g₂ : Vec Ideal S1024x512 .bf16) (d : Vec Ideal S1024x1024 .bf16) (w : Vec Ideal S1024x512 .bf16) (j : S1024x512.Idx) :
    k0_pay1 g₀ a u g₁ b v g₂ d w j = (g₀ j : EReal) * Products.dot a u (j 0) (j 1)
      + (g₁ j : EReal) * Products.dot b v (j 0) (j 1) + (g₂ j : EReal) * Products.dot d w (j 0) (j 1) := by
  have h₀ := Products.nn_zero (M := 1024) (K := 1024) (N := 512) (φ₁ := .bf16) (φ₂ := .bf16) none a u j
  have h₁ := Products.nn_zero (M := 1024) (K := 2048) (N := 512) (φ₁ := .bf16) (φ₂ := .bf16) none b v j
  have h₂ := Products.nn_zero (M := 1024) (K := 1024) (N := 512) (φ₁ := .bf16) (φ₂ := .bf16) none d w j
  rw [← h₀, ← h₁, ← h₂]
  unfold k0_pay1
  rw [shapeCast_self, shapeCast_self, shapeCast_self]
  rfl

set_option maxHeartbeats 2000000 in
/-- The result array after the run. -/
theorem final (c : Dev nD) : (dats m 0 c).arrAt 9 cfg0.N
    = whole (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  frame_out
  rw [pay_apply]
  refine congrArg₂ (fun p q : EReal => p + q) (congrArg₂ (fun p q : EReal => p + q)
    (congrArg₂ (fun p q : EReal => p * q) ?_ (Products.dot_congr (fun k => ?_) fun k => ?_))
    (congrArg₂ (fun p q : EReal => p * q) ?_ (Products.dot_congr (fun k => ?_) fun k => ?_)))
    (congrArg₂ (fun p q : EReal => p * q) ?_ (Products.dot_congr (fun k => ?_) fun k => ?_))
  · blk_ext [iblk, idx t]
  · blk_ext [iblk, idx t]
  · unfold iblk
    entry_read
    blk_simp
    pointwise
    blk_ext [idx t]
  · blk_ext [iblk, idx t]
  · blk_ext [iblk, idx t]
  · unfold iblk
    entry_read
    blk_simp
    pointwise
    blk_ext [idx t]
  · blk_ext [iblk, idx t]
  · blk_ext [iblk, idx t]
  · unfold iblk
    entry_read
    blk_simp
    pointwise
    blk_ext [idx t]

/-- A gate of the reference: a band of columns of the gates, taken through the array cut in three. -/
theorem gate (g : Vec Ideal S16384x12288 .bf16) (s : ℕ) (hs : s < 3)
    (h₀ : S16384x12288.ShapeCasts (⟨3, ![16384, 3, 4096]⟩ : Shape))
    (h₁ : (⟨3, ![16384, 3, 4096]⟩ : Shape).Slices ![0, s, 0] (⟨3, ![16384, 1, 4096]⟩ : Shape))
    (h₂ : (⟨3, ![16384, 1, 4096]⟩ : Shape).ShapeCasts S16384x4096) (i : S16384x4096.Idx) :
    shapeCast S16384x4096 (extractStridedSlice (⟨3, ![16384, 1, 4096]⟩ : Shape) ![0, s, 0]
        (shapeCast (⟨3, ![16384, 3, 4096]⟩ : Shape) g h₀) h₁) h₂ i
      = g (ix2 (i 0) (⟨4096 * s + (i 1).val, by have h : (i 1).val < 4096 := (i 1).isLt; omega⟩ : Fin 12288)) := by
  have hi : (i 1).val < 4096 := (i 1).isLt
  have h : ((⟨3, ![16384, 1, 4096]⟩ : Shape).rowMajor (ix3 (i 0) (0 : Fin 1) (i 1))).val = (S16384x4096.rowMajor i).val := by
    rw [Shape.rowMajor_val_three, Shape.rowMajor_val_two]
    show ((i 0).val * 1 + 0) * 4096 + (i 1).val = (i 0).val * 4096 + (i 1).val
    omega
  refine (shapeCast_apply _ _ i (ix3 (i 0) (0 : Fin 1) (i 1)) h).trans ?_
  refine shapeCast_apply g h₀ _ _ ?_
  rw [Shape.rowMajor_val_three, Shape.rowMajor_val_two]
  show (i 0).val * 12288 + (4096 * s + (i 1).val) = ((0 + (i 0).val) * 3 + (s + 0)) * 4096 + (0 + (i 1).val)
  omega

/-- Kernel and reference end with the same array. -/
theorem tie : Cert.algebraic_Kernel5Ideal_Reference5Ideal := by
  intro m g m' g' _ hag
  refine ⟨fun c => whole (m ((c : Thread nD τ).loc main_arg0)) (m ((c : Thread nD τ).loc main_arg1))
      (m ((c : Thread nD τ).loc main_arg2)) (m ((c : Thread nD τ).loc main_arg3)) (m ((c : Thread nD τ).loc main_arg4)),
    (θ_run _ _ _).mono (fun r h c => ⟨(h c).1.trans (final m c), (h c).2⟩) (Value.run_blocks m g),
    (θ_run _ _ _).mono (fun r h c => ⟨(h c).1.trans ?_, (h c).2⟩) (Reference5Ideal.Value.run m' g')⟩
  rw [(hag c).1, (hag c).2.1, (hag c).2.2.1, (hag c).2.2.2.1, (hag c).2.2.2.2]
  beta_reduce
  generalize m ((c.tc : Thread nD τ).loc main_arg0) = a
  generalize m ((c.tc : Thread nD τ).loc main_arg1) = b
  generalize m ((c.tc : Thread nD τ).loc main_arg2) = d
  generalize m ((c.tc : Thread nD τ).loc main_arg3) = w
  generalize m ((c.tc : Thread nD τ).loc main_arg4) = g
  funext i
  refine congrArg₂ (fun p q : EReal => p + q) (congrArg₂ (fun p q : EReal => p + q)
    (congrArg₂ (fun p q : EReal => p * q) ?_ ?_) (congrArg₂ (fun p q : EReal => p * q) ?_ ?_))
    (congrArg₂ (fun p q : EReal => p * q) ?_ ?_)
  · exact gate g 0 (by norm_num) Reference5Ideal.Gen.shapeCasts_S16384x12288_S16384x3x4096 Reference5Ideal.Gen.slices_S16384x3x4096_S16384x1x4096_0_0_0
      Reference5Ideal.Gen.shapeCasts_S16384x1x4096_S16384x4096 i
  · exact (Products.host_nn (M := 16384) (K := 1024) (N := 4096) (φ₁ := .bf16) (φ₂ := .f32) none a _ i).trans
      (Products.dot_congr (fun _ => rfl) fun k => congrArg w (by funext ax; match ax with | ⟨0, _⟩ => rfl | ⟨1, _⟩ => exact Fin.ext (Nat.zero_add _)))
  · exact gate g 1 (by norm_num) Reference5Ideal.Gen.shapeCasts_S16384x12288_S16384x3x4096 Reference5Ideal.Gen.slices_S16384x3x4096_S16384x1x4096_0_1_0
      Reference5Ideal.Gen.shapeCasts_S16384x1x4096_S16384x4096 i
  · exact (Products.host_nn (M := 16384) (K := 2048) (N := 4096) (φ₁ := .bf16) (φ₂ := .f32) none b _ i).trans
      (Products.dot_congr (fun _ => rfl) fun k => congrArg w (by funext ax; match ax with | ⟨0, _⟩ => rfl | ⟨1, _⟩ => exact Fin.ext (Nat.zero_add _)))
  · exact gate g 2 (by norm_num) Reference5Ideal.Gen.shapeCasts_S16384x12288_S16384x3x4096 Reference5Ideal.Gen.slices_S16384x3x4096_S16384x1x4096_0_2_0
      Reference5Ideal.Gen.shapeCasts_S16384x1x4096_S16384x4096 i
  · exact (Products.host_nn (M := 16384) (K := 1024) (N := 4096) (φ₁ := .bf16) (φ₂ := .f32) none d _ i).trans
      (Products.dot_congr (fun _ => rfl) fun k => congrArg w (by funext ax; match ax with | ⟨0, _⟩ => rfl | ⟨1, _⟩ => exact Fin.ext (Nat.zero_add _)))

end Cert.Proof.Merge5

end
-- ==== Proof.Resid6.lean ====
/-
  The output projection with the residual: each entry is the residual plus the sequence's gate times an entry of a
  matrix product. The blocks the tiled kernel writes, put together, are that array.
-/
module

public import proofs.«01_k».proof.Defs
public import proofs.«01_k».proof.Proof.Gen.Kernel6Ideal.Value
public import proofs.«01_k».proof.Proof.Gen.Reference6Ideal.Run
public import proofs.«01_k».proof.Proof.Products
public import Idealize.ShloMosaic.Lib.IdealHost

@[expose] public section

set_option maxRecDepth 16384

noncomputable section

namespace Cert.Proof.Resid6

open Idealize.ShloMosaic Idealize.SL.Sem Cert.Kernel6Ideal
open Cert.Kernel6Ideal.Gen Idealize.ShloMosaic.TcCoe
open Idealize.ShloMosaic.Pipeline (Dat Cfg Window)

variable (m : (ℓ : Loc nD τ sig) → Buf (Elt Ideal) ℓ) (ρ : Dev nD → PrngReg)

/-- The residual plus the gate of the row's sequence times the product. -/
def whole (a : Vec Ideal S16384x4096 .bf16) (w : Vec Ideal S4096x4096 .f32) (x : Vec Ideal S16384x4096 .f32)
    (g : Vec Ideal S4x4096 .f32) : Vec Ideal S16384x4096 .f32 :=
  fun i => (x i : EReal) + (g (ix2 (⟨(i 0).val / 4096, by have h : (i 0).val < 16384 := (i 0).isLt; omega⟩ : Fin 4) (i 1)) : EReal)
    * Products.dot a w (i 0) (i 1)

/-- Where each window's block sits at a grid point. -/
theorem idx (t : Fin cfg0.N) : win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val / 4, 0, (grid0.coords t 1).val]
    ∧ win0_4.index t = ![(grid0.coords t 0).val, (grid0.coords t 1).val] := by
  revert t; decide +kernel

/-- One entry of a block. -/
theorem pay_apply (x : Vec Ideal S1024x512 .f32) (g : Vec Ideal S1x1x512 .f32) (a : Vec Ideal S1024x4096 .bf16)
    (w : Vec Ideal S4096x512 .bf16) (j : S1024x512.Idx) :
    k0_pay1 x g a w j = (x j : EReal) + (g (ix3 (0 : Fin 1) (0 : Fin 1) (j 1)) : EReal) * Products.dot a w (j 0) (j 1) := by
  have h := Products.nn_zero (M := 1024) (K := 4096) (N := 512) (φ₁ := .bf16) (φ₂ := .bf16) none a w j
  rw [← h]
  unfold k0_pay1
  pointwise

/-- The result array after the run. -/
theorem final (c : Dev nD) : (dats m 0 c).arrAt 4 cfg0.N
    = whole (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_apply]
  refine congrArg₂ (fun p q : EReal => p + q) ?_ (congrArg₂ (fun p q : EReal => p * q) ?_ (Products.dot_congr (fun k => ?_) fun k => ?_))
  · blk_ext [iblk, idx t]
  · unfold iblk
    entry_read
    blk_simp
    pointwise
    blk_ext [idx t]
  · blk_ext [iblk, idx t]
  · unfold iblk
    entry_read
    blk_ext [idx t]

/-- Kernel and reference end with the same array. -/
theorem tie : Cert.algebraic_Kernel6Ideal_Reference6Ideal := by
  intro m g m' g' _ hag
  refine ⟨fun c => whole (m ((c : Thread nD τ).loc main_arg0)) (m ((c : Thread nD τ).loc main_arg1))
      (m ((c : Thread nD τ).loc main_arg2)) (m ((c : Thread nD τ).loc main_arg3)),
    (θ_run _ _ _).mono (fun r h c => ⟨(h c).1.trans (final m c), (h c).2⟩) (Value.run_blocks m g),
    (θ_run _ _ _).mono (fun r h c => ⟨(h c).1.trans ?_, (h c).2⟩) (Reference6Ideal.Value.run m' g')⟩
  rw [(hag c).1, (hag c).2.1, (hag c).2.2.1, (hag c).2.2.2]
  beta_reduce
  generalize m ((c.tc : Thread nD τ).loc main_arg0) = a
  generalize m ((c.tc : Thread nD τ).loc main_arg1) = w
  generalize m ((c.tc : Thread nD τ).loc main_arg2) = x
  generalize m ((c.tc : Thread nD τ).loc main_arg3) = g
  funext i
  have h : Host.dotGeneral (F := Ideal) (φ₁ := .bf16) (φ₂ := .f32)
      Reference6Ideal.dot_S16384x4096_S4096x4096_S16384x4096_1_0_0_1_n_n none a w i = Products.dot a w (i 0) (i 1) :=
    Products.host_nn (M := 16384) (K := 4096) (N := 4096) (φ₁ := .bf16) (φ₂ := .f32) none a w i
  unfold whole
  rw [← h]
  generalize Host.dotGeneral (F := Ideal) (φ₁ := .bf16) (φ₂ := .f32) Reference6Ideal.dot_S16384x4096_S4096x4096_S16384x4096_1_0_0_1_n_n none a w = P
  clear h
  have hi : (i 0).val < 16384 := (i 0).isLt
  have hrow : (Reference6Ideal.S4x4096x4096.rowMajor (ix3 (⟨(i 0).val / 4096, by omega⟩ : Fin 4)
      (⟨(i 0).val % 4096, by omega⟩ : Fin 4096) (i 1))).val = (Reference6Ideal.S16384x4096.rowMajor i).val := by
    rw [Shape.rowMajor_val_three, Shape.rowMajor_val_two]
    show ((i 0).val / 4096 * 4096 + (i 0).val % 4096) * 4096 + (i 1).val = (i 0).val * 4096 + (i 1).val
    rw [Nat.div_add_mod']
  rw [shapeCast_apply _ _ i _ hrow]
  refine congrArg₂ (fun p q : EReal => p + q) ?_ (congrArg₂ (fun p q : EReal => p * q) ?_ ?_)
  · exact shapeCast_apply x _ _ i hrow.symm
  · refine congrArg g ?_
    funext ax
    match ax with
    | ⟨0, _⟩ => rfl
    | ⟨1, _⟩ => rfl
  · exact shapeCast_apply P _ _ i hrow.symm

end Cert.Proof.Resid6

end
-- ==== Proof.Norm7.lean ====
/-
  The first norm with its modulation: each row divided by the root of its mean square, times the norm's weight, times one
  plus the scale of the row's sequence, plus its shift.
-/
module

public import proofs.«01_k».proof.Defs
public import proofs.«01_k».proof.Proof.Gen.Kernel7Ideal.Value
public import proofs.«01_k».proof.Proof.Gen.Reference7Ideal.Run
public import proofs.«01_k».proof.Proof.Products
public import Idealize.ShloMosaic.Lib.IdealHost

@[expose] public section

set_option maxRecDepth 16384

noncomputable section

namespace Cert.Proof.Norm7

open Idealize.ShloMosaic Idealize.SL.Sem Cert.Kernel7Ideal
open Cert.Kernel7Ideal.Gen Idealize.ShloMosaic.TcCoe
open Idealize.ShloMosaic.Pipeline (Dat Cfg Window)

variable (m : (ℓ : Loc nD τ sig) → Buf (Elt Ideal) ℓ) (ρ : Dev nD → PrngReg)

/-- Where each window's block sits at a grid point. -/
theorem idx (t : Fin cfg0.N) : win0_0.index t = ![(grid0.coords t 0).val, 0]
    ∧ win0_1.index t = ![0, 0]
    ∧ win0_2.index t = ![(grid0.coords t 0).val / 16, 0, 0]
    ∧ win0_3.index t = ![(grid0.coords t 0).val / 16, 0, 0]
    ∧ win0_4.index t = ![(grid0.coords t 0).val, 0] := by
  revert t; decide +kernel

/-- One over the root of a row's mean square. -/
def scale {M : ℕ} (x : (⟨2, ![M, 4096]⟩ : Shape).Idx → EReal) (r : Fin M) : EReal :=
  Ideal.rsqrt (Ideal.div (∑ k : Fin 4096, x (ix2 r k) * x (ix2 r k)) (Ideal.ofBits FTy.f32 0x45800000#32)
    + Ideal.ofBits FTy.f32 0x358637BD#32)

/-- The normalised rows with the modulation of their sequence. -/
def whole (x : Vec Ideal S16384x4096 .f32) (g : Vec Ideal S4096 .f32) (s h : Vec Ideal S4x4096 .f32) :
    Vec Ideal S16384x4096 .bf16 :=
  fun i => (x i : EReal) * scale x (i 0) * (g (ix1 (i 1)) : EReal)
      * (1 + (s (ix2 (⟨(i 0).val / 4096, by have h : (i 0).val < 16384 := (i 0).isLt; omega⟩ : Fin 4) (i 1)) : EReal))
    + (h (ix2 (⟨(i 0).val / 4096, by have h : (i 0).val < 16384 := (i 0).isLt; omega⟩ : Fin 4) (i 1)) : EReal)

/-- One entry of a block. -/
theorem pay_apply (x : Vec Ideal S256x4096 .f32) (g : Vec Ideal S1x4096 .f32) (s h : Vec Ideal S1x1x4096 .f32)
    (j : S256x4096.Idx) :
    k0_pay1 x g s h j = (x j : EReal) * scale x (j 0) * (g (ix2 (0 : Fin 1) (j 1)) : EReal)
        * (1 + (s (ix3 (0 : Fin 1) (0 : Fin 1) (j 1)) : EReal)) + (h (ix3 (0 : Fin 1) (0 : Fin 1) (j 1)) : EReal) := by
  unfold k0_pay1 scale
  pointwise

/-- The result array after the run. -/
theorem final (c : Dev nD) : (dats m 0 c).arrAt 4 cfg0.N
    = whole (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_apply]
  refine congrArg₂ (fun p q : EReal => p + q) (congrArg₂ (fun p q : EReal => p * q) (congrArg₂ (fun p q : EReal => p * q)
    (congrArg₂ (fun p q : EReal => p * q) ?_ ?_) ?_) (congrArg (fun p : EReal => 1 + p) ?_)) ?_
  · blk_ext [iblk, idx t]
  · unfold scale
    refine congrArg (fun p : EReal => Ideal.rsqrt (Ideal.div p _ + _)) (Finset.sum_congr rfl fun k _ => ?_)
    refine congrArg₂ (fun p q : EReal => p * q) ?_ ?_ <;> blk_ext [iblk, idx t]
  all_goals
    unfold iblk
    entry_read
    blk_simp
    pointwise
    blk_ext [idx t]

/-- Narrowing changes no entry. -/
theorem narrow {s : Shape} (w : FVec Ideal s .f32) (h : FTy.bits .bf16 < FTy.bits .f32) (i : s.Idx) :
    truncf .bf16 w h i = w i := rfl

/-- Kernel and reference end with the same array. -/
theorem tie : Cert.algebraic_Kernel7Ideal_Reference7Ideal := by
  intro m g m' g' _ hag
  refine ⟨fun c => whole (m ((c : Thread nD τ).loc main_arg0)) (m ((c : Thread nD τ).loc main_arg1))
      (m ((c : Thread nD τ).loc main_arg2)) (m ((c : Thread nD τ).loc main_arg3)),
    (θ_run _ _ _).mono (fun r h c => ⟨(h c).1.trans (final m c), (h c).2⟩) (Value.run_blocks m g),
    (θ_run _ _ _).mono (fun r h c => ⟨(h c).1.trans ?_, (h c).2⟩) (Reference7Ideal.Value.run m' g')⟩
  rw [(hag c).1, (hag c).2.1, (hag c).2.2.1, (hag c).2.2.2]
  beta_reduce
  generalize m ((c.tc : Thread nD τ).loc main_arg0) = x
  generalize m ((c.tc : Thread nD τ).loc main_arg1) = g
  generalize m ((c.tc : Thread nD τ).loc main_arg2) = s
  generalize m ((c.tc : Thread nD τ).loc main_arg3) = h
  funext i
  have hi : (i 0).val < 16384 := (i 0).isLt
  have hrow (k : Fin 4096) : (Reference7Ideal.S4x4096x4096.rowMajor (ix3 (⟨(i 0).val / 4096, by omega⟩ : Fin 4)
      (⟨(i 0).val % 4096, by omega⟩ : Fin 4096) k)).val
      = (Reference7Ideal.S16384x4096.rowMajor (ix2 (i 0 : Fin 16384) k)).val := by
    rw [Shape.rowMajor_val_three, Shape.rowMajor_val_two]
    show ((i 0).val / 4096 * 4096 + (i 0).val % 4096) * 4096 + k.val = (i 0).val * 4096 + k.val
    rw [Nat.div_add_mod']
  have hx (k : Fin 4096) := shapeCast_apply x Reference7Ideal.Gen.shapeCasts_S16384x4096_S4x4096x4096 _ _ (hrow k).symm
  generalize shapeCast _ x _ = X at hx ⊢
  unfold whole scale
  have h0 : (ix2 (i 0 : Fin 16384) (i 1 : Fin 4096) : S16384x4096.Idx) = i := (eq_ix2 i).symm
  have hi1 := hx (i 1)
  rw [h0] at hi1
  rw [← hi1]
  simp only [← hx]
  refine (narrow _ _ i).trans ?_
  refine (shapeCast_apply _ _ i _ ((hrow (i 1)).trans (by rw [h0]))).trans ?_
  pointwise

end Cert.Proof.Norm7

end
-- ==== Proof.Conv8.lean ====
/-
  The gated convolution: each entry is the gate times a sum over its own position and the two before it.
-/
module

public import proofs.«01_k».proof.Defs
public import proofs.«01_k».proof.Proof.Gen.Kernel8Ideal.Value
public import proofs.«01_k».proof.Proof.Gen.Reference8Ideal.Run
public import proofs.«01_k».proof.Proof.Products
public import Idealize.ShloMosaic.Lib.IdealHost
public import Idealize.ShloMosaic.Lib.Routing.OpsSet
public import Idealize.ShloMosaic.Lib.Routing.OpsPair

@[expose] public section

set_option maxRecDepth 16384

noncomputable section

namespace Cert.Proof.Conv8

open Idealize.ShloMosaic Idealize.SL.Sem Cert.Kernel8Ideal
open Cert.Kernel8Ideal.Gen Idealize.ShloMosaic.TcCoe
open Idealize.ShloMosaic.Pipeline (Dat Cfg Window)

variable (m : (ℓ : Loc nD τ sig) → Buf (Elt Ideal) ℓ) (ρ : Dev nD → PrngReg)

/-- Where each window's block sits at a grid point. -/
theorem idx (t : Fin cfg0.N) : win0_0.index t = ![(grid0.coords t 0).val, 0]
    ∧ win0_1.index t = ![(grid0.coords t 0).val * 64 - 1, 0]
    ∧ win0_2.index t = ![0, 0]
    ∧ win0_3.index t = ![(grid0.coords t 0).val, 0] := by
  revert t; decide +kernel

/-- The arrays of the projection. -/
abbrev Whole := Vec Ideal S16384x8192 .bf16

/-- The product of the two later bands at a row. -/
def u (z : Whole) (n : Fin 16384) (l : Fin 1024) : EReal :=
  (z (ix2 n (⟨1024 + l.val, by omega⟩ : Fin 8192)) : EReal) * (z (ix2 n (⟨2048 + l.val, by omega⟩ : Fin 8192)) : EReal)

/-- The same `d` rows before, zero where the sequence has no such row. -/
def past (z : Whole) (d : ℕ) (n : Fin 16384) (l : Fin 1024) : EReal :=
  if n.val % 4096 < d then 0 else u z (⟨n.val - d, by omega⟩ : Fin 16384) l

/-- The sequence has no such row. -/
theorem past_zero (z : Whole) {d : ℕ} {n : Fin 16384} {l : Fin 1024} (h : n.val % 4096 < d) : past z d n l = 0 := if_pos h

/-- The sequence has the row. -/
theorem past_eq (z : Whole) {d : ℕ} {n n' : Fin 16384} {l : Fin 1024} (h : d ≤ n.val % 4096) (e : n'.val = n.val - d) :
    past z d n l = u z n' l :=
  (if_neg (Nat.not_lt.2 h)).trans (congrArg (fun k => u z k l) (Fin.ext e.symm))

/-- The gated convolution. -/
def whole (z : Whole) (w : Vec Ideal S3x1024 .f32) : Vec Ideal S16384x1024 .bf16 :=
  fun i => (z (ix2 (i 0 : Fin 16384) (⟨(i 1 : Fin 1024).val, by have h : (i 1).val < 1024 := (i 1).isLt; omega⟩ : Fin 8192)) : EReal)
    * ((w (ix2 (0 : Fin 3) (i 1 : Fin 1024)) : EReal) * past z 2 (i 0) (i 1) + (w (ix2 (1 : Fin 3) (i 1 : Fin 1024)) : EReal) * past z 1 (i 0) (i 1)
      + (w (ix2 (2 : Fin 3) (i 1 : Fin 1024)) : EReal) * u z (i 0) (i 1))

/-- The grid has 32 points. -/
theorem lt32 (t : Fin cfg0.N) : (grid0.coords t 0).val < 32 := (grid0.coords t 0).isLt

/-- An entry of a point's block of the projection. -/
theorem blk0 (c : Dev nD) (t : Fin cfg0.N) (r : Fin 512) (k : Fin 3072) :
    X0_0 m c t (ix2 r k) = m ((c : Thread nD τ).loc main_arg0) (ix2 (⟨(grid0.coords t 0).val * 512 + r.val, by have := lt32 t; omega⟩ : Fin 16384) (⟨k.val, by omega⟩ : Fin 8192)) := by
  unfold X0_0 Pipeline.Window.fill
  rw [dif_pos (moved0_0 t _)]
  blk_ext [iblk, idx t]

/-- An entry of the eight rows before a point's block. -/
theorem blk1 (c : Dev nD) (t : Fin cfg0.N) (r : Fin 8) (k : Fin 3072) :
    X0_1 m c t (ix2 r k) = m ((c : Thread nD τ).loc main_arg0) (ix2 (⟨((grid0.coords t 0).val * 64 - 1) * 8 + r.val, by have := lt32 t; omega⟩ : Fin 16384) (⟨k.val, by omega⟩ : Fin 8192)) := by
  unfold X0_1 Pipeline.Window.fill
  rw [dif_pos (moved0_1 t _)]
  blk_ext [iblk, idx t]

/-- The padded weights hold the weights in their first rows. -/
theorem padded (x : Vec Ideal S8x1024 .f32) (w : Vec Ideal S3x1024 .f32) (k : Fin 3) (l : Fin 1024) :
    Host.scatter scatter_S8x1024_S1_S3x1024_01_n_0_0 (fun _ b => b) x (broadcastInDim S1 ![] bcast_S_S1 (constantI S_ 32 0#32)) w
      (ix2 (⟨k.val, by omega⟩ : Fin 8) l) = w (ix2 k l) := by
  have h (j : S3x1024.Idx) := Routing.resultIdx?_ix2 (R := 8) (C := 1024) scatter_S8x1024_S1_S3x1024_01_n_0_0 j
    (broadcastInDim S1 ![] bcast_S_S1 (constantI S_ 32 0#32)) (⟨k.val, by omega⟩ : Fin 8) l
  have hs (j : S3x1024.Idx) : ∀ a, ScatterDims.start scatter_S8x1024_S1_S3x1024_01_n_0_0 j
    (broadcastInDim S1 ![] bcast_S_S1 (constantI S_ 32 0#32)) a = 0 := by
    intro a
    match a with
    | ⟨0, _⟩ => rfl
    | ⟨1, _⟩ => rfl
  have hw (j : S3x1024.Idx) : ScatterDims.window scatter_S8x1024_S1_S3x1024_01_n_0_0 j 0 = (j 0).val
    ∧ ScatterDims.window scatter_S8x1024_S1_S3x1024_01_n_0_0 j 1 = (j 1).val := ⟨rfl, rfl⟩
  simp only [hs, hw, zero_add, Nat.cast_inj] at h
  refine Routing.scatter_set_hit _ x _ w _ _ (fun j hj => ?_) (ix2 k l) ((h _).2 ⟨rfl, rfl⟩)
  obtain ⟨h0, h1⟩ := (h j).1 hj
  refine congrArg w ((eq_ix2 j).trans ?_)
  rw [show (j 0 : Fin 3) = k from Fin.ext h0, show (j 1 : Fin 1024) = l from Fin.ext h1]

/-- The block of weights. -/
theorem blk2 (c : Dev nD) (t : Fin cfg0.N) (k : Fin 3) (l : Fin 1024) :
    iblk m c 2 t (ix2 (⟨k.val, by omega⟩ : Fin 8) l) = m ((c : Thread nD τ).loc main_arg1) (ix2 k l) := by
  unfold iblk
  entry_read
  have h := padded (broadcastInDim S8x1024 ![] bcast_S_S8x1024 (constant (F := Ideal) S_ .f32 0x00000000#32))
    (m ((c : Thread nD τ).loc main_arg1)) k l
  refine Eq.trans ?_ h
  clear h
  generalize (Host.scatter scatter_S8x1024_S1_S3x1024_01_n_0_0 _ _ _ _ : Vec Ideal S8x1024 .f32) = q
  blk_ext [idx t]

/-- Where a block starts a sequence. -/
theorem starts : ∀ i : Fin 32, (Scalar.cmpi .eq (Scalar.select
      (Scalar.andi (Scalar.xori (Scalar.cmpi .slt (Scalar.remsi (Scalar.muli (BitVec.ofNat 32 i.val) 512#32)
          (Scalar.select (Scalar.cmpi .eq 4096#32 0#32) 1#32 4096#32)) 0#32)
        (Scalar.cmpi .slt (Scalar.select (Scalar.cmpi .eq 4096#32 0#32) 1#32 4096#32) 0#32))
        (Scalar.cmpi .ne (Scalar.remsi (Scalar.muli (BitVec.ofNat 32 i.val) 512#32)
          (Scalar.select (Scalar.cmpi .eq 4096#32 0#32) 1#32 4096#32)) 0#32))
      (Scalar.addi (Scalar.remsi (Scalar.muli (BitVec.ofNat 32 i.val) 512#32)
          (Scalar.select (Scalar.cmpi .eq 4096#32 0#32) 1#32 4096#32)) (Scalar.select (Scalar.cmpi .eq 4096#32 0#32) 1#32 4096#32))
      (Scalar.remsi (Scalar.muli (BitVec.ofNat 32 i.val) 512#32)
          (Scalar.select (Scalar.cmpi .eq 4096#32 0#32) 1#32 4096#32))) 0#32 : BitVec 1) = if i.val % 8 = 0 then 1#1 else 0#1 := by
  decide +kernel

/-- The product of the two later bands of a block. -/
theorem prods (z : Vec Ideal S512x3072 .bf16) (j : S512x1024.Idx) :
    k0_pay4 z j = (z (ix2 (j 0 : Fin 512) (⟨1024 + (j 1 : Fin 1024).val, by have h : (j 1).val < 1024 := (j 1).isLt; omega⟩ : Fin 3072)) : EReal)
      * (z (ix2 (j 0 : Fin 512) (⟨2048 + (j 1 : Fin 1024).val, by have h : (j 1).val < 1024 := (j 1).isLt; omega⟩ : Fin 3072)) : EReal) := by
  unfold k0_pay4 k0_pay2
  pointwise

/-- The same of the rows before, zero where the block starts a sequence. -/
theorem befores (t : Fin cfg0.N) (z : Vec Ideal S8x3072 .bf16) (j : S8x1024.Idx) :
    k0_pay5 (grid0.coords t) z j = if (grid0.coords t 0).val % 8 = 0 then (0 : EReal)
      else (z (ix2 (j 0 : Fin 8) (⟨1024 + (j 1 : Fin 1024).val, by have h : (j 1).val < 1024 := (j 1).isLt; omega⟩ : Fin 3072)) : EReal)
        * (z (ix2 (j 0 : Fin 8) (⟨2048 + (j 1 : Fin 1024).val, by have h : (j 1).val < 1024 := (j 1).isLt; omega⟩ : Fin 3072)) : EReal) := by
  unfold k0_pay5
  dsimp only
  have h := starts ⟨(grid0.coords t 0).val, lt32 t⟩
  simp only at h
  rw [h]
  split_ifs
  all_goals pointwise

/-- The comparison of a row with a number below two. -/
theorem row_eq (x y : EReal) (r : Fin 512) (n : Fin 2) :
    Scalar.select (IntOp.cmpi CmpIPredicate.eq (BitVec.ofNat 32 r.val) (BitVec.ofNat 32 n.val)) x y = if r.val = n.val then x else y := by
  have h : ∀ (r : Fin 512) (n : Fin 2), IntOp.cmpi CmpIPredicate.eq (BitVec.ofNat 32 r.val) (BitVec.ofNat 32 n.val)
      = if r.val = n.val then 1#1 else 0#1 := by decide +kernel
  rw [h]
  split_ifs <;> rfl

/-- One entry of a block. -/
theorem pay_apply (z : Vec Ideal S512x3072 .bf16) (y : Vec Ideal S8x3072 .bf16) (w : Vec Ideal S8x1024 .f32) (t : Fin cfg0.N)
    (r : Fin 512) (l : Fin 1024) :
    k0_pay1 (k0_pay3 z) (k0_pay4 z) (k0_pay7 (grid0.coords t) y) (k0_pay8 (grid0.coords t) z y) k0_pay9 k0_pay10 (k0_pay11 z)
      (k0_pay12 (grid0.coords t) y) w (ix2 r l)
    = (z (ix2 r (⟨l.val, by omega⟩ : Fin 3072)) : EReal) *
      ((w (ix2 (0 : Fin 8) l) : EReal) * (if r.val = 0 then (k0_pay5 (grid0.coords t) y (ix2 (6 : Fin 8) l) : EReal) else
          if r.val = 1 then (k0_pay5 (grid0.coords t) y (ix2 (7 : Fin 8) l) : EReal) else (k0_pay4 z (ix2 (⟨(r.val + 512 - 2) % 512, by omega⟩ : Fin 512) l) : EReal))
        + (w (ix2 (1 : Fin 8) l) : EReal) * (if r.val = 0 then (k0_pay5 (grid0.coords t) y (ix2 (7 : Fin 8) l) : EReal) else
          (k0_pay4 z (ix2 (⟨(r.val + 512 - 1) % 512, by omega⟩ : Fin 512) l) : EReal))
        + (w (ix2 (2 : Fin 8) l) : EReal) * (k0_pay4 z (ix2 r l) : EReal)) := by
  unfold k0_pay1 k0_pay3 k0_pay7 k0_pay8 k0_pay9 k0_pay10 k0_pay11 k0_pay12 k0_pay6 k0_pay2
  generalize k0_pay4 z = q
  generalize k0_pay5 (grid0.coords t) y = p
  have h0 (x y : EReal) := row_eq x y r 0
  have h1 (x y : EReal) := row_eq x y r 1
  simp only [Fin.val_zero, Fin.val_one] at h0 h1
  pointwise
  rw [h0, h0, h1]

/-- What a grid point writes. -/
theorem point (c : Dev nD) (t : Fin cfg0.N) (r : Fin 512) (l : Fin 1024) :
    k0_pay1 (k0_pay3 (X0_0 m c t)) (k0_pay4 (X0_0 m c t)) (k0_pay7 (grid0.coords t) (X0_1 m c t))
      (k0_pay8 (grid0.coords t) (X0_0 m c t) (X0_1 m c t)) k0_pay9 k0_pay10 (k0_pay11 (X0_0 m c t))
      (k0_pay12 (grid0.coords t) (X0_1 m c t)) (iblk m c 2 t) (ix2 r l)
    = whole (m ((c : Thread nD τ).loc main_arg0)) (m ((c : Thread nD τ).loc main_arg1))
        (ix2 (⟨(grid0.coords t 0).val * 512 + r.val, by have := lt32 t; omega⟩ : Fin 16384) l) := by
  have ht := lt32 t
  have hq (r : Fin 512) : k0_pay4 (X0_0 m c t) (ix2 r l) = u (m ((c : Thread nD τ).loc main_arg0))
      (⟨(grid0.coords t 0).val * 512 + r.val, by omega⟩ : Fin 16384) l :=
    (prods _ _).trans (congrArg₂ (fun p q : EReal => p * q) (blk0 m c t r _) (blk0 m c t r _))
  have hp (r : Fin 8) : k0_pay5 (grid0.coords t) (X0_1 m c t) (ix2 r l) = if (grid0.coords t 0).val % 8 = 0 then 0
      else u (m ((c : Thread nD τ).loc main_arg0)) (⟨((grid0.coords t 0).val * 64 - 1) * 8 + r.val, by omega⟩ : Fin 16384) l := by
    refine (befores t _ _).trans ?_
    split_ifs
    · rfl
    · exact congrArg₂ (fun p q : EReal => p * q) (blk1 m c t r _) (blk1 m c t r _)
  rw [pay_apply, hp, hp, hq, hq, hq]
  refine congrArg₂ (fun p q : EReal => p * q) (blk0 m c t r _) (congrArg₂ (fun p q : EReal => p + q)
    (congrArg₂ (fun p q : EReal => p + q) (congrArg₂ (fun p q : EReal => p * q) (blk2 m c t 0 l) ?_)
      (congrArg₂ (fun p q : EReal => p * q) (blk2 m c t 1 l) ?_)) (congrArg₂ (fun p q : EReal => p * q) (blk2 m c t 2 l) rfl))
  · split_ifs with h₁ h₂ h₂ h₃
    · exact (past_zero _ (by show ((grid0.coords t 0).val * 512 + r.val) % 4096 < 2; omega)).symm
    · exact (past_eq _ (by show 2 ≤ ((grid0.coords t 0).val * 512 + r.val) % 4096; omega)
        (by show ((grid0.coords t 0).val * 64 - 1) * 8 + 6 = (grid0.coords t 0).val * 512 + r.val - 2; omega)).symm
    · exact (past_zero _ (by show ((grid0.coords t 0).val * 512 + r.val) % 4096 < 2; omega)).symm
    · exact (past_eq _ (by show 2 ≤ ((grid0.coords t 0).val * 512 + r.val) % 4096; omega)
        (by show ((grid0.coords t 0).val * 64 - 1) * 8 + 7 = (grid0.coords t 0).val * 512 + r.val - 2; omega)).symm
    · exact (past_eq _ (by show 2 ≤ ((grid0.coords t 0).val * 512 + r.val) % 4096; omega)
        (by show (grid0.coords t 0).val * 512 + (r.val + 512 - 2) % 512 = (grid0.coords t 0).val * 512 + r.val - 2; omega)).symm
  · split_ifs with h₁ h₂
    · exact (past_zero _ (by show ((grid0.coords t 0).val * 512 + r.val) % 4096 < 1; omega)).symm
    · exact (past_eq _ (by show 1 ≤ ((grid0.coords t 0).val * 512 + r.val) % 4096; omega)
        (by show ((grid0.coords t 0).val * 64 - 1) * 8 + 7 = (grid0.coords t 0).val * 512 + r.val - 1; omega)).symm
    · exact (past_eq _ (by show 1 ≤ ((grid0.coords t 0).val * 512 + r.val) % 4096; omega)
        (by show (grid0.coords t 0).val * 512 + (r.val + 512 - 1) % 512 = (grid0.coords t 0).val * 512 + r.val - 1; omega)).symm

/-- The result array after the run. -/
theorem final (c : Dev nD) : (dats m 0 c).arrAt 3 cfg0.N
    = whole (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  obtain ⟨r, l, rfl⟩ : ∃ (r : Fin 512) (l : Fin 1024), y = ix2 r l := ⟨y 0, y 1, eq_ix2 y⟩
  refine (point m c t r l).trans ?_
  refine congrArg (whole _ _) ?_
  blk_ext [idx t]

/-- Narrowing changes no entry. -/
theorem narrow {s : Shape} (w : FVec Ideal s .f32) (h : FTy.bits .bf16 < FTy.bits .f32) (i : s.Idx) :
    truncf .bf16 w h i = w i := rfl

/-- Kernel and reference end with the same array. -/
theorem tie : Cert.algebraic_Kernel8Ideal_Reference8Ideal := by
  intro m g m' g' _ hag
  refine ⟨fun c => whole (m ((c : Thread nD τ).loc main_arg0)) (m ((c : Thread nD τ).loc main_arg1)),
    (θ_run _ _ _).mono (fun r h c => ⟨(h c).1.trans (final m c), (h c).2⟩) (Value.run_blocks m g),
    (θ_run _ _ _).mono (fun r h c => ⟨(h c).1.trans ?_, (h c).2⟩) (Reference8Ideal.Value.run m' g')⟩
  rw [(hag c).1, (hag c).2]
  beta_reduce
  generalize m ((c.tc : Thread nD τ).loc main_arg0) = z
  generalize m ((c.tc : Thread nD τ).loc main_arg1) = w
  funext i
  obtain ⟨n, l, rfl⟩ : ∃ (n : Fin 16384) (l : Fin 1024), i = ix2 n l := ⟨i 0, i 1, eq_ix2 i⟩
  have hx (b : Fin 4) (s : Fin 4096) (k : Fin 3072) : shapeCast Reference8Ideal.S4x4096x3072
      (extf (F := Ideal) .f32 (extractStridedSlice Reference8Ideal.S16384x3072 ![0, 0] z Reference8Ideal.Gen.slices_S16384x8192_S16384x3072_0_0) Reference8Ideal.Gen.bitsLt_bf16_f32)
      Reference8Ideal.Gen.shapeCasts_S16384x3072_S4x4096x3072 (ix3 b s k)
      = z (ix2 (⟨b.val * 4096 + s.val, by omega⟩ : Fin 16384) (⟨k.val, by omega⟩ : Fin 8192)) := by
    refine (shapeCast_apply _ _ _ (ix2 (⟨b.val * 4096 + s.val, by omega⟩ : Fin 16384) k) ?_).trans ?_
    · rw [Shape.rowMajor_val_three, Shape.rowMajor_val_two]
      rfl
    · pointwise
  generalize shapeCast Reference8Ideal.S4x4096x3072 _ _ = X at hx ⊢
  refine (narrow _ _ _).trans ?_
  refine (shapeCast_apply _ _ _ (ix3 (⟨n.val / 4096, by omega⟩ : Fin 4) (⟨n.val % 4096, by omega⟩ : Fin 4096) l) ?_).trans ?_
  · rw [Shape.rowMajor_val_three, Shape.rowMajor_val_two]
    show (n.val / 4096 * 4096 + n.val % 4096) * 1024 + l.val = n.val * 1024 + l.val
    rw [Nat.div_add_mod']
  have hu (b : Fin 4) (s : Fin 4096) : X (ix3 b s (⟨1024 + l.val, by omega⟩ : Fin 3072)) * X (ix3 b s (⟨2048 + l.val, by omega⟩ : Fin 3072))
      = u z (⟨b.val * 4096 + s.val, by omega⟩ : Fin 16384) l := congrArg₂ (fun p q : EReal => p * q) (hx b s _) (hx b s _)
  have hz : (FloatOps.sitofp (F := Ideal) FTy.f32 0#32 : EReal) = 0 := by
    show (((0#32).toInt : ℝ) : EReal) = 0
    norm_num
  have hn : n.val / 4096 * 4096 + n.val % 4096 = n.val := Nat.div_add_mod' _ _
  pointwise
  clear hag
  refine congrArg₂ (fun p q : EReal => p * q) ((hx _ _ _).trans ?_) (congrArg₂ (fun p q : EReal => p + q)
    (congrArg₂ (fun p q : EReal => p + q) (congrArg (fun q : EReal => _ * q) ?_) (congrArg (fun q : EReal => _ * q) ?_))
    (congrArg (fun q : EReal => _ * q) ?_))
  · exact congrArg (fun k : Fin 16384 => z (ix2 k (⟨l.val, by omega⟩ : Fin 8192))) (Fin.ext hn)
  · show _ = past z 2 n l
    split_ifs with h₁
    · exact (hu _ _).trans (past_eq z (by omega) (by show n.val / 4096 * 4096 + (n.val % 4096 - 2) = n.val - 2; omega)).symm
    · exact hz.trans (past_zero z (by omega)).symm
  · show _ = past z 1 n l
    split_ifs with h₁
    · exact (hu _ _).trans (past_eq z (by omega) (by show n.val / 4096 * 4096 + (1 + n.val % 4096 - 2) = n.val - 1; omega)).symm
    · exact hz.trans (past_zero z (by omega)).symm
  · rw [dif_pos (by omega)]
    exact (hu _ _).trans (congrArg (fun k : Fin 16384 => u z k l) (Fin.ext hn))

end Cert.Proof.Conv8

end
-- ==== Proof.Tiles.lean ====
module

public import proofs.«01_k».proof.Defs
public import Mathlib.Analysis.SpecialFunctions.Exp
public import proofs.«01_k».proof.Proof.Products
public import Idealize.ShloMosaic.Lib.IdealHost

/-!
Tables of two heads laid side by side in a hundred and twenty-eight lanes, and block-diagonal tables of two heads, as
vectors of extended reals.
-/

@[expose] public section

noncomputable section

namespace Cert.Proof.Tiles

open Idealize.ShloMosaic

/-- A pair of heads' tables. -/
abbrev Two := Fin 2 → Fin 64 → Fin 64 → ℝ

/-- The head of a lane of the pair. -/
def hd (p : Fin 128) : Fin 2 := ⟨p.val / 64, by omega⟩
/-- The place of a lane within its head. -/
def tm (p : Fin 128) : Fin 64 := ⟨p.val % 64, by omega⟩
/-- The lane of a head's place. -/
def mk (h : Fin 2) (s : Fin 64) : Fin 128 := ⟨64 * h.val + s.val, by omega⟩

@[simp] theorem hd_mk (h : Fin 2) (s : Fin 64) : hd (mk h s) = h := Fin.ext (by simp only [hd, mk]; omega)
@[simp] theorem tm_mk (h : Fin 2) (s : Fin 64) : tm (mk h s) = s := Fin.ext (by simp only [tm, mk]; omega)
theorem mk_hd_tm (p : Fin 128) : mk (hd p) (tm p) = p := Fin.ext (by simp only [hd, tm, mk]; omega)

/-- Lanes are pairs of a head and a place. -/
def lanes : Fin 2 × Fin 64 ≃ Fin 128 where
  toFun x := mk x.1 x.2
  invFun p := (hd p, tm p)
  left_inv x := by simp
  right_inv p := mk_hd_tm p

/-- A sum over the lanes, head by head. -/
theorem sum128 {A : Type} [AddCommMonoid A] (f : Fin 128 → A) : ∑ p, f p = ∑ h : Fin 2, ∑ s : Fin 64, f (mk h s) := by
  rw [← Equiv.sum_comp lanes f, Fintype.sum_prod_type]; rfl

/-- Head by head, the product of two tables. -/
def mmT (A B : Two) : Two := fun h t n => ∑ s, A h t s * B h s n
/-- Head by head, the product with a transpose on the right. -/
def mtT (A B : Two) : Two := fun h t n => ∑ s, A h t s * B h n s
/-- Head by head, the product with a transpose on the left. -/
def tmT (A B : Two) : Two := fun h t n => ∑ s, A h s t * B h s n

/-- A block-diagonal table. -/
def blk (Y : Two) (p q : Fin 128) : ℝ := if hd p = hd q then Y (hd p) (tm p) (tm q) else 0

theorem blk_transpose (Y : Two) (p q : Fin 128) : blk Y p q = blk (fun h t n => Y h n t) q p := by
  unfold blk
  by_cases h : hd p = hd q
  · rw [if_pos h, if_pos h.symm, h]
  · rw [if_neg h, if_neg (Ne.symm h)]

theorem blk_mul (A B : Two) (p q : Fin 128) : ∑ k, blk A p k * blk B k q = blk (mmT A B) p q := by
  rw [sum128]
  simp only [blk, hd_mk, tm_mk]
  rw [Finset.sum_eq_single (hd p)]
  · simp only [if_true]
    by_cases h : hd p = hd q
    · simp [h, mmT]
    · simp [h]
  · intro b _ hb
    refine Finset.sum_eq_zero fun s _ => ?_
    rw [if_neg (Ne.symm hb), zero_mul]
  · intro h; exact absurd (Finset.mem_univ _) h

theorem blk_mul_t (A B : Two) (p q : Fin 128) : ∑ k, blk A p k * blk B q k = blk (mtT A B) p q := by
  exact (Finset.sum_congr rfl fun k _ => by rw [blk_transpose B q k]).trans (blk_mul A _ p q)

theorem blk_t_mul (A B : Two) (p q : Fin 128) : ∑ k, blk A k p * blk B k q = blk (tmT A B) p q := by
  exact (Finset.sum_congr rfl fun k _ => by rw [blk_transpose A k p]).trans (blk_mul _ B p q)

/-- Products of real numbers summed over the extended reals. -/
theorem coe_sum_mul {n : ℕ} (f g : Fin n → ℝ) : ∑ k, ((f k : ℝ) : EReal) * ((g k : ℝ) : EReal) = ((∑ k, f k * g k : ℝ) : EReal) := by
  induction n with
  | zero => simp
  | succ n ih => rw [Fin.sum_univ_succ, Fin.sum_univ_succ, EReal.coe_add, ih, EReal.coe_mul]

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, EReal.coe_add, ih]

variable {φ : FTy}

/-- Rows of two heads side by side. -/
def upR (Y : Two) : FVec Ideal ⟨2, ![64, 128]⟩ φ := fun i => ((Y (hd (i 1)) (i 0) (tm (i 1)) : ℝ) : EReal)
/-- One row of two heads. -/
def upP (y : Fin 2 → Fin 64 → ℝ) : FVec Ideal ⟨2, ![1, 128]⟩ φ := fun i => ((y (hd (i 1)) (tm (i 1)) : ℝ) : EReal)
/-- A block-diagonal table of two heads. -/
def upB (Y : Two) : FVec Ideal ⟨2, ![128, 128]⟩ φ := fun i => ((blk Y (i 0) (i 1) : ℝ) : EReal)
/-- The same, under one leading coordinate. -/
def upH (Y : Two) : FVec Ideal ⟨3, ![1, 128, 128]⟩ φ := fun i => ((blk Y (i 1) (i 2) : ℝ) : EReal)

/-- A column of a double table within its half. -/
def half (q : Fin 256) : Fin 128 := ⟨q.val % 128, by omega⟩
/-- Two block-diagonal tables side by side. -/
def two (A V : Two) (p : Fin 128) (q : Fin 256) : ℝ := if q.val < 128 then blk A p (half q) else blk V p (half q)
def upX (A V : Two) : FVec Ideal ⟨2, ![128, 256]⟩ φ := fun i => ((two A V (i 0) (i 1) : ℝ) : EReal)

theorem two_mul (L A V : Two) (p : Fin 128) (q : Fin 256) :
    ∑ k, blk L p k * two A V k q = two (mmT L A) (mmT L V) p q := by
  unfold two
  by_cases h : q.val < 128
  · simp only [h, if_true]; exact blk_mul _ _ _ _
  · simp only [h, if_false]; exact blk_mul _ _ _ _

/-! Products onto zero. -/

variable {φ₁ φ₂ : FTy}

theorem nn_up {M K N : ℕ} (f : Fin M → Fin K → ℝ) (g : Fin K → Fin N → ℝ) (e : Fin M → Fin N → ℝ)
    (he : ∀ p q, ∑ k, f p k * g k q = e p q) (a : FVec Ideal ⟨2, ![M, K]⟩ φ₁) (b : FVec Ideal ⟨2, ![K, N]⟩ φ₂)
    (ha : ∀ i, a i = ((f (i 0) (i 1) : ℝ) : EReal)) (hb : ∀ i, b i = ((g (i 0) (i 1) : ℝ) : EReal))
    (j : (⟨2, ![M, N]⟩ : Shape).Idx) :
    FloatOps.matmul (DotDims.plain M K N) none a b (constant ⟨2, ![M, N]⟩ .f32 0x00000000#32) j
      = ((e (j 0) (j 1) : ℝ) : EReal) := by
  refine (Products.nn_zero none a b j).trans ?_
  refine Eq.trans ?_ (congrArg (fun x : ℝ => (x : EReal)) (he (j 0) (j 1)))
  refine Eq.trans ?_ (coe_sum_mul _ _)
  exact Finset.sum_congr rfl fun k _ => congrArg₂ (fun x y : EReal => x * y) (ha _) (hb _)

theorem nt_up {M K N : ℕ} (f : Fin M → Fin K → ℝ) (g : Fin N → Fin K → ℝ) (e : Fin M → Fin N → ℝ)
    (he : ∀ p q, ∑ k, f p k * g q k = e p q) (a : FVec Ideal ⟨2, ![M, K]⟩ φ₁) (b : FVec Ideal ⟨2, ![N, K]⟩ φ₂)
    (ha : ∀ i, a i = ((f (i 0) (i 1) : ℝ) : EReal)) (hb : ∀ i, b i = ((g (i 0) (i 1) : ℝ) : EReal))
    (j : (⟨2, ![M, N]⟩ : Shape).Idx) :
    FloatOps.matmul (DotDims.transposedRhs M K N) none a b (constant ⟨2, ![M, N]⟩ .f32 0x00000000#32) j
      = ((e (j 0) (j 1) : ℝ) : EReal) := by
  refine (Products.nt_zero none a b j).trans ?_
  refine Eq.trans ?_ (congrArg (fun x : ℝ => (x : EReal)) (he (j 0) (j 1)))
  refine Eq.trans ?_ (coe_sum_mul _ _)
  exact Finset.sum_congr rfl fun k _ => congrArg₂ (fun x y : EReal => x * y) (ha _) (hb _)

theorem tn_up {M K N : ℕ} (w : DotDims.WF ⟨2, ![K, M]⟩ ⟨2, ![K, N]⟩ ⟨2, ![M, N]⟩ [0] [0] [1] [1] [] [])
    (f : Fin K → Fin M → ℝ) (g : Fin K → Fin N → ℝ) (e : Fin M → Fin N → ℝ)
    (he : ∀ p q, ∑ k, f k p * g k q = e p q) (a : FVec Ideal ⟨2, ![K, M]⟩ φ₁) (b : FVec Ideal ⟨2, ![K, N]⟩ φ₂)
    (ha : ∀ i, a i = ((f (i 0) (i 1) : ℝ) : EReal)) (hb : ∀ i, b i = ((g (i 0) (i 1) : ℝ) : EReal))
    (j : (⟨2, ![M, N]⟩ : Shape).Idx) :
    FloatOps.matmul (⟨[0], [0], [1], [1], [], [], w⟩ : DotDims _ _ _) none a b
        (constant ⟨2, ![M, N]⟩ .f32 0x00000000#32) j = ((e (j 0) (j 1) : ℝ) : EReal) := by
  refine (Products.tn_zero w none a b j).trans ?_
  refine Eq.trans ?_ (congrArg (fun x : ℝ => (x : EReal)) (he (j 0) (j 1)))
  refine Eq.trans ?_ (coe_sum_mul _ _)
  exact Finset.sum_congr rfl fun k _ => congrArg₂ (fun x y : EReal => x * y) (ha _) (hb _)

/-! The two halves of a split number: what the first half leaves is zero. -/

theorem coe_sub_self (x : ℝ) : (x : EReal) - (x : EReal) = ((0 : ℝ) : EReal) := by
  rw [← EReal.coe_sub, sub_self]

end Cert.Proof.Tiles

end
-- ==== Proof.Masks.lean ====
module

public import proofs.«01_k».proof.Defs
public import proofs.«01_k».proof.Proof.Gen.KernelIdeal.Skeleton
public import proofs.«01_k».proof.Proof.Tiles

/-!
The masks of the recurrence's kernel: same head, strictly earlier step of the same head, not later step of the same head.
-/

@[expose] public section

set_option maxRecDepth 16384

noncomputable section

namespace Cert.Proof.Masks

open Idealize.ShloMosaic Cert.KernelIdeal Cert.KernelIdeal.Gen
open Cert.Proof.Tiles

/-- The row numbers. -/
abbrev rowN : IVec S128x128 32 := iota .tc S128x128 32 [0] iota_S128x128_d0_w32
/-- The column numbers. -/
abbrev colN : IVec S128x128 32 := iota .tc S128x128 32 [1] iota_S128x128_d1_w32

def same : IVec S128x128 1 := k0_pay6 colN k0_pay3 (64#32) k0_pay4 k0_pay5 1#32 0#32
def inclM : IVec S128x128 1 := k0_pay11 rowN colN (k0_pay7 rowN) (64#32) (k0_pay8 colN) (k0_pay9 colN) 1#32
def strictM : IVec S128x128 1 := k0_pay12 rowN colN (k0_pay7 rowN) (64#32) (k0_pay8 colN) (k0_pay9 colN) 1#32
def grp : FVec Ideal S128x128 .bf16 := k0_pay16 colN (k0_pay13 rowN) (64#32) (k0_pay14 colN) (k0_pay15 colN) 0#32
def lower : FVec Ideal S64x64 .bf16 := k0_pay17

theorem rowN_at (i : S128x128.Idx) : rowN i = BitVec.ofNat 32 (i 0).val := by
  show BitVec.ofNat 32 (0 * _ + (i 0).val) = _
  rw [Nat.zero_mul, Nat.zero_add]
theorem colN_at (i : S128x128.Idx) : colN i = BitVec.ofNat 32 (i 1).val := by
  show BitVec.ofNat 32 (0 * _ + (i 1).val) = _
  rw [Nat.zero_mul, Nat.zero_add]

/-- The quotient by sixty-four of a lane number, as the kernel computes it. -/
theorem quot (p : Fin 128) : k0_pay3 (ix2 p (0 : Fin 128)) = BitVec.ofNat 32 (p.val / 64) := by
  revert p; decide +kernel

theorem eqWord (p q : Fin 128) : IntOp.cmpi .eq (k0_pay3 (ix2 p (0 : Fin 128))) (k0_pay3 (ix2 q (0 : Fin 128)))
    = if hd p = hd q then 1#1 else 0#1 := by
  rw [quot, quot]
  have : ∀ a b : Fin 2, IntOp.cmpi .eq (BitVec.ofNat 32 a.val) (BitVec.ofNat 32 b.val) = if a = b then 1#1 else 0#1 := by decide
  exact this (hd p) (hd q)

theorem same_at (i : S128x128.Idx) : same i = if hd (i 0) = hd (i 1) then 1#1 else 0#1 :=
  (show same i = IntOp.cmpi .eq (k0_pay3 (ix2 (i 0) (0 : Fin 128))) (k0_pay3 (ix2 (i 1) (0 : Fin 128))) from rfl).trans
    (eqWord (i 0) (i 1))

theorem ltWord (p q : Fin 128) : IntOp.cmpi .slt (BitVec.ofNat 32 q.val) (BitVec.ofNat 32 p.val)
    = if q < p then 1#1 else 0#1 := by
  revert p q; decide +kernel

theorem leWord (p q : Fin 128) : IntOp.cmpi .sle (BitVec.ofNat 32 q.val) (BitVec.ofNat 32 p.val)
    = if q ≤ p then 1#1 else 0#1 := by
  revert p q; decide +kernel

theorem strictM_at (i : S128x128.Idx) : strictM i = (if hd (i 0) = hd (i 1) then 1#1 else 0#1) &&& (if ((i 1 : Fin 128)) < (i 0 : Fin 128) then 1#1 else 0#1) :=
  (show strictM i = (IntOp.cmpi .eq (k0_pay3 (ix2 (i 0) (0 : Fin 128))) (k0_pay3 (ix2 (i 1) (0 : Fin 128))))
      &&& (IntOp.cmpi .slt (colN i) (rowN i)) from rfl).trans
    (congrArg₂ (fun a b : BitVec 1 => a &&& b) (eqWord (i 0) (i 1))
      ((congrArg₂ (IntOp.cmpi .slt) (colN_at i) (rowN_at i)).trans (ltWord (i 0) (i 1))))

theorem inclM_at (i : S128x128.Idx) : inclM i = (if hd (i 0) = hd (i 1) then 1#1 else 0#1) &&& (if ((i 1 : Fin 128)) ≤ (i 0 : Fin 128) then 1#1 else 0#1) :=
  (show inclM i = (IntOp.cmpi .eq (k0_pay3 (ix2 (i 0) (0 : Fin 128))) (k0_pay3 (ix2 (i 1) (0 : Fin 128))))
      &&& (IntOp.cmpi .sle (colN i) (rowN i)) from rfl).trans
    (congrArg₂ (fun a b : BitVec 1 => a &&& b) (eqWord (i 0) (i 1))
      ((congrArg₂ (IntOp.cmpi .sle) (colN_at i) (rowN_at i)).trans (leWord (i 0) (i 1))))

theorem one_lit : (Scalar.ofBits .f32 0x3F800000#32 : Ideal .f32) = ((1 : ℝ) : EReal) := by
  refine (Ideal.ofBits_one_f32).trans ?_; norm_cast
theorem zero_lit : (Scalar.ofBits .f32 0x00000000#32 : Ideal .f32) = ((0 : ℝ) : EReal) := by
  refine (Ideal.ofBits_zero_f32).trans ?_; norm_cast

/-- A choice by a condition's word. -/
theorem sel (c : Prop) [Decidable c] {A : Type} (x y : A) : Scalar.select (if c then 1#1 else 0#1) x y = if c then x else y := by
  unfold Scalar.select; by_cases h : c <;> simp [h]

theorem sel2 (c d : Prop) [Decidable c] [Decidable d] {A : Type} (x y : A) :
    Scalar.select ((if c then 1#1 else 0#1) &&& (if d then 1#1 else 0#1)) x y = if c ∧ d then x else y := by
  unfold Scalar.select; by_cases h : c <;> by_cases h' : d <;> simp [h, h']

theorem grp_at (i : S128x128.Idx) : grp i = ((if hd (i 0) = hd (i 1) then 1 else 0 : ℝ) : EReal) := by
  refine (show grp i = Scalar.select (IntOp.cmpi .eq (k0_pay3 (ix2 (i 0) (0 : Fin 128))) (k0_pay3 (ix2 (i 1) (0 : Fin 128))))
    (Scalar.ofBits .f32 0x3F800000#32 : Ideal .f32) (Scalar.ofBits .f32 0x00000000#32 : Ideal .f32) from rfl).trans ?_
  refine (congrArg (fun w => Scalar.select w _ _) (eqWord (i 0) (i 1))).trans ?_
  refine (sel _ _ _).trans ?_
  by_cases h : hd (i 0) = hd (i 1)
  · exact (if_pos h).trans (one_lit.trans (congrArg (fun x : ℝ => (x : EReal)) (if_pos h).symm))
  · exact (if_neg h).trans (zero_lit.trans (congrArg (fun x : ℝ => (x : EReal)) (if_neg h).symm))

theorem leWord64 (p q : Fin 64) : IntOp.cmpi .sle (BitVec.ofNat 32 q.val) (BitVec.ofNat 32 p.val)
    = if q ≤ p then 1#1 else 0#1 := by
  revert p q; decide +kernel

theorem lower_at (i : S64x64.Idx) : lower i = ((if (i 1 : Fin 64) ≤ (i 0 : Fin 64) then 1 else 0 : ℝ) : EReal) := by
  refine (show lower i = Scalar.select (IntOp.cmpi .sle (BitVec.ofNat 32 (0 * 64 + (i 1).val)) (BitVec.ofNat 32 (0 * 64 + (i 0).val)))
    (Scalar.ofBits .f32 0x3F800000#32 : Ideal .f32) (Scalar.ofBits .f32 0x00000000#32 : Ideal .f32) from rfl).trans ?_
  rw [Nat.zero_mul, Nat.zero_add, Nat.zero_add]
  refine (congrArg (fun w => Scalar.select w _ _) (leWord64 (i 0) (i 1))).trans ?_
  refine (sel _ _ _).trans ?_
  by_cases h : (i 1 : Fin 64) ≤ (i 0 : Fin 64)
  · exact (if_pos h).trans (one_lit.trans (congrArg (fun x : ℝ => (x : EReal)) (if_pos h).symm))
  · exact (if_neg h).trans (zero_lit.trans (congrArg (fun x : ℝ => (x : EReal)) (if_neg h).symm))

end Cert.Proof.Masks

end
-- ==== Proof.Chunk.lean ====
module

public import proofs.«01_k».proof.Defs
public import Mathlib.Data.Matrix.Mul
public import Mathlib.Analysis.SpecialFunctions.Exp

/-!
One chunk of sixty-four steps of the delta rule with decay, over the reals, for one head.  The recurrence goes step by
step; the kernel goes by products of matrices and by doubling.  Both give the same outputs and the same last state.
-/

@[expose] public section

noncomputable section

namespace Cert.Proof.Chunk

open Matrix

/-- A square table of one head: rows are steps of the chunk or values, columns are coordinates. -/
abbrev M64 := Matrix (Fin 64) (Fin 64) ℝ

/-- One step of the recurrence. -/
def next (S : M64) (w k v q a : Fin 64 → ℝ) : M64 :=
  fun i j => S i j * w j + (∑ l, S i l * (-(q l))) * (q j * a j) + v i * k j

/-- The state after `n` steps of the chunk, from `S0`. -/
def st (S0 LD K V Q A : M64) : ℕ → M64
  | 0 => S0
  | n + 1 => if h : n < 64 then
      next (st S0 LD K V Q A n) (fun j => Real.exp (LD ⟨n, h⟩ j)) (K ⟨n, h⟩) (V ⟨n, h⟩) (Q ⟨n, h⟩) (A ⟨n, h⟩)
    else st S0 LD K V Q A n

theorem st_succ (S0 LD K V Q A : M64) (t : Fin 64) : st S0 LD K V Q A (t.val + 1) =
    next (st S0 LD K V Q A t.val) (fun j => Real.exp (LD t j)) (K t) (V t) (Q t) (A t) := by
  rw [st, dif_pos t.isLt]

/-- Sums of the decays up to a step, that step included. -/
def cum (LD : M64) : M64 := fun t j => ∑ s, (if s ≤ t then LD s j else 0)

/-- Sums of the decays strictly before a number. -/
def cumN (LD : M64) (n : ℕ) (j : Fin 64) : ℝ := ∑ s : Fin 64, (if s.val < n then LD s j else 0)

theorem cumN_zero (LD : M64) (j : Fin 64) : cumN LD 0 j = 0 := by simp [cumN]

/-- A sum over the steps before `t + 1` is the sum before `t` and the term of `t`. -/
theorem sum_lt_succ (f : Fin 64 → ℝ) (t : Fin 64) :
    (∑ s : Fin 64, (if s.val < t.val + 1 then f s else 0)) = (∑ s : Fin 64, (if s.val < t.val then f s else 0)) + f t := by
  have e : ∀ s : Fin 64, (if s.val < t.val + 1 then f s else 0) =
      (if s.val < t.val then f s else 0) + (if s = t then f s else 0) := by
    intro s
    by_cases h1 : s.val < t.val
    · have h2 : s ≠ t := fun h => by rw [h] at h1; omega
      have h3 : s.val < t.val + 1 := by omega
      simp [h1, h2, h3]
    · by_cases h2 : s = t
      · subst h2; simp
      · have h3 : ¬ s.val < t.val + 1 := fun h => h2 (Fin.ext (by omega))
        simp [h1, h2, h3]
  rw [Finset.sum_congr rfl (fun s _ => e s), Finset.sum_add_distrib]
  simp

theorem cumN_succ (LD : M64) (t j : Fin 64) : cumN LD (t.val + 1) j = cumN LD t.val j + LD t j :=
  sum_lt_succ (fun s => LD s j) t

theorem cum_eq (LD : M64) (t j : Fin 64) : cum LD t j = cumN LD (t.val + 1) j := by
  unfold cum cumN
  refine Finset.sum_congr rfl fun s _ => ?_
  have : s ≤ t ↔ s.val < t.val + 1 := by rw [Fin.le_def]; omega
  simp only [this]

theorem cum_sub (LD : M64) (t j : Fin 64) : cum LD t j - LD t j = cumN LD t.val j := by
  rw [cum_eq, cumN_succ]; ring

/-! The tables the kernel makes. -/

def as_ (LD Q : M64) : M64 := fun t j => (0 - Q t j) * Real.exp (cum LD t j - LD t j)
def rs (LD R : M64) : M64 := fun t j => R t j * Real.exp (cum LD t j)
def bt (LD Q A : M64) : M64 := fun t j => Q t j * A t j * Real.exp (0 - cum LD t j)
def kt (LD K : M64) : M64 := fun t j => K t j * Real.exp (0 - cum LD t j)
def bh (LD Q A : M64) : M64 := fun t j => Q t j * A t j * Real.exp (cum LD 63 j - cum LD t j)
def kh (LD K : M64) : M64 := fun t j => K t j * Real.exp (cum LD 63 j - cum LD t j)

/-- Only the entries whose column comes before the row. -/
def strict (X : M64) : M64 := fun t s => if s < t then X t s else 0
/-- Only the entries whose column comes not after the row. -/
def incl (X : M64) : M64 := fun t s => if s ≤ t then X t s else 0

def lp (LD Q A : M64) : M64 := strict (as_ LD Q * (bt LD Q A)ᵀ)
def lak (LD Q K : M64) : M64 := strict (as_ LD Q * (kt LD K)ᵀ)
def mrb (LD R Q A : M64) : M64 := incl (rs LD R * (bt LD Q A)ᵀ)
def mrk (LD R K : M64) : M64 := incl (rs LD R * (kt LD K)ᵀ)

/-- Six doublings. -/
def dbl (L X : M64) : M64 :=
  let x1 := X + L * X
  let l2 := L * L
  let x2 := x1 + l2 * x1
  let l4 := l2 * l2
  let x3 := x2 + l4 * x2
  let l8 := l4 * l4
  let x4 := x3 + l8 * x3
  let l16 := l8 * l8
  let x5 := x4 + l16 * x4
  let l32 := l16 * l16
  x5 + l32 * x5

/-- A power of a table that lies strictly below the diagonal lies further below it. -/
theorem pow_strict (X : M64) (n : ℕ) : ∀ t s : Fin 64, t.val < s.val + n → (strict X ^ n) t s = 0 := by
  induction n with
  | zero => intro t s h; rw [pow_zero, Matrix.one_apply_ne]; intro e; rw [e] at h; omega
  | succ n ih =>
    intro t s h
    rw [pow_succ, Matrix.mul_apply]
    refine Finset.sum_eq_zero fun m _ => ?_
    by_cases h1 : s < m
    · rw [ih t m (by rw [Fin.lt_def] at h1; omega), zero_mul]
    · simp [strict, h1]

theorem pow_zero_64 (X : M64) : strict X ^ 64 = 0 := by
  ext t s; exact pow_strict X 64 t s (by omega)

/-- Six doublings solve the triangular system. -/
theorem dbl_eq (Y X : M64) : dbl (strict Y) X = X + strict Y * dbl (strict Y) X := by
  set L := strict Y with hL
  have h64 : L ^ 64 = 0 := pow_zero_64 Y
  have e : dbl L X - L * dbl L X = X - L ^ 64 * X := by
    simp only [dbl]
    noncomm_ring
  rw [h64, Matrix.zero_mul, sub_zero] at e
  exact sub_eq_iff_eq_add.mp e

/-- The triangular system has one solution. -/
theorem unique_zero (Y D : M64) (h : D = strict Y * D) : D = 0 := by
  have key : ∀ n : ℕ, ∀ t : Fin 64, t.val < n → ∀ v, D t v = 0 := by
    intro n
    induction n with
    | zero => intro t ht; omega
    | succ n ih =>
      intro t ht v
      rw [h, Matrix.mul_apply]
      refine Finset.sum_eq_zero fun s _ => ?_
      by_cases h1 : s < t
      · rw [ih s (by rw [Fin.lt_def] at h1; omega) v, mul_zero]
      · simp [strict, h1]
  ext t v; exact key 64 t t.isLt v

variable (S0 LD R K V Q A : M64)

/-- What the rule corrects at each step. -/
def corr : M64 := fun t v => ∑ l, st S0 LD K V Q A t.val v l * (-(Q t l))

/-- The state in closed form. -/
theorem st_closed (n : ℕ) : n ≤ 64 → ∀ v j, st S0 LD K V Q A n v j = Real.exp (cumN LD n j) *
    (S0 v j + ∑ s : Fin 64, (if s.val < n then corr S0 LD K V Q A s v * bt LD Q A s j + V s v * kt LD K s j else 0)) := by
  induction n with
  | zero => intro _ v j; simp [st, cumN_zero]
  | succ n ih =>
    intro hn v j
    have hlt : n < 64 := by omega
    set t : Fin 64 := ⟨n, hlt⟩ with ht
    have ihn := ih (by omega) v j
    have e1 : st S0 LD K V Q A (n + 1) = _ := st_succ S0 LD K V Q A t
    rw [e1]
    have e2 := sum_lt_succ (fun s => corr S0 LD K V Q A s v * bt LD Q A s j + V s v * kt LD K s j) t
    have e3 : cumN LD (n + 1) j = cumN LD n j + LD t j := cumN_succ LD t j
    have e4 : Real.exp (cumN LD (n + 1) j) * bt LD Q A t j = Q t j * A t j := by
      unfold bt; rw [cum_eq]
      have : Real.exp (cumN LD (n + 1) j) * Real.exp (0 - cumN LD (t.val + 1) j) = 1 := by
        rw [← Real.exp_add]; simp [ht]
      linear_combination (Q t j * A t j) * this
    have e5 : Real.exp (cumN LD (n + 1) j) * kt LD K t j = K t j := by
      unfold kt; rw [cum_eq]
      have : Real.exp (cumN LD (n + 1) j) * Real.exp (0 - cumN LD (t.val + 1) j) = 1 := by
        rw [← Real.exp_add]; simp [ht]
      linear_combination (K t j) * this
    have e6 : (∑ l, st S0 LD K V Q A t.val v l * (-(Q t l))) = corr S0 LD K V Q A t v := rfl
    have e7 : Real.exp (cumN LD (n + 1) j) = Real.exp (cumN LD n j) * Real.exp (LD t j) := by rw [e3, Real.exp_add]
    change st S0 LD K V Q A n v j * Real.exp (LD t j) + (∑ l, st S0 LD K V Q A t.val v l * (-(Q t l))) * (Q t j * A t j)
      + V t v * K t j = _
    rw [e6, ihn]
    change _ = _ * (S0 v j + ∑ s : Fin 64, (if s.val < t.val + 1 then _ else 0))
    rw [e2, e7]
    rw [e7] at e4 e5
    change _ = _ * (S0 v j + ((∑ s : Fin 64, (if s.val < n then _ else 0)) + _))
    linear_combination (-(corr S0 LD K V Q A t v)) * e4 - (V t v) * e5

/-- The corrections solve a triangular system. -/
theorem corr_eq : corr S0 LD K V Q A =
    as_ LD Q * S0ᵀ + lak LD Q K * V + lp LD Q A * corr S0 LD K V Q A := by
  ext t v
  have e : corr S0 LD K V Q A t v = ∑ l, as_ LD Q t l * (S0 v l + ∑ s : Fin 64,
      (if s.val < t.val then corr S0 LD K V Q A s v * bt LD Q A s l + V s v * kt LD K s l else 0)) := by
    change (∑ l, st S0 LD K V Q A t.val v l * (-(Q t l))) = _
    refine Finset.sum_congr rfl fun l _ => ?_
    rw [st_closed S0 LD K V Q A t.val (by omega) v l]
    unfold as_; rw [cum_sub]; ring
  rw [e]
  simp only [Matrix.add_apply, Matrix.mul_apply, Matrix.transpose_apply, lak, lp, strict, mul_add,
    Finset.sum_add_distrib, Finset.mul_sum]
  rw [add_assoc]
  congr 1
  rw [Finset.sum_comm, ← Finset.sum_add_distrib]
  refine Finset.sum_congr rfl fun s _ => ?_
  by_cases h : s < t
  · have h' : s.val < t.val := h
    simp only [h, h', if_true, Finset.sum_mul, ← Finset.sum_add_distrib]
    refine Finset.sum_congr rfl fun l _ => by ring
  · have h' : ¬ s.val < t.val := h
    simp [h, h']

/-- The kernel's two solved tables. -/
def xa : M64 := dbl (lp LD Q A) (as_ LD Q)
def xv : M64 := dbl (lp LD Q A) (lak LD Q K * V)

theorem corr_solved : corr S0 LD K V Q A = xa LD Q A * S0ᵀ + xv LD K V Q A := by
  have hc := corr_eq S0 LD K V Q A
  have ha : xa LD Q A = as_ LD Q + lp LD Q A * xa LD Q A := dbl_eq _ _
  have hv : xv LD K V Q A = lak LD Q K * V + lp LD Q A * xv LD K V Q A := dbl_eq _ _
  have hz : corr S0 LD K V Q A - (xa LD Q A * S0ᵀ + xv LD K V Q A) = 0 := by
    refine unique_zero (as_ LD Q * (bt LD Q A)ᵀ) _ ?_
    change _ = lp LD Q A * _
    have e1 : xa LD Q A * S0ᵀ = as_ LD Q * S0ᵀ + lp LD Q A * (xa LD Q A * S0ᵀ) := by
      conv_lhs => rw [ha]
      rw [Matrix.add_mul, Matrix.mul_assoc]
    rw [Matrix.mul_sub, Matrix.mul_add]
    conv_lhs => rw [hc, e1, hv]
    abel
  exact sub_eq_zero.mp hz

/-- The outputs of the chunk. -/
def outK : M64 :=
  (rs LD R + mrb LD R Q A * xa LD Q A) * S0ᵀ + mrb LD R Q A * xv LD K V Q A + mrk LD R K * V

theorem out_eq (t v : Fin 64) :
    ∑ l, st S0 LD K V Q A (t.val + 1) v l * R t l = outK S0 LD R K V Q A t v := by
  have e0 : outK S0 LD R K V Q A = rs LD R * S0ᵀ + mrk LD R K * V + mrb LD R Q A * corr S0 LD K V Q A := by
    rw [corr_solved]; unfold outK
    rw [Matrix.add_mul, Matrix.mul_add, Matrix.mul_assoc]; abel
  rw [e0]
  have e : ∑ l, st S0 LD K V Q A (t.val + 1) v l * R t l = ∑ l, rs LD R t l * (S0 v l + ∑ s : Fin 64,
      (if s.val < t.val + 1 then corr S0 LD K V Q A s v * bt LD Q A s l + V s v * kt LD K s l else 0)) := by
    refine Finset.sum_congr rfl fun l _ => ?_
    rw [st_closed S0 LD K V Q A (t.val + 1) (by omega) v l]
    unfold rs; rw [cum_eq]; ring
  rw [e]
  simp only [Matrix.add_apply, Matrix.mul_apply, Matrix.transpose_apply, mrk, mrb, incl, mul_add,
    Finset.sum_add_distrib, Finset.mul_sum]
  rw [add_assoc]
  congr 1
  rw [Finset.sum_comm, ← Finset.sum_add_distrib]
  refine Finset.sum_congr rfl fun s _ => ?_
  by_cases h : s ≤ t
  · have h' : s.val < t.val + 1 := Nat.lt_succ_of_le h
    simp only [h, h', if_true, Finset.sum_mul, ← Finset.sum_add_distrib]
    refine Finset.sum_congr rfl fun l _ => by ring
  · have h' : ¬ s.val < t.val + 1 := fun g => h (Nat.le_of_lt_succ g)
    simp [h, h']

/-- The state the kernel leaves. -/
def endK : M64 := fun v j =>
  S0 v j * Real.exp (cum LD 63 j) + (S0 * ((xa LD Q A)ᵀ * bh LD Q A)) v j
    + ((xv LD K V Q A)ᵀ * bh LD Q A) v j + (Vᵀ * kh LD K) v j

theorem end_eq : st S0 LD K V Q A 64 = endK S0 LD K V Q A := by
  ext v j
  have hc : (S0 * ((xa LD Q A)ᵀ * bh LD Q A)) v j + ((xv LD K V Q A)ᵀ * bh LD Q A) v j
      = ((corr S0 LD K V Q A)ᵀ * bh LD Q A) v j := by
    rw [corr_solved, Matrix.transpose_add, Matrix.transpose_mul, Matrix.transpose_transpose, Matrix.add_mul,
      Matrix.mul_assoc]; rfl
  unfold endK
  rw [add_assoc (S0 v j * _), hc, st_closed S0 LD K V Q A 64 le_rfl v j]
  have ht : cum LD 63 j = cumN LD 64 j := cum_eq LD 63 j
  have hb : ∀ s, Real.exp (cumN LD 64 j) * bt LD Q A s j = bh LD Q A s j := by
    intro s; unfold bt bh; rw [← ht, sub_eq_add_neg (cum LD 63 j), Real.exp_add, zero_sub]; ring
  have hk : ∀ s, Real.exp (cumN LD 64 j) * kt LD K s j = kh LD K s j := by
    intro s; unfold kt kh; rw [← ht, sub_eq_add_neg (cum LD 63 j), Real.exp_add, zero_sub]; ring
  have hs : ∀ s : Fin 64, s.val < 64 := fun s => s.isLt
  simp only [hs, if_true, Matrix.mul_apply, Matrix.transpose_apply]
  rw [ht, mul_add, Finset.mul_sum, add_assoc, ← Finset.sum_add_distrib, mul_comm]
  congr 1
  refine Finset.sum_congr rfl fun s _ => ?_
  rw [← hb, ← hk]; ring

end Cert.Proof.Chunk

end
-- ==== Proof.Stages.lean ====
module

public import proofs.«01_k».proof.Defs
public import proofs.«01_k».proof.Proof.Masks
public import proofs.«01_k».proof.Proof.Chunk

/-!
Each operation of one pair of heads of the recurrence's kernel, on real tables: what it makes is again a real table.
-/

@[expose] public section

set_option maxRecDepth 16384

noncomputable section

namespace Cert.Proof.Stages

open Idealize.ShloMosaic Cert.KernelIdeal Cert.KernelIdeal.Gen
open Cert.Proof.Tiles Cert.Proof.Masks

variable {φ : FTy}

/-! Elementwise. -/

theorem mul_up (A B : Two) : mulf (φ := φ) (upR A) (upR B) = upR (fun h t n => A h t n * B h t n) := by
  funext i; exact (EReal.coe_mul _ _).symm
theorem add_up (A B : Two) : addf (φ := φ) (upR A) (upR B) = upR (fun h t n => A h t n + B h t n) := by
  funext i; exact (EReal.coe_add _ _).symm
theorem sub_up (A B : Two) : subf (φ := φ) (upR A) (upR B) = upR (fun h t n => A h t n - B h t n) := by
  funext i; exact (EReal.coe_sub _ _).symm
theorem exp_up (A : Two) : exp (φ := φ) (upR A) = upR (fun h t n => Real.exp (A h t n)) := by
  funext i; rfl
theorem one_up : broadcast S64x128 (Scalar.ofBits .f32 0x3F800000#32 : Ideal .f32) = upR (φ := .f32) (fun _ _ _ => 1) := by
  funext i; exact one_lit
theorem zero_up : broadcast S64x128 (Scalar.ofBits .f32 0x00000000#32 : Ideal .f32) = upR (φ := .f32) (fun _ _ _ => 0) := by
  funext i; exact zero_lit

/-- One row stretched over the sixty-four. -/
theorem row_up (y : Fin 2 → Fin 64 → ℝ) : broadcastTo S64x128 (upP (φ := φ) y) broadcasts_S1x128_S64x128 = upR (φ := φ) (fun h _ n => y h n) := by
  funext i
  pointwise
  rfl

theorem cast_row (x : FVec Ideal S1x128 .f32) : shapeCast S1x128 x shapeCasts_S1x128_S1x128 = x := by
  funext i; pointwise

/-! Sums over a head. -/

/-- The sum over each lane's head, in the kernel's two products. -/
def gs (g : FVec Ideal S128x128 .bf16) (x : FVec Ideal S64x128 .f32) : FVec Ideal S64x128 .f32 :=
  addf (matmul dot_S64x128_S128x128_S64x128_1_0_0_1_n_n none (truncf .bf16 x bitsLt_bf16_f32) g (constant S64x128 .f32 0x00000000#32))
    (matmul dot_S64x128_S128x128_S64x128_1_0_0_1_n_n none
      (truncf .bf16 (subf x (extf .f32 (truncf .bf16 x bitsLt_bf16_f32) bitsLt_bf16_f32)) bitsLt_bf16_f32) g (constant S64x128 .f32 0x00000000#32))

theorem gs_one (Y : Two) (x : FVec Ideal S64x128 .bf16) (hx : x = upR Y) (i : S64x128.Idx) :
    matmul dot_S64x128_S128x128_S64x128_1_0_0_1_n_n none x grp (constant S64x128 .f32 0x00000000#32) i
      = ((∑ s, Y (hd (i 1)) (i 0) s : ℝ) : EReal) := by
  refine nn_up (M := 64) (K := 128) (N := 128) (fun p k => Y (hd k) p (tm k)) (fun k q => if hd k = hd q then 1 else 0)
    (fun p q => ∑ s, Y (hd q) p s) ?_ x grp (fun j => by rw [hx]; rfl) grp_at i
  intro p q
  rw [sum128]
  simp only [hd_mk, tm_mk]
  rw [Finset.sum_eq_single (hd q)]
  · simp
  · intro b _ hb; simp [hb]
  · intro h; exact absurd (Finset.mem_univ _) h

theorem gs_up (Y : Two) : gs grp (upR (φ := .f32) Y) = upR (fun h t _ => ∑ s, Y h t s) := by
  funext i
  have e1 := gs_one Y (truncf .bf16 (upR (φ := .f32) Y) bitsLt_bf16_f32) rfl i
  have e2 := gs_one (fun _ _ _ => 0) (truncf .bf16 (subf (upR (φ := .f32) Y) (extf .f32 (truncf .bf16 (upR (φ := .f32) Y) bitsLt_bf16_f32) bitsLt_bf16_f32)) bitsLt_bf16_f32)
    (by funext j; exact coe_sub_self _) i
  refine (congrArg₂ (fun p q : EReal => p + q) e1 e2).trans ?_
  refine (EReal.coe_add _ _).symm.trans ?_
  simp only [Finset.sum_const_zero, add_zero]
  rfl

theorem pay26_up (Y : Two) : k0_pay26 grp (upR (φ := .f32) Y) = upR (fun h t _ => ∑ s, Y h t s * Y h t s) :=
  (show k0_pay26 grp (upR (φ := .f32) Y) = gs grp (mulf (upR (φ := .f32) Y) (upR (φ := .f32) Y)) from rfl).trans (by rw [mul_up, gs_up])

theorem pay18_up (K : Two) (s : Fin 2 → Fin 64 → ℝ) : k0_pay18 (upR (φ := .f32) K) (upP (φ := .f32) s) = upR (fun h t n => K h t n * s h n) := by
  dsimp only [k0_pay18]
  rw [cast_row, row_up, mul_up]

theorem pay47_up (K A : Two) (s : Fin 2 → Fin 64 → ℝ) : k0_pay47 (upR (φ := .f32) K) (upR (φ := .f32) A) (upP (φ := .f32) s)
    = upR (fun h t n => K h t n * (1 + (A h t n - 1) * s h n)) := by
  dsimp only [k0_pay47]
  rw [cast_row, row_up, one_up, sub_up, mul_up, add_up, mul_up]

theorem lo_one (LD : Two) (x : FVec Ideal S64x128 .bf16) (hx : x = upR LD) (i : S64x128.Idx) :
    matmul dot_S64x64_S64x128_S64x128_1_0_0_1_n_n none lower x (constant S64x128 .f32 0x00000000#32) i
      = ((Chunk.cum (LD (hd (i 1))) (i 0) (tm (i 1)) : ℝ) : EReal) := by
  refine nn_up (M := 64) (K := 64) (N := 128) (fun p k => if k ≤ p then 1 else 0) (fun k q => LD (hd q) k (tm q))
    (fun p q => Chunk.cum (LD (hd q)) p (tm q)) ?_ lower x lower_at (fun j => by rw [hx]; rfl) i
  intro p q
  unfold Chunk.cum
  refine Finset.sum_congr rfl fun s _ => ?_
  by_cases h : s ≤ p <;> simp [h]

theorem cum_zero (t j : Fin 64) : Chunk.cum (fun _ _ => 0) t j = 0 := by
  unfold Chunk.cum; simp

theorem pay68_up (LD : Two) : k0_pay68 lower (upR (φ := .f32) LD) = upR (fun h => Chunk.cum (LD h)) := by
  funext i
  have e1 := lo_one LD (truncf .bf16 (upR (φ := .f32) LD) bitsLt_bf16_f32) rfl i
  have e2 := lo_one (fun _ _ _ => 0) (truncf .bf16 (subf (upR (φ := .f32) LD) (extf .f32 (truncf .bf16 (upR (φ := .f32) LD) bitsLt_bf16_f32) bitsLt_bf16_f32)) bitsLt_bf16_f32)
    (by funext j; exact coe_sub_self _) i
  refine (congrArg₂ (fun p q : EReal => p + q) e1 e2).trans ?_
  refine (EReal.coe_add _ _).symm.trans ?_
  exact congrArg (fun x : ℝ => (x : EReal)) ((congrArg (fun z => _ + z) (cum_zero _ _)).trans (add_zero _))

theorem pay77_up (C : Two) : k0_pay77 (upR (φ := .f32) C) = upP (fun h n => C h 63 n) := by
  funext i
  unfold k0_pay77
  pointwise
  rfl

theorem pay85_up (A Q : Two) : k0_pay85 (upR (φ := .f32) A) (upR (φ := .f32) Q) = upR (fun h t n => Q h t n * A h t n) := by
  dsimp only [k0_pay85]; rw [mul_up]

/-! Stacking. -/

theorem stack_read (x : FVec Ideal S64x128 .f32) (i : S128x128.Idx) :
    concatenate S128x128 0 [⟨S64x128, x⟩, ⟨S64x128, x⟩] concatenates_S64x128_S64x128_S128x128_d0 i
      = x (ix2 (tm (i 0)) (i 1 : Fin 128)) := by
  by_cases h : (i 0 : Fin 128).val < 64
  · pointwise
    refine (dif_pos h).trans ?_
    congr 2
    exact Fin.ext (by show (i 0 : Fin 128).val = (i 0 : Fin 128).val % 64; omega)
  · pointwise
    refine (dif_neg h).trans ?_
    have h2 : (i 0 : Fin 128).val < 128 := (i 0 : Fin 128).isLt
    congr 2
    exact Fin.ext (by show (i 0 : Fin 128).val - 64 = (i 0 : Fin 128).val % 64; omega)

theorem stack_up (Y : Two) : k0_pay130 same (upR (φ := .f32) Y) = upB Y := by
  funext i
  refine (show k0_pay130 same (upR (φ := .f32) Y) i = Scalar.select (same i)
    (concatenate S128x128 0 [⟨S64x128, upR (φ := .f32) Y⟩, ⟨S64x128, upR (φ := .f32) Y⟩] concatenates_S64x128_S64x128_S128x128_d0 i)
    (Scalar.ofBits .f32 0x00000000#32 : Ideal .f32) from rfl).trans ?_
  refine (congrArg (fun w => Scalar.select w _ _) (same_at i)).trans ?_
  refine (sel _ _ _).trans ?_
  unfold upB blk
  by_cases h : hd (i 0) = hd (i 1)
  · refine (if_pos h).trans ((stack_read _ i).trans ?_)
    rw [if_pos h]
    show ((Y (hd (i 1)) (tm (i 0)) (tm (i 1)) : ℝ) : EReal) = _
    rw [h]
  · refine (if_neg h).trans (zero_lit.trans ?_)
    rw [if_neg h]

theorem pay93_up (LD Q C : Two) : k0_pay93 same (upR (φ := .f32) LD) (upR (φ := .f32) Q) (upR (φ := .f32) C)
    = upB (fun h t n => (0 - Q h t n) * Real.exp (C h t n - LD h t n)) :=
  (show k0_pay93 same (upR (φ := .f32) LD) (upR (φ := .f32) Q) (upR (φ := .f32) C) = k0_pay130 same
    (mulf (subf (broadcast S64x128 (Scalar.ofBits .f32 0x00000000#32 : Ideal .f32)) (upR (φ := .f32) Q)) (exp (subf (upR (φ := .f32) C) (upR (φ := .f32) LD)))) from rfl).trans
    (by rw [zero_up, sub_up, sub_up, exp_up, mul_up, stack_up])

theorem pay104_up (R C : Two) : k0_pay104 same (upR (φ := .f32) R) (upR (φ := .f32) C) = upB (fun h t n => R h t n * Real.exp (C h t n)) :=
  (show k0_pay104 same (upR (φ := .f32) R) (upR (φ := .f32) C) = k0_pay130 same (mulf (upR (φ := .f32) R) (exp (upR (φ := .f32) C))) from rfl).trans
    (by rw [exp_up, mul_up, stack_up])

theorem pay113_up (C : Two) : k0_pay113 (upR (φ := .f32) C) = upR (fun h t n => Real.exp (0 - C h t n)) := by
  dsimp only [k0_pay113]; rw [zero_up, sub_up, exp_up]

theorem pay121_up (C : Two) (y : Fin 2 → Fin 64 → ℝ) : k0_pay121 (upR (φ := .f32) C) (upP (φ := .f32) y) = upR (fun h t n => Real.exp (y h n - C h t n)) := by
  dsimp only [k0_pay121]; rw [row_up, sub_up, exp_up]

theorem pay129_up (C B : Two) : k0_pay129 (upR (φ := .f32) C) (upR (φ := .f32) B) = upR (fun h t n => B h t n * Real.exp (0 - C h t n)) := by
  dsimp only [k0_pay129]; rw [pay113_up, mul_up]

theorem pay138_up (A B : Two) : k0_pay138 same (upR (φ := .f32) A) (upR (φ := .f32) B) = upB (fun h t n => A h t n * B h t n) :=
  (show k0_pay138 same (upR (φ := .f32) A) (upR (φ := .f32) B) = k0_pay130 same (mulf (upR (φ := .f32) A) (upR (φ := .f32) B)) from rfl).trans (by rw [mul_up, stack_up])
theorem pay147_up (A B : Two) : k0_pay147 same (upR (φ := .f32) A) (upR (φ := .f32) B) = upB (fun h t n => A h t n * B h t n) :=
  (show k0_pay147 same (upR (φ := .f32) A) (upR (φ := .f32) B) = k0_pay130 same (mulf (upR (φ := .f32) A) (upR (φ := .f32) B)) from rfl).trans (by rw [mul_up, stack_up])
theorem pay156_up (A B : Two) : k0_pay156 same (upR (φ := .f32) A) (upR (φ := .f32) B) = upB (fun h t n => A h t n * B h t n) :=
  (show k0_pay156 same (upR (φ := .f32) A) (upR (φ := .f32) B) = k0_pay130 same (mulf (upR (φ := .f32) A) (upR (φ := .f32) B)) from rfl).trans (by rw [mul_up, stack_up])
theorem pay165_up (A : Two) : k0_pay165 same (upR (φ := .f32) A) = upB A :=
  (show k0_pay165 same (upR (φ := .f32) A) = k0_pay130 same (upR (φ := .f32) A) from rfl).trans (stack_up A)

end Cert.Proof.Stages

end
-- ==== Proof.Blocks.lean ====
module

public import proofs.«01_k».proof.Defs
public import proofs.«01_k».proof.Proof.Masks

/-!
The products of block-diagonal tables in one pair of heads of the recurrence's kernel.
-/

@[expose] public section

set_option maxRecDepth 16384

noncomputable section

namespace Cert.Proof.Blocks

open Idealize.ShloMosaic Cert.KernelIdeal Cert.KernelIdeal.Gen
open Cert.Proof.Tiles Cert.Proof.Masks

variable {φ₁ φ₂ : FTy}

/-- Only the entries whose column comes before the row. -/
def strictT (X : Two) : Two := fun h t s => if s < t then X h t s else 0
/-- Only the entries whose column comes not after the row. -/
def inclT (X : Two) : Two := fun h t s => if s ≤ t then X h t s else 0
def addT (A B : Two) : Two := fun h t n => A h t n + B h t n

abbrev B32 (A : Two) : FVec Ideal S128x128 .f32 := upB A
abbrev B16 (A : Two) : FVec Ideal S128x128 .bf16 := upB A

theorem bb_nn (A B : Two) : matmul dot_S128x128_S128x128_S128x128_1_0_0_1_n_n none (B16 A) (B16 B)
    (constant S128x128 .f32 0x00000000#32) = upB (mmT A B) := by
  funext i
  exact nn_up (M := 128) (K := 128) (N := 128) (blk A) (blk B) (blk (mmT A B)) (blk_mul A B) _ _ (fun _ => rfl) (fun _ => rfl) i

theorem bb_nt (A B : Two) : matmul dot_S128x128_S128x128_S128x128_1_1_0_0_n_n none (B16 A) (B16 B)
    (constant S128x128 .f32 0x00000000#32) = upB (mtT A B) := by
  funext i
  exact nt_up (M := 128) (K := 128) (N := 128) (blk A) (blk B) (blk (mtT A B)) (blk_mul_t A B) _ _ (fun _ => rfl) (fun _ => rfl) i

theorem bb_tn (A B : Two) : matmul dot_S128x128_S128x128_S128x128_0_0_1_1_n_n none (B16 A) (B16 B)
    (constant S128x128 .f32 0x00000000#32) = upB (tmT A B) := by
  funext i
  exact tn_up _ (blk A) (blk B) (blk (tmT A B)) (blk_t_mul A B) _ _ (fun _ => rfl) (fun _ => rfl) i

theorem bx_nn (L A V : Two) : matmul dot_S128x128_S128x256_S128x256_1_0_0_1_n_n none (B16 L) (upX (φ := .bf16) A V)
    (constant S128x256 .f32 0x00000000#32) = upX (mmT L A) (mmT L V) := by
  funext i
  exact nn_up (M := 128) (K := 128) (N := 256) (blk L) (two A V) (two (mmT L A) (mmT L V)) (two_mul L A V) _ _ (fun _ => rfl) (fun _ => rfl) i

/-- Two block-diagonal tables one above the other. -/
def tall (A V : Two) (p : Fin 256) (q : Fin 128) : ℝ := if p.val < 128 then blk A (half p) q else blk V (half p) q

theorem two_t_mul (A V B : Two) (p : Fin 256) (q : Fin 128) :
    ∑ k, two A V k p * blk B k q = tall (tmT A B) (tmT V B) p q := by
  unfold two tall
  by_cases h : p.val < 128
  · simp only [h, if_true]; exact blk_t_mul _ _ _ _
  · simp only [h, if_false]; exact blk_t_mul _ _ _ _

theorem xb_tn (A V B : Two) (i : S256x128.Idx) : matmul dot_S128x256_S128x128_S256x128_0_0_1_1_n_n none (upX (φ := .bf16) A V) (B16 B)
    (constant S256x128 .f32 0x00000000#32) i = ((tall (tmT A B) (tmT V B) (i 0) (i 1) : ℝ) : EReal) :=
  tn_up _ (two A V) (blk B) (tall (tmT A B) (tmT V B)) (two_t_mul A V B) _ _ (fun _ => rfl) (fun _ => rfl) i

theorem add_b (A B : Two) : addf (B32 A) (B32 B) = B32 (addT A B) := by
  funext i
  refine (EReal.coe_add _ _).symm.trans (congrArg (fun x : ℝ => (x : EReal)) ?_)
  unfold blk addT
  by_cases h : hd (i 0) = hd (i 1)
  · exact (congrArg₂ (fun x y => x + y) (if_pos h) (if_pos h)).trans (if_pos h).symm
  · exact (congrArg₂ (fun x y => x + y) (if_neg h) (if_neg h)).trans ((add_zero _).trans (if_neg h).symm)

theorem blk_add (A B : Two) (p q : Fin 128) : blk A p q + blk B p q = blk (addT A B) p q := by
  unfold blk addT
  by_cases h : hd p = hd q
  · rw [if_pos h, if_pos h, if_pos h]
  · rw [if_neg h, if_neg h, if_neg h, add_zero]

theorem add_x (A V A' V' : Two) : addf (φ := .f32) (upX A V) (upX A' V') = upX (addT A A') (addT V V') := by
  funext i
  refine (EReal.coe_add _ _).symm.trans (congrArg (fun x : ℝ => (x : EReal)) ?_)
  unfold two
  by_cases h : (i 1 : Fin 256).val < 128
  · exact (congrArg₂ (fun x y => x + y) (if_pos h) (if_pos h)).trans ((blk_add _ _ _ _).trans (if_pos h).symm)
  · exact (congrArg₂ (fun x y => x + y) (if_neg h) (if_neg h)).trans ((blk_add _ _ _ _).trans (if_neg h).symm)

/-! The four tables of inner products. -/

/-- A place in the first half, and in the second. -/
def up0 (r : Fin 128) : Fin 256 := ⟨r.val, by omega⟩
def up1 (r : Fin 128) : Fin 256 := ⟨128 + r.val, by omega⟩

theorem sl00 (x : FVec Ideal S256x256 .f32) (i : S128x128.Idx) :
    extractStridedSlice S128x128 ![0, 0] x slices_S256x256_o0_0_S128x128 i = x (ix2 (up0 (i 0)) (up0 (i 1))) := by
  pointwise; rfl
theorem sl01 (x : FVec Ideal S256x256 .f32) (i : S128x128.Idx) :
    extractStridedSlice S128x128 ![0, 128] x slices_S256x256_o0_128_S128x128 i = x (ix2 (up0 (i 0)) (up1 (i 1))) := by
  pointwise; rfl
theorem sl10 (x : FVec Ideal S256x256 .f32) (i : S128x128.Idx) :
    extractStridedSlice S128x128 ![128, 0] x slices_S256x256_o128_0_S128x128 i = x (ix2 (up1 (i 0)) (up0 (i 1))) := by
  pointwise; rfl
theorem sl11 (x : FVec Ideal S256x256 .f32) (i : S128x128.Idx) :
    extractStridedSlice S128x128 ![128, 128] x slices_S256x256_o128_128_S128x128 i = x (ix2 (up1 (i 0)) (up1 (i 1))) := by
  pointwise; rfl
theorem tl0 (x : FVec Ideal S256x128 .f32) (i : S128x128.Idx) :
    extractStridedSlice S128x128 ![0, 0] x slices_S256x128_o0_0_S128x128 i = x (ix2 (up0 (i 0)) (i 1 : Fin 128)) := by
  pointwise; rfl
theorem tl1 (x : FVec Ideal S256x128 .f32) (i : S128x128.Idx) :
    extractStridedSlice S128x128 ![128, 0] x slices_S256x128_o128_0_S128x128 i = x (ix2 (up1 (i 0)) (i 1 : Fin 128)) := by
  pointwise; rfl

theorem cat_rows (x y : FVec Ideal S128x128 .bf16) (p : Fin 256) (k : Fin 128) :
    concatenate S256x128 0 [⟨S128x128, x⟩, ⟨S128x128, y⟩] concatenates_S128x128_S128x128_S256x128_d0 (ix2 p k)
      = if p.val < 128 then x (ix2 (half p) k) else y (ix2 (half p) k) := by
  by_cases h : p.val < 128
  · pointwise
    refine (dif_pos h).trans (Eq.trans ?_ (if_pos h).symm)
    congr 2
    exact Fin.ext (by show p.val = p.val % 128; omega)
  · pointwise
    refine (dif_neg h).trans (Eq.trans ?_ (if_neg h).symm)
    congr 2
    exact Fin.ext (by show p.val - 128 = p.val % 128; omega)

theorem quad_up (A R B K : Two) (i : S256x256.Idx) : k0_pay173 (B16 A) (B16 R) (B16 B) (B16 K) i =
    ((∑ k, tall A R (i 0) k * tall B K (i 1) k : ℝ) : EReal) := by
  refine nt_up (M := 256) (K := 128) (N := 256) (tall A R) (tall B K) (fun p q => ∑ k, tall A R p k * tall B K q k)
    (fun _ _ => rfl) _ _ ?_ ?_ i
  · intro j
    obtain ⟨p, k, rfl⟩ : ∃ (p : Fin 256) (k : Fin 128), j = ix2 p k := ⟨j 0, j 1, eq_ix2 j⟩
    refine (cat_rows (B16 A) (B16 R) p k).trans ?_
    show _ = ((tall A R p k : ℝ) : EReal)
    unfold tall
    by_cases h : p.val < 128
    · rw [if_pos h, if_pos h]; rfl
    · rw [if_neg h, if_neg h]; rfl
  · intro j
    obtain ⟨p, k, rfl⟩ : ∃ (p : Fin 256) (k : Fin 128), j = ix2 p k := ⟨j 0, j 1, eq_ix2 j⟩
    refine (cat_rows (B16 B) (B16 K) p k).trans ?_
    show _ = ((tall B K p k : ℝ) : EReal)
    unfold tall
    by_cases h : p.val < 128
    · rw [if_pos h, if_pos h]; rfl
    · rw [if_neg h, if_neg h]; rfl

theorem tall_lo (A V : Two) (p : Fin 256) (r : Fin 128) (h : p.val = r.val) (q : Fin 128) : tall A V p q = blk A r q := by
  have h1 : p.val < 128 := by omega
  have h2 : half p = r := Fin.ext (by show p.val % 128 = r.val; omega)
  unfold tall; rw [if_pos h1, h2]
theorem tall_hi (A V : Two) (p : Fin 256) (r : Fin 128) (h : p.val = 128 + r.val) (q : Fin 128) : tall A V p q = blk V r q := by
  have h1 : ¬ p.val < 128 := by omega
  have h2 : half p = r := Fin.ext (by show p.val % 128 = r.val; omega)
  unfold tall; rw [if_neg h1, h2]

/-- A masked table is again block-diagonal. -/
theorem strict_sel (X : Two) (x : FVec Ideal S128x128 .f32) (hx : ∀ i, x i = ((blk X (i 0) (i 1) : ℝ) : EReal)) :
    select strictM x (broadcast S128x128 (Scalar.ofBits .f32 0x00000000#32 : Ideal .f32)) = B32 (strictT X) := by
  funext i
  refine (congrArg (fun w => Scalar.select w (x i) (Scalar.ofBits .f32 0x00000000#32 : Ideal .f32)) (strictM_at i)).trans ?_
  refine (sel2 _ _ _ _).trans ?_
  obtain ⟨p, q, rfl⟩ : ∃ (p : Fin 128) (q : Fin 128), i = ix2 p q := ⟨i 0, i 1, eq_ix2 i⟩
  show (if hd p = hd q ∧ q < p then x (ix2 p q) else (Scalar.ofBits .f32 0x00000000#32 : Ideal .f32)) = ((blk (strictT X) p q : ℝ) : EReal)
  rw [hx, zero_lit]
  show (if hd p = hd q ∧ q < p then ((blk X p q : ℝ) : EReal) else ((0 : ℝ) : EReal)) = ((blk (strictT X) p q : ℝ) : EReal)
  by_cases h : hd p = hd q
  · have hh : p.val / 64 = q.val / 64 := congrArg Fin.val h
    have e : (q < p) ↔ tm q < tm p := by
      rw [Fin.lt_def, Fin.lt_def]; show q.val < p.val ↔ q.val % 64 < p.val % 64; omega
    by_cases h' : tm q < tm p
    · rw [if_pos ⟨h, e.mpr h'⟩]; unfold blk strictT; rw [if_pos h, if_pos h, if_pos h']
    · rw [if_neg (fun c => h' (e.mp c.2))]; unfold blk strictT; rw [if_pos h, if_neg h']
  · rw [if_neg (fun c => h c.1)]; unfold blk; rw [if_neg h]

theorem incl_sel (X : Two) (x : FVec Ideal S128x128 .f32) (hx : ∀ i, x i = ((blk X (i 0) (i 1) : ℝ) : EReal)) :
    select inclM x (broadcast S128x128 (Scalar.ofBits .f32 0x00000000#32 : Ideal .f32)) = B32 (inclT X) := by
  funext i
  refine (congrArg (fun w => Scalar.select w (x i) (Scalar.ofBits .f32 0x00000000#32 : Ideal .f32)) (inclM_at i)).trans ?_
  refine (sel2 _ _ _ _).trans ?_
  obtain ⟨p, q, rfl⟩ : ∃ (p : Fin 128) (q : Fin 128), i = ix2 p q := ⟨i 0, i 1, eq_ix2 i⟩
  show (if hd p = hd q ∧ q ≤ p then x (ix2 p q) else (Scalar.ofBits .f32 0x00000000#32 : Ideal .f32)) = ((blk (inclT X) p q : ℝ) : EReal)
  rw [hx, zero_lit]
  show (if hd p = hd q ∧ q ≤ p then ((blk X p q : ℝ) : EReal) else ((0 : ℝ) : EReal)) = ((blk (inclT X) p q : ℝ) : EReal)
  by_cases h : hd p = hd q
  · have hh : p.val / 64 = q.val / 64 := congrArg Fin.val h
    have e : (q ≤ p) ↔ tm q ≤ tm p := by
      rw [Fin.le_def, Fin.le_def]; show q.val ≤ p.val ↔ q.val % 64 ≤ p.val % 64; omega
    by_cases h' : tm q ≤ tm p
    · rw [if_pos ⟨h, e.mpr h'⟩]; unfold blk inclT; rw [if_pos h, if_pos h, if_pos h']
    · rw [if_neg (fun c => h' (e.mp c.2))]; unfold blk inclT; rw [if_pos h, if_neg h']
  · rw [if_neg (fun c => h c.1)]; unfold blk; rw [if_neg h]

abbrev quad (A R B K : Two) : FVec Ideal S256x256 .f32 := k0_pay173 (B16 A) (B16 R) (B16 B) (B16 K)

theorem pay182_up (A R B K : Two) : k0_pay182 strictM (quad A R B K) = B32 (strictT (mtT A B)) := by
  dsimp only [k0_pay182]
  refine strict_sel (mtT A B) _ fun i => ?_
  refine (sl00 _ i).trans ((quad_up A R B K _).trans (congrArg (fun x : ℝ => (x : EReal)) ?_))
  refine Eq.trans ?_ (blk_mul_t A B (i 0) (i 1))
  exact Finset.sum_congr rfl fun k _ => congrArg₂ (fun x y => x * y) (tall_lo A R _ (i 0) rfl k) (tall_lo B K _ (i 1) rfl k)

theorem pay190_up (A R B K : Two) : k0_pay190 strictM (quad A R B K) = B16 (strictT (mtT A K)) := by
  have e : select strictM (extractStridedSlice S128x128 ![0, 128] (quad A R B K) slices_S256x256_o0_128_S128x128)
      (broadcast S128x128 (Scalar.ofBits .f32 0x00000000#32 : Ideal .f32)) = B32 (strictT (mtT A K)) := by
    refine strict_sel (mtT A K) _ fun i => ?_
    refine (sl01 _ i).trans ((quad_up A R B K _).trans (congrArg (fun x : ℝ => (x : EReal)) ?_))
    refine Eq.trans ?_ (blk_mul_t A K (i 0) (i 1))
    exact Finset.sum_congr rfl fun k _ => congrArg₂ (fun x y => x * y) (tall_lo A R _ (i 0) rfl k) (tall_hi B K _ (i 1) rfl k)
  dsimp only [k0_pay190]; rw [e]; rfl

theorem pay198_up (A R B K : Two) : k0_pay198 inclM (quad A R B K) = B16 (inclT (mtT R B)) := by
  have e : select inclM (extractStridedSlice S128x128 ![128, 0] (quad A R B K) slices_S256x256_o128_0_S128x128)
      (broadcast S128x128 (Scalar.ofBits .f32 0x00000000#32 : Ideal .f32)) = B32 (inclT (mtT R B)) := by
    refine incl_sel (mtT R B) _ fun i => ?_
    refine (sl10 _ i).trans ((quad_up A R B K _).trans (congrArg (fun x : ℝ => (x : EReal)) ?_))
    refine Eq.trans ?_ (blk_mul_t R B (i 0) (i 1))
    exact Finset.sum_congr rfl fun k _ => congrArg₂ (fun x y => x * y) (tall_hi A R _ (i 0) rfl k) (tall_lo B K _ (i 1) rfl k)
  dsimp only [k0_pay198]; rw [e]; rfl

theorem pay206_up (A R B K : Two) : k0_pay206 inclM (quad A R B K) = B16 (inclT (mtT R K)) := by
  have e : select inclM (extractStridedSlice S128x128 ![128, 128] (quad A R B K) slices_S256x256_o128_128_S128x128)
      (broadcast S128x128 (Scalar.ofBits .f32 0x00000000#32 : Ideal .f32)) = B32 (inclT (mtT R K)) := by
    refine incl_sel (mtT R K) _ fun i => ?_
    refine (sl11 _ i).trans ((quad_up A R B K _).trans (congrArg (fun x : ℝ => (x : EReal)) ?_))
    refine Eq.trans ?_ (blk_mul_t R K (i 0) (i 1))
    exact Finset.sum_congr rfl fun k _ => congrArg₂ (fun x y => x * y) (tall_hi A R _ (i 0) rfl k) (tall_hi B K _ (i 1) rfl k)
  dsimp only [k0_pay206]; rw [e]; rfl

/-! The doubling. -/

theorem cat_cols (x y : FVec Ideal S128x128 .f32) (p : Fin 128) (q : Fin 256) :
    concatenate S128x256 1 [⟨S128x128, x⟩, ⟨S128x128, y⟩] concatenates_S128x128_S128x128_S128x256_d1 (ix2 p q)
      = if q.val < 128 then x (ix2 p (half q)) else y (ix2 p (half q)) := by
  by_cases h : q.val < 128
  · pointwise
    refine (dif_pos h).trans (Eq.trans ?_ (if_pos h).symm)
    congr 2
    exact Fin.ext (by show q.val = q.val % 128; omega)
  · pointwise
    refine (dif_neg h).trans (Eq.trans ?_ (if_neg h).symm)
    congr 2
    exact Fin.ext (by show q.val - 128 = q.val % 128; omega)

theorem pay214_up (A V L : Two) : k0_pay214 (B16 A) (B16 V) (B16 L) = upX (φ := .f32) A (mmT L V) := by
  dsimp only [k0_pay214]
  rw [bb_nn]
  funext i
  obtain ⟨p, q, rfl⟩ : ∃ (p : Fin 128) (q : Fin 256), i = ix2 p q := ⟨i 0, i 1, eq_ix2 i⟩
  refine (cat_cols _ _ p q).trans ?_
  show _ = ((two A (mmT L V) p q : ℝ) : EReal)
  unfold two
  by_cases h : q.val < 128
  · rw [if_pos h, if_pos h]; rfl
  · rw [if_neg h, if_neg h]; rfl

theorem pay218_up (L : Two) : k0_pay218 (B32 L) = B16 L := rfl
theorem pay226_up (L A V : Two) : k0_pay226 (B32 L) (upX (φ := .f32) A V) = upX (φ := .f32) (addT A (mmT L A)) (addT V (mmT L V)) :=
  (congrArg (fun z => addf (upX (φ := .f32) A V) z) (bx_nn L A V)).trans (add_x _ _ _ _)
theorem pay234_up (L : Two) : k0_pay234 (B16 L) = B16 (mmT L L) := bb_nn L L
theorem pay242_up (L A V : Two) : k0_pay242 (B16 L) (upX (φ := .f32) A V)
    = upX (φ := .f32) (addT A (mmT (mmT L L) A)) (addT V (mmT (mmT L L) V)) := by
  refine Eq.trans ?_ ((congrArg (fun z => addf (upX (φ := .f32) A V) z) (bx_nn (mmT L L) A V)).trans (add_x _ _ _ _))
  dsimp only [k0_pay242]; rw [pay234_up]; rfl
theorem pay250_up (L : Two) : k0_pay250 (B16 L) = B16 (mmT L L) := bb_nn L L
theorem pay258_up (L A V : Two) : k0_pay258 (B16 L) (upX (φ := .f32) A V)
    = upX (φ := .f32) (addT A (mmT (mmT L L) A)) (addT V (mmT (mmT L L) V)) := by
  refine Eq.trans ?_ ((congrArg (fun z => addf (upX (φ := .f32) A V) z) (bx_nn (mmT L L) A V)).trans (add_x _ _ _ _))
  dsimp only [k0_pay258]; rw [pay250_up]; rfl
theorem pay266_up (L : Two) : k0_pay266 (B16 L) (constant S128x128 .f32 0x00000000#32) = B16 (mmT L L) := bb_nn L L
theorem pay274_up (L A V : Two) : k0_pay274 (B16 L) (upX (φ := .f32) A V) (constant S128x128 .f32 0x00000000#32)
    = upX (φ := .f32) (addT A (mmT (mmT L L) A)) (addT V (mmT (mmT L L) V)) := by
  refine Eq.trans ?_ ((congrArg (fun z => addf (upX (φ := .f32) A V) z) (bx_nn (mmT L L) A V)).trans (add_x _ _ _ _))
  dsimp only [k0_pay274]; rw [pay266_up]; rfl
theorem pay282_up (L : Two) : k0_pay282 (B16 L) (constant S128x128 .f32 0x00000000#32) = B32 (mmT (mmT L L) (mmT L L)) := by
  dsimp only [k0_pay282]; rw [pay266_up]; exact bb_nn _ _
theorem pay284_up (L : Two) : k0_pay284 (B32 L) = B16 L := rfl
theorem pay292_up (L A V : Two) : k0_pay292 (upX (φ := .f32) A V) (B32 L)
    = upX (φ := .f32) (addT A (mmT L A)) (addT V (mmT L V)) :=
  (congrArg (fun z => addf (upX (φ := .f32) A V) z) (bx_nn L A V)).trans (add_x _ _ _ _)
theorem pay300_up (L : Two) : k0_pay300 (B32 L) = B32 (mmT L L) := bb_nn L L
theorem pay304_up (L A V : Two) : k0_pay304 (upX (φ := .f32) A V) (B32 L)
    = upX (φ := .bf16) (addT A (mmT L A)) (addT V (mmT L V)) :=
  (congrArg (fun z => addf (upX (φ := .f32) A V) z) (bx_nn L A V)).trans (add_x _ _ _ _)

/-! Outputs and state. -/

theorem pay312_up (H : Two) : k0_pay312 (upH (φ := .f32) H) = B32 H := by
  funext i; dsimp only [k0_pay312]; pointwise; rfl

theorem slice_lo (A V : Two) : extractStridedSlice S128x128 ![0, 0] (upX (φ := .f32) A V) slices_S128x256_o0_0_S128x128 = B32 A := by
  funext i
  pointwise
  refine congrArg (fun x : ℝ => (x : EReal)) ?_
  have h : (i 1 : Fin 128).val < 128 := (i 1 : Fin 128).isLt
  refine (if_pos h).trans (congrArg (blk A (i 0)) (Fin.ext ?_))
  show (i 1 : Fin 128).val % 128 = (i 1 : Fin 128).val; omega

theorem slice_hi (A V : Two) : extractStridedSlice S128x128 ![0, 128] (upX (φ := .f32) A V) slices_S128x256_o0_128_S128x128 = B32 V := by
  funext i
  pointwise
  refine congrArg (fun x : ℝ => (x : EReal)) ?_
  have h : (i 1 : Fin 128).val < 128 := (i 1 : Fin 128).isLt
  refine (if_neg (show ¬ (128 + (i 1 : Fin 128).val) < 128 by omega)).trans (congrArg (blk V (i 0)) (Fin.ext ?_))
  show (128 + (i 1 : Fin 128).val) % 128 = (i 1 : Fin 128).val; omega

theorem pay328_up (M A V : Two) : k0_pay328 (B16 M) (upX (φ := .bf16) A V) = upX (φ := .f32) (mmT M A) (mmT M V) := bx_nn M A V

theorem pay341_up (V Mk H A W R : Two) : k0_pay341 (B16 V) (B16 Mk) (B16 H) (upX (φ := .f32) A W) (B32 R)
    = B32 (addT (addT (mtT (addT R A) H) W) (mmT Mk V)) := by
  dsimp only [k0_pay341]
  rw [slice_lo, slice_hi, add_b, bb_nn]
  refine (congrArg (fun z => addf (addf z (B32 W)) (upB (φ := .f32) (mmT Mk V))) (bb_nt (addT R A) H)).trans ?_
  refine (congrArg (fun z => addf z (upB (φ := .f32) (mmT Mk V))) (add_b _ _)).trans (add_b _ _)

/-- A table whose columns are scaled. -/
def scaleT (H : Two) (y : Fin 2 → Fin 64 → ℝ) : Two := fun h t n => H h t n * Real.exp (y h n)

theorem scale_up (H : Two) (y : Fin 2 → Fin 64 → ℝ) : mulf (B32 H) (broadcastTo S128x128 (exp (upP (φ := .f32) y)) broadcasts_S1x128_S128x128)
    = B32 (scaleT H y) := by
  funext i
  pointwise
  refine (EReal.coe_mul _ _).symm.trans (congrArg (fun x : ℝ => (x : EReal)) ?_)
  obtain ⟨p, q, rfl⟩ : ∃ (p : Fin 128) (q : Fin 128), i = ix2 p q := ⟨i 0, i 1, eq_ix2 i⟩
  show blk H p q * Real.exp (y (hd q) (tm q)) = blk (scaleT H y) p q
  unfold blk scaleT
  by_cases h : hd p = hd q
  · rw [if_pos h, if_pos h, h]
  · rw [if_neg h, if_neg h, zero_mul]

theorem pay356_up (y : Fin 2 → Fin 64 → ℝ) (Bh Kh V A W H : Two) :
    k0_pay356 (upP (φ := .f32) y) (B16 Bh) (B16 Kh) (B16 V) (upX (φ := .bf16) A W) (B32 H) (B16 H)
      = B32 (addT (addT (addT (scaleT H y) (mmT H (tmT A Bh))) (tmT W Bh)) (tmT V Kh)) := by
  dsimp only [k0_pay356]
  rw [scale_up, bb_tn]
  have e1 : extractStridedSlice S128x128 ![0, 0] (matmul dot_S128x256_S128x128_S256x128_0_0_1_1_n_n none (upX (φ := .bf16) A W) (B16 Bh)
      (constant S256x128 .f32 0x00000000#32)) slices_S256x128_o0_0_S128x128 = B32 (tmT A Bh) := by
    funext i
    exact (tl0 _ i).trans ((xb_tn A W Bh _).trans (congrArg (fun x : ℝ => (x : EReal)) (tall_lo _ _ _ (i 0) rfl (i 1))))
  have e2 : extractStridedSlice S128x128 ![128, 0] (matmul dot_S128x256_S128x128_S256x128_0_0_1_1_n_n none (upX (φ := .bf16) A W) (B16 Bh)
      (constant S256x128 .f32 0x00000000#32)) slices_S256x128_o128_0_S128x128 = B32 (tmT W Bh) := by
    funext i
    exact (tl1 _ i).trans ((xb_tn A W Bh _).trans (congrArg (fun x : ℝ => (x : EReal)) (tall_hi _ _ _ (i 0) rfl (i 1))))
  rw [e1, e2]
  refine (congrArg (fun z => addf (addf (addf (B32 (scaleT H y)) z) (B32 (tmT W Bh))) (upB (φ := .f32) (tmT V Kh))) (bb_nn H (tmT A Bh))).trans ?_
  refine (congrArg (fun z => addf (addf z (B32 (tmT W Bh))) (upB (φ := .f32) (tmT V Kh))) (add_b _ _)).trans ?_
  exact (congrArg (fun z => addf z (upB (φ := .f32) (tmT V Kh))) (add_b _ _)).trans (add_b _ _)

theorem pay357_up (H : Two) : k0_pay357 (B32 H) = upH (φ := .f32) H := by
  funext i; dsimp only [k0_pay357]; pointwise; rfl

theorem pay367_up (O : Two) : k0_pay367 (B32 O) = upR (φ := .f32) O := by
  funext i
  dsimp only [k0_pay367]
  pointwise
  obtain ⟨p, q, rfl⟩ : ∃ (p : Fin 64) (q : Fin 128), i = ix2 p q := ⟨i 0, i 1, eq_ix2 i⟩
  refine (EReal.coe_add _ _).symm.trans (congrArg (fun x : ℝ => (x : EReal)) ?_)
  have key : ∀ (u w : Fin 128), u.val = p.val → w.val = 64 + p.val → blk O u q + blk O w q = O (hd q) p (tm q) := by
    intro u w hu hw
    have hu1 : tm u = p := Fin.ext (by show u.val % 64 = p.val; omega)
    have hw1 : tm w = p := Fin.ext (by show w.val % 64 = p.val; omega)
    have hu2 : hd u = 0 := Fin.ext (by show u.val / 64 = 0; omega)
    have hw2 : hd w = 1 := Fin.ext (by show w.val / 64 = 1; omega)
    unfold blk
    rw [hu1, hw1, hu2, hw2]
    have hq : hd q = 0 ∨ hd q = 1 := by
      generalize hd q = z; revert z; decide
    rcases hq with h | h <;> simp [h]
  exact key _ _ rfl rfl

end Cert.Proof.Blocks

end
-- ==== Proof.Pair.lean ====
module

public import proofs.«01_k».proof.Defs
public import proofs.«01_k».proof.Proof.Stages
public import proofs.«01_k».proof.Proof.Blocks

/-!
One pair of heads of the recurrence's kernel over one chunk: what the kernel's chain of operations writes and what state
it leaves, on real tables.
-/

@[expose] public section

set_option maxRecDepth 16384

noncomputable section

namespace Cert.Proof.Pair

open Idealize.ShloMosaic Cert.KernelIdeal Cert.KernelIdeal.Gen
open Cert.Proof.Tiles Cert.Proof.Masks Cert.Proof.Stages Cert.Proof.Blocks

/-! The kernel's chain, for any inputs. -/

section chain

variable (r k v ld a g : FVec Ideal S64x128 .f32) (kks ka rk lw lb : FVec Ideal S1x128 .f32) (ht : FVec Ideal S1x128x128 .f32)

def nkk : FVec Ideal S64x128 .f32 := k0_pay37 (k0_pay18 k kks) (k0_pay26 grp (k0_pay18 k kks))
def nk : FVec Ideal S64x128 .f32 := k0_pay47 k a ka
def ncum : FVec Ideal S64x128 .f32 := k0_pay68 lower ld
def ntot : FVec Ideal S1x128 .f32 := k0_pay77 (ncum ld)
def nbeta : FVec Ideal S64x128 .f32 := k0_pay85 a (nkk k kks)
def nas : FVec Ideal S128x128 .bf16 := k0_pay93 same ld (nkk k kks) (ncum ld)
def nrs : FVec Ideal S128x128 .bf16 := k0_pay104 same r (ncum ld)
def nbt : FVec Ideal S128x128 .bf16 := k0_pay130 same (k0_pay129 (ncum ld) (nbeta k a kks))
def nkt : FVec Ideal S128x128 .bf16 := k0_pay138 same (nk k a ka) (k0_pay113 (ncum ld))
def nbh : FVec Ideal S128x128 .bf16 := k0_pay147 same (nbeta k a kks) (k0_pay121 (ncum ld) (ntot ld))
def nkh : FVec Ideal S128x128 .bf16 := k0_pay156 same (nk k a ka) (k0_pay121 (ncum ld) (ntot ld))
def nvs : FVec Ideal S128x128 .bf16 := k0_pay165 same v
def nquad : FVec Ideal S256x256 .f32 := k0_pay173 (nas k ld kks) (nrs r ld) (nbt k ld a kks) (nkt k ld a ka)
def nlp : FVec Ideal S128x128 .f32 := k0_pay182 strictM (nquad r k ld a kks ka)
def nlak : FVec Ideal S128x128 .bf16 := k0_pay190 strictM (nquad r k ld a kks ka)
def nmrb : FVec Ideal S128x128 .bf16 := k0_pay198 inclM (nquad r k ld a kks ka)
def nmrk : FVec Ideal S128x128 .bf16 := k0_pay206 inclM (nquad r k ld a kks ka)
def nx0 : FVec Ideal S128x256 .f32 := k0_pay214 (nas k ld kks) (nvs v) (nlak r k ld a kks ka)

/-- The six doublings. -/
def nsolve (l : FVec Ideal S128x128 .f32) (x0 : FVec Ideal S128x256 .f32) : FVec Ideal S128x256 .bf16 :=
  k0_pay304 (k0_pay292 (k0_pay274 (k0_pay250 (k0_pay234 (k0_pay218 l)))
      (k0_pay258 (k0_pay234 (k0_pay218 l)) (k0_pay242 (k0_pay218 l) (k0_pay226 l x0))) (constant S128x128 .f32 0x00000000#32))
      (k0_pay282 (k0_pay250 (k0_pay234 (k0_pay218 l))) (constant S128x128 .f32 0x00000000#32)))
    (k0_pay300 (k0_pay282 (k0_pay250 (k0_pay234 (k0_pay218 l))) (constant S128x128 .f32 0x00000000#32)))

def nx6 : FVec Ideal S128x256 .bf16 := nsolve (nlp r k ld a kks ka) (nx0 r k v ld a kks ka)

def no : FVec Ideal S128x128 .f32 := k0_pay341 (nvs v) (nmrk r k ld a kks ka) (k0_pay320 (k0_pay312 ht))
  (k0_pay328 (nmrb r k ld a kks ka) (nx6 r k v ld a kks ka)) (k0_pay336 (nrs r ld))

/-- The state the pair leaves. -/
def pairState : FVec Ideal S1x128x128 .f32 :=
  k0_pay357 (k0_pay356 (ntot ld) (nbh k ld a kks) (nkh k ld a ka) (nvs v) (nx6 r k v ld a kks ka) (k0_pay312 ht) (k0_pay320 (k0_pay312 ht)))

def nout (o : FVec Ideal S128x128 .f32) (nkv : FVec Ideal S64x128 .f32) : FVec Ideal S64x128 .bf16 :=
  k0_pay418 v (k0_pay383 (k0_pay367 o) (k0_pay375 grp o)) (k0_pay391 grp (k0_pay367 o) (k0_pay375 grp o)) (k0_pay403 grp r nkv rk) lw lb g

/-- The rows the pair writes. -/
def pairOut : FVec Ideal S64x128 .bf16 :=
  nout r v g rk lw lb (no r k v ld a kks ka ht) (nk k a ka)

end chain

/-! The same on real tables. -/

/-- The literal under the norm. -/
def eps : ℝ := 9223372 * (2 : ℝ) ^ (-63 : ℤ)

theorem eps_pos : 0 < eps := by unfold eps; positivity

theorem eps_lit : Ideal.ofBits .f32 0x2B8CBCCC#32 = ((eps : ℝ) : EReal) := by
  simp [Ideal.ofBits, Ideal.ieee, eps]

theorem inv64_lit : Ideal.ofBits .f32 0x3C800000#32 = (((1 : ℝ) / 64 : ℝ) : EReal) := by
  simp [Ideal.ofBits, Ideal.ieee]; rw [← EReal.coe_mul]; norm_num

theorem div_real (x y : ℝ) (h : 0 < y) : Ideal.div (x : EReal) (y : EReal) = ((x / y : ℝ) : EReal) := by
  have h0 : ((y : ℝ) : EReal) ≠ 0 := by exact_mod_cast h.ne'
  unfold Ideal.div
  rw [if_neg h0, div_eq_mul_inv, EReal.coe_mul, EReal.coe_inv]

theorem sqrt_real (x : ℝ) (h : 0 ≤ x) : Ideal.sqrt (x : EReal) = ((Real.sqrt x : ℝ) : EReal) := by
  show (if x < 0 then (⊥ : EReal) else (Real.sqrt x : EReal)) = _
  rw [if_neg (not_lt.mpr h)]

/-- The normalised direction of one step and head. -/
def qrow (y : Fin 64 → ℝ) (n : Fin 64) : ℝ := y n / max (Real.sqrt (∑ s, y s * y s)) eps

theorem unit_real (y : Fin 64 → ℝ) (n : Fin 64) :
    Ideal.div ((y n : ℝ) : EReal) (max (Ideal.sqrt ((∑ s, y s * y s : ℝ) : EReal)) (Ideal.ofBits .f32 0x2B8CBCCC#32))
      = ((qrow y n : ℝ) : EReal) := by
  rw [sqrt_real _ (Finset.sum_nonneg fun s _ => mul_self_nonneg _), eps_lit, ← EReal.coe_strictMono.monotone.map_max]
  exact div_real _ _ (lt_of_lt_of_le eps_pos (le_max_right _ _))

section reals

variable (R K V LD A S : Two) (s ka : Fin 2 → Fin 64 → ℝ)

def qT : Two := fun h t => qrow fun n => K h t n * s h n
def kT : Two := fun h t n => K h t n * (1 + (A h t n - 1) * ka h n)
def cT : Two := fun h => Chunk.cum (LD h)

theorem nkk_up : nkk (upR K) (upP s) = upR (φ := .f32) (qT K s) := by
  unfold nkk; rw [pay18_up, pay26_up]
  funext i
  exact unit_real (fun n => K (hd (i 1)) (i 0) n * s (hd (i 1)) n) (tm (i 1))

theorem nk_up : nk (upR K) (upR A) (upP ka) = upR (φ := .f32) (kT K A ka) := pay47_up K A ka
theorem ncum_up : ncum (upR LD) = upR (φ := .f32) (cT LD) := pay68_up LD
theorem ntot_up : ntot (upR LD) = upP (φ := .f32) (fun h n => cT LD h 63 n) := by unfold ntot; rw [ncum_up, pay77_up]

def bT : Two := fun h t n => qT K s h t n * A h t n
theorem nbeta_up : nbeta (upR K) (upR A) (upP s) = upR (φ := .f32) (bT K A s) := by unfold nbeta; rw [nkk_up, pay85_up]; rfl

def asT : Two := fun h => Chunk.as_ (LD h) (qT K s h)
theorem nas_up : nas (upR K) (upR LD) (upP s) = upB (φ := .bf16) (asT K LD s) := by unfold nas; rw [nkk_up, ncum_up, pay93_up]; rfl
def rsT : Two := fun h => Chunk.rs (LD h) (R h)
theorem nrs_up : nrs (upR R) (upR LD) = upB (φ := .bf16) (rsT R LD) := by unfold nrs; rw [ncum_up, pay104_up]; rfl
def btT : Two := fun h => Chunk.bt (LD h) (qT K s h) (A h)
theorem nbt_up : nbt (upR K) (upR LD) (upR A) (upP s) = upB (φ := .bf16) (btT K LD A s) := by
  unfold nbt; rw [nbeta_up, ncum_up, pay129_up, stack_up]; rfl
def ktT : Two := fun h => Chunk.kt (LD h) (kT K A ka h)
theorem nkt_up : nkt (upR K) (upR LD) (upR A) (upP ka) = upB (φ := .bf16) (ktT K LD A ka) := by
  unfold nkt; rw [nk_up, ncum_up, pay113_up, pay138_up]; rfl
def bhT : Two := fun h => Chunk.bh (LD h) (qT K s h) (A h)
theorem nbh_up : nbh (upR K) (upR LD) (upR A) (upP s) = upB (φ := .bf16) (bhT K LD A s) := by
  unfold nbh; rw [nbeta_up, ncum_up, ntot_up, pay121_up, pay147_up]; rfl
def khT : Two := fun h => Chunk.kh (LD h) (kT K A ka h)
theorem nkh_up : nkh (upR K) (upR LD) (upR A) (upP ka) = upB (φ := .bf16) (khT K LD A ka) := by
  unfold nkh; rw [nk_up, ncum_up, ntot_up, pay121_up, pay156_up]; rfl
theorem nvs_up : nvs (upR V) = upB (φ := .bf16) V := pay165_up V

theorem nquad_up : nquad (upR R) (upR K) (upR LD) (upR A) (upP s) (upP ka)
    = quad (asT K LD s) (rsT R LD) (btT K LD A s) (ktT K LD A ka) := by
  unfold nquad; rw [nas_up, nrs_up, nbt_up, nkt_up]

def lpT : Two := strictT (mtT (asT K LD s) (btT K LD A s))
def lakT : Two := strictT (mtT (asT K LD s) (ktT K LD A ka))
def mrbT : Two := inclT (mtT (rsT R LD) (btT K LD A s))
def mrkT : Two := inclT (mtT (rsT R LD) (ktT K LD A ka))

theorem nlp_up : nlp (upR R) (upR K) (upR LD) (upR A) (upP s) (upP ka) = upB (φ := .f32) (lpT K LD A s) := by
  unfold nlp; rw [nquad_up, pay182_up]; rfl
theorem nlak_up : nlak (upR R) (upR K) (upR LD) (upR A) (upP s) (upP ka) = upB (φ := .bf16) (lakT K LD A s ka) := by
  unfold nlak; rw [nquad_up, pay190_up]; rfl
theorem nmrb_up : nmrb (upR R) (upR K) (upR LD) (upR A) (upP s) (upP ka) = upB (φ := .bf16) (mrbT R K LD A s) := by
  unfold nmrb; rw [nquad_up, pay198_up]; rfl
theorem nmrk_up : nmrk (upR R) (upR K) (upR LD) (upR A) (upP s) (upP ka) = upB (φ := .bf16) (mrkT R K LD A ka) := by
  unfold nmrk; rw [nquad_up, pay206_up]; rfl

theorem nx0_up : nx0 (upR R) (upR K) (upR V) (upR LD) (upR A) (upP s) (upP ka)
    = upX (φ := .f32) (asT K LD s) (mmT (lakT K LD A s ka) V) := by
  unfold nx0; rw [nas_up, nvs_up, nlak_up]; exact pay214_up _ _ _

/-- One doubling. -/
def stepT (L X : Two) : Two := addT X (mmT L X)
def sqT (L : Two) : Two := mmT L L
def dblT (L X : Two) : Two :=
  stepT (sqT (sqT (sqT (sqT (sqT L))))) (stepT (sqT (sqT (sqT (sqT L)))) (stepT (sqT (sqT (sqT L)))
    (stepT (sqT (sqT L)) (stepT (sqT L) (stepT L X)))))

theorem nsolve_up (L X Y : Two) : nsolve (upB (φ := .f32) L) (upX (φ := .f32) X Y) = upX (φ := .bf16) (dblT L X) (dblT L Y) := by
  unfold nsolve
  rw [pay218_up, pay226_up, pay242_up, pay234_up, pay258_up, pay250_up, pay274_up, pay282_up, pay292_up, pay300_up, pay304_up]
  rfl

def xaT : Two := dblT (lpT K LD A s) (asT K LD s)
def xvT : Two := dblT (lpT K LD A s) (mmT (lakT K LD A s ka) V)

theorem nx6_up : nx6 (upR R) (upR K) (upR V) (upR LD) (upR A) (upP s) (upP ka)
    = upX (φ := .bf16) (xaT K LD A s) (xvT K V LD A s ka) := by
  unfold nx6; rw [nlp_up, nx0_up, nsolve_up]; rfl

def oT : Two := addT (addT (mtT (addT (rsT R LD) (mmT (mrbT R K LD A s) (xaT K LD A s))) S)
  (mmT (mrbT R K LD A s) (xvT K V LD A s ka))) (mmT (mrkT R K LD A ka) V)

theorem no_up : no (upR R) (upR K) (upR V) (upR LD) (upR A) (upP s) (upP ka) (upH S) = upB (φ := .f32) (oT R K V LD A S s ka) := by
  unfold no; rw [nvs_up, nmrk_up, nmrb_up, nx6_up, nrs_up, pay312_up, pay328_up]
  exact pay341_up _ _ _ _ _ _

def sT : Two := addT (addT (addT (scaleT S (fun h n => cT LD h 63 n)) (mmT S (tmT (xaT K LD A s) (bhT K LD A s))))
  (tmT (xvT K V LD A s ka) (bhT K LD A s))) (tmT V (khT K LD A ka))

theorem pairState_up : pairState (upR R) (upR K) (upR V) (upR LD) (upR A) (upP s) (upP ka) (upH S) = upH (φ := .f32) (sT K V LD A S s ka) := by
  unfold pairState; rw [nvs_up, nx6_up, ntot_up, nbh_up, nkh_up, pay312_up]
  refine (congrArg k0_pay357 (pay356_up _ _ _ _ _ _ _)).trans (pay357_up _)

/-! One head of the pair is one head's chunk. -/

/-- A table of one head as a matrix. -/
def mt (X : Fin 64 → Fin 64 → ℝ) : Chunk.M64 := X

theorem mm_h (A B : Two) (h : Fin 2) : mt (mmT A B h) = mt (A h) * mt (B h) := by
  ext t n; rw [Matrix.mul_apply]; rfl
theorem mt_h (A B : Two) (h : Fin 2) : mt (mtT A B h) = mt (A h) * Matrix.transpose (mt (B h)) := by
  ext t n; rw [Matrix.mul_apply]; rfl
theorem tm_h (A B : Two) (h : Fin 2) : mt (tmT A B h) = Matrix.transpose (mt (A h)) * mt (B h) := by
  ext t n; rw [Matrix.mul_apply]; rfl
theorem add_h (A B : Two) (h : Fin 2) : mt (addT A B h) = mt (A h) + mt (B h) := by
  ext t n; rfl
theorem strict_h (A : Two) (h : Fin 2) : mt (strictT A h) = Chunk.strict (mt (A h)) := rfl
theorem incl_h (A : Two) (h : Fin 2) : mt (inclT A h) = Chunk.incl (mt (A h)) := rfl
theorem step_h (L X : Two) (h : Fin 2) : mt (stepT L X h) = mt (X h) + mt (L h) * mt (X h) := by
  unfold stepT; rw [add_h, mm_h]
theorem sq_h (L : Two) (h : Fin 2) : mt (sqT L h) = mt (L h) * mt (L h) := mm_h L L h
theorem dbl_h (L X : Two) (h : Fin 2) : mt (dblT L X h) = Chunk.dbl (mt (L h)) (mt (X h)) := by
  unfold dblT; simp only [step_h, sq_h, Chunk.dbl]

theorem lp_h (h : Fin 2) : mt (lpT K LD A s h) = Chunk.lp (mt (LD h)) (mt (qT K s h)) (mt (A h)) := by
  unfold lpT; rw [strict_h, mt_h]; rfl
theorem lak_h (h : Fin 2) : mt (lakT K LD A s ka h) = Chunk.lak (mt (LD h)) (mt (qT K s h)) (mt (kT K A ka h)) := by
  unfold lakT; rw [strict_h, mt_h]; rfl
theorem mrb_h (h : Fin 2) : mt (mrbT R K LD A s h) = Chunk.mrb (mt (LD h)) (mt (R h)) (mt (qT K s h)) (mt (A h)) := by
  unfold mrbT; rw [incl_h, mt_h]; rfl
theorem mrk_h (h : Fin 2) : mt (mrkT R K LD A ka h) = Chunk.mrk (mt (LD h)) (mt (R h)) (mt (kT K A ka h)) := by
  unfold mrkT; rw [incl_h, mt_h]; rfl
theorem xa_h (h : Fin 2) : mt (xaT K LD A s h) = Chunk.xa (mt (LD h)) (mt (qT K s h)) (mt (A h)) := by
  unfold xaT; rw [dbl_h, lp_h]; rfl
theorem xv_h (h : Fin 2) : mt (xvT K V LD A s ka h) = Chunk.xv (mt (LD h)) (mt (kT K A ka h)) (mt (V h)) (mt (qT K s h)) (mt (A h)) := by
  unfold xvT; rw [dbl_h, lp_h, mm_h, lak_h]; rfl

theorem oT_eq (h : Fin 2) : mt (oT R K V LD A S s ka h) =
    Chunk.outK (mt (S h)) (mt (LD h)) (mt (R h)) (mt (kT K A ka h)) (mt (V h)) (mt (qT K s h)) (mt (A h)) := by
  unfold oT; rw [add_h, add_h, mt_h, add_h, mm_h, mm_h, mm_h, mrb_h, mrk_h, xa_h, xv_h]; rfl

theorem sT_eq (h : Fin 2) : mt (sT K V LD A S s ka h) =
    Chunk.endK (mt (S h)) (mt (LD h)) (mt (kT K A ka h)) (mt (V h)) (mt (qT K s h)) (mt (A h)) := by
  unfold sT; rw [add_h, add_h, add_h, mm_h, tm_h, tm_h, tm_h, xa_h, xv_h]; rfl

end reals

/-! The last stretch: normalisation over the head, the bonus and the gate. -/

def mean (o : Fin 64 → ℝ) : ℝ := (∑ s, o s) * (1 / 64)
def vari (o : Fin 64 → ℝ) : ℝ := (∑ s, (o s - mean o) * (o s - mean o)) * (1 / 64)

/-- One entry of the result. -/
def entry (o : Fin 64 → ℝ) (b v : ℝ) (n : Fin 64) (lw lb g : EReal) : EReal :=
  ((((o n - mean o : ℝ) : EReal) * Ideal.rsqrt (((vari o : ℝ) : EReal) + Ideal.ofBits .f32 0x3A27C5AC#32) * lw + lb)
    + ((b : ℝ) : EReal) * ((v : ℝ) : EReal)) * g

theorem mean_up (O : Two) : k0_pay375 grp (upB (φ := .f32) O) = upR (φ := .f32) (fun h t _ => mean (O h t)) := by
  refine (show k0_pay375 grp (upB (φ := .f32) O) = mulf (gs grp (k0_pay367 (B32 O))) (broadcast S64x128 (Scalar.ofBits .f32 0x3C800000#32 : Ideal .f32)) from rfl).trans ?_
  rw [pay367_up, gs_up]
  funext i
  refine (congrArg (fun z : EReal => _ * z) inv64_lit).trans ?_
  exact (EReal.coe_mul _ _).symm

theorem vari_up (O : Two) : k0_pay391 grp (upR (φ := .f32) O) (upR (φ := .f32) (fun h t _ => mean (O h t)))
    = upR (φ := .f32) (fun h t _ => vari (O h t)) := by
  refine (show k0_pay391 grp (upR (φ := .f32) O) (upR (φ := .f32) (fun h t _ => mean (O h t)))
    = mulf (gs grp (mulf (subf (upR O) (upR (fun h t _ => mean (O h t)))) (subf (upR O) (upR (fun h t _ => mean (O h t))))))
      (broadcast S64x128 (Scalar.ofBits .f32 0x3C800000#32 : Ideal .f32)) from rfl).trans ?_
  rw [sub_up, mul_up, gs_up]
  funext i
  refine (congrArg (fun z : EReal => _ * z) inv64_lit).trans ?_
  exact (EReal.coe_mul _ _).symm

theorem bonus_up (R K : Two) (y : Fin 2 → Fin 64 → ℝ) : k0_pay403 grp (upR (φ := .f32) R) (upR (φ := .f32) K) (upP (φ := .f32) y)
    = upR (φ := .f32) (fun h t _ => ∑ s, R h t s * K h t s * y h s) := by
  refine (show k0_pay403 grp (upR (φ := .f32) R) (upR (φ := .f32) K) (upP (φ := .f32) y)
    = gs grp (mulf (mulf (upR R) (upR K)) (broadcastTo S64x128 (shapeCast S1x128 (upP (φ := .f32) y) shapeCasts_S1x128_S1x128) broadcasts_S1x128_S64x128)) from rfl).trans ?_
  rw [cast_row, row_up, mul_up, mul_up, gs_up]

theorem row_read (x : FVec Ideal S1x128 .f32) (i : S64x128.Idx) : broadcastTo S64x128 x broadcasts_S1x128_S64x128 i = x (ix2 (0 : Fin 1) (i 1 : Fin 128)) := by
  pointwise

theorem pairOut_up (R K V LD A S : Two) (s ka rk : Fin 2 → Fin 64 → ℝ) (g : FVec Ideal S64x128 .f32) (lw lb : FVec Ideal S1x128 .f32) (i : S64x128.Idx) :
    pairOut (upR R) (upR K) (upR V) (upR LD) (upR A) g (upP s) (upP ka) (upP rk) lw lb (upH S) i
      = entry (oT R K V LD A S s ka (hd (i 1)) (i 0)) (∑ n, R (hd (i 1)) (i 0) n * kT K A ka (hd (i 1)) (i 0) n * rk (hd (i 1)) n)
          (V (hd (i 1)) (i 0) (tm (i 1))) (tm (i 1)) (lw (ix2 (0 : Fin 1) (i 1 : Fin 128))) (lb (ix2 (0 : Fin 1) (i 1 : Fin 128))) (g i) := by
  unfold pairOut
  rw [no_up, nk_up]
  unfold nout
  rw [mean_up, pay367_up, vari_up, bonus_up]
  dsimp only [k0_pay383]
  rw [sub_up]
  dsimp only [k0_pay418]
  rw [cast_row, cast_row]
  refine congrArg₂ (fun x y : EReal => ((_ * x + y) + _) * _) (row_read lw i) (row_read lb i)

end Cert.Proof.Pair

end
-- ==== Proof.Pieces.lean ====
/- What one grid point of the recurrence leaves, read off its run: for every pair of heads the rows of the output tile and
   the pair's block of the carried state are the pair's own chain (`Pair.pairOut`, `Pair.pairState`) of the pair's slices. -/
module

public import proofs.«01_k».proof.Defs
public import proofs.«01_k».proof.Proof.Gen.KernelIdeal.Value
public import proofs.«01_k».proof.Proof.Pair
public import Idealize.ShloMosaic.Lib.Pipeline.ReadBack

@[expose] public section

set_option maxRecDepth 16384

noncomputable section

namespace Cert.Proof.Pieces

open Idealize.ShloMosaic Idealize.SL.Sem Cert.KernelIdeal
open Cert.KernelIdeal.Gen Idealize.ShloMosaic.TcCoe
open Idealize.ShloMosaic.Pipeline (Dat Cfg Window)
open Cert.Proof.Pair Cert.Proof.Masks

variable (m : (ℓ : Loc nD τ sig) → Buf (Elt Ideal) ℓ)

/-- The columns of pair `p` in a tile of rows. -/
def colS (x : FVec Ideal S64x1024 .f32) (p : Fin 8) : FVec Ideal S64x128 .f32 := fun i =>
  x (ix2 (i 0) (⟨128 * p.val + (i 1 : Fin 128).val, by have : (i 1 : Fin 128).val < 128 := (i 1 : Fin 128).isLt; omega⟩ : Fin 1024))
/-- The columns of pair `p` in a parameter row. -/
def rowS (x : FVec Ideal S1x1024 .f32) (p : Fin 8) : FVec Ideal S1x128 .f32 := fun i =>
  x (ix2 (i 0) (⟨128 * p.val + (i 1 : Fin 128).val, by have : (i 1 : Fin 128).val < 128 := (i 1 : Fin 128).isLt; omega⟩ : Fin 1024))
/-- Pair `p`'s block of the carried state. -/
def stS (x : FVec Ideal S8x128x128 .f32) (p : Fin 8) : FVec Ideal S1x128x128 .f32 := fun i => x (ix3 p (i 1) (i 2))

theorem ld_col (x : FVec Ideal S64x1024 .f32) (p : Fin 8) (o : ℕ) (ho : o = 128 * p.val)
    (inb : ∀ a, (![0, o] : Fin 2 → ℕ) a + (![64, 128] : Fin 2 → ℕ) a ≤ S64x1024.size a) :
    View.ld (Val := Elt Ideal) (e' := EltTy.f32) (S := S64x1024) x (Rect.unit (s := S64x1024) ![0, o] ![64, 128] inb) = colS x p := by
  subst ho
  rw [View.ld_unit]
  funext i
  refine congrArg x (funext fun a => ?_)
  fin_cases a
  · exact Fin.ext (Nat.zero_add _)
  · rfl

theorem ld_row (x : FVec Ideal S1x1024 .f32) (p : Fin 8) (o : ℕ) (ho : o = 128 * p.val)
    (inb : ∀ a, (![0, o] : Fin 2 → ℕ) a + (![1, 128] : Fin 2 → ℕ) a ≤ S1x1024.size a) :
    View.ld (Val := Elt Ideal) (e' := EltTy.f32) (S := S1x1024) x (Rect.unit (s := S1x1024) ![0, o] ![1, 128] inb) = rowS x p := by
  subst ho
  rw [View.ld_unit]
  funext i
  refine congrArg x (funext fun a => ?_)
  fin_cases a
  · exact Fin.ext (Nat.zero_add _)
  · rfl

theorem ld_st (x : FVec Ideal S8x128x128 .f32) (p : Fin 8) (o : ℕ) (ho : o = p.val)
    (inb : ∀ a, (![o, 0, 0] : Fin 3 → ℕ) a + (![1, 128, 128] : Fin 3 → ℕ) a ≤ S8x128x128.size a) :
    View.ld (Val := Elt Ideal) (e' := EltTy.f32) (S := S8x128x128) x (Rect.unit (s := S8x128x128) ![o, 0, 0] ![1, 128, 128] inb) = stS x p := by
  subst ho
  rw [View.ld_unit]
  funext i
  refine congrArg x (funext fun a => ?_)
  fin_cases a
  · have h : (i 0 : Fin 1).val < 1 := (i 0 : Fin 1).isLt
    exact Fin.ext (show p.val + (i 0 : Fin 1).val = p.val by omega)
  · exact Fin.ext (Nat.zero_add _)
  · exact Fin.ext (Nat.zero_add _)

/-- The output tile of a point, from its input tiles and the state before it. -/
def outAt (r k v ld a g : FVec Ideal S64x1024 .f32) (kks ka rk lw lb : FVec Ideal S1x1024 .f32) (s : FVec Ideal S8x128x128 .f32)
    (y : S64x1024.Idx) : EReal :=
  have h : (y 1 : Fin 1024).val < 1024 := (y 1 : Fin 1024).isLt
  let p : Fin 8 := ⟨(y 1 : Fin 1024).val / 128, by omega⟩
  pairOut (colS r p) (colS k p) (colS v p) (colS ld p) (colS a p) (colS g p) (rowS kks p) (rowS ka p) (rowS rk p) (rowS lw p)
    (rowS lb p) (stS s p) (ix2 (y 0) (⟨(y 1 : Fin 1024).val % 128, by omega⟩ : Fin 128))

/-- The state after a point, from its input tiles and the state before it. -/
def stateAt (r k v ld a : FVec Ideal S64x1024 .f32) (kks ka : FVec Ideal S1x1024 .f32) (s : FVec Ideal S8x128x128 .f32)
    (y : S8x128x128.Idx) : EReal :=
  let p : Fin 8 := y 0
  pairState (colS r p) (colS k p) (colS v p) (colS ld p) (colS a p) (rowS kks p) (rowS ka p) (stS s p) (ix3 (0 : Fin 1) (y 1) (y 2))

theorem outAt_piece (r k v ld a g : FVec Ideal S64x1024 .f32) (kks ka rk lw lb : FVec Ideal S1x1024 .f32) (s : FVec Ideal S8x128x128 .f32)
    (y : S64x1024.Idx) (x : S64x128.Idx) (p : Fin 8) (h0 : (y 0 : Fin 64).val = (x 0 : Fin 64).val)
    (h1 : (y 1 : Fin 1024).val = 128 * p.val + (x 1 : Fin 128).val) :
    pairOut (colS r p) (colS k p) (colS v p) (colS ld p) (colS a p) (colS g p) (rowS kks p) (rowS ka p) (rowS rk p) (rowS lw p)
      (rowS lb p) (stS s p) x = outAt r k v ld a g kks ka rk lw lb s y := by
  have hx : (x 1 : Fin 128).val < 128 := (x 1 : Fin 128).isLt
  have hy : (y 1 : Fin 1024).val < 1024 := (y 1 : Fin 1024).isLt
  have hp : (⟨(y 1 : Fin 1024).val / 128, by omega⟩ : Fin 8) = p := Fin.ext (by simp only; omega)
  have hi : ix2 (y 0 : Fin 64) (⟨(y 1 : Fin 1024).val % 128, by omega⟩ : Fin 128) = x := by
    refine funext fun a => ?_
    fin_cases a
    · exact Fin.ext h0
    · exact Fin.ext (show (y 1 : Fin 1024).val % 128 = (x 1 : Fin 128).val by omega)
  unfold outAt
  simp only
  rw [hp]
  exact congrArg _ hi.symm

theorem stateAt_piece (r k v ld a : FVec Ideal S64x1024 .f32) (kks ka : FVec Ideal S1x1024 .f32) (s : FVec Ideal S8x128x128 .f32)
    (y : S8x128x128.Idx) (x : S1x128x128.Idx) (p : Fin 8) (h0 : (y 0 : Fin 8).val = p.val)
    (h1 : (y 1 : Fin 128).val = (x 1 : Fin 128).val) (h2 : (y 2 : Fin 128).val = (x 2 : Fin 128).val) :
    pairState (colS r p) (colS k p) (colS v p) (colS ld p) (colS a p) (rowS kks p) (rowS ka p) (stS s p) x
      = stateAt r k v ld a kks ka s y := by
  have hp : (y 0 : Fin 8) = p := Fin.ext h0
  have hx : (x 0 : Fin 1).val < 1 := (x 0 : Fin 1).isLt
  have hi : ix3 (0 : Fin 1) (y 1 : Fin 128) (y 2 : Fin 128) = x := by
    refine funext fun a => ?_
    fin_cases a
    · exact Fin.ext (show 0 = (x 0 : Fin 1).val by omega)
    · exact Fin.ext h1
    · exact Fin.ext h2
  show _ = pairState (colS r (y 0 : Fin 8)) (colS k (y 0 : Fin 8)) (colS v (y 0 : Fin 8)) (colS ld (y 0 : Fin 8)) (colS a (y 0 : Fin 8))
    (rowS kks (y 0 : Fin 8)) (rowS ka (y 0 : Fin 8)) (stS s (y 0 : Fin 8)) (ix3 (0 : Fin 1) (y 1 : Fin 128) (y 2 : Fin 128))
  rw [hp]
  exact congrArg _ hi.symm

theorem off0 : ∀ a : Fin 3, (![0, 0, 0] : Fin 3 → ℕ) a = 0 := by decide

theorem mem_block (y : S8x128x128.Idx) (p : ℕ) (inb : ∀ a, (![p, 0, 0] : Fin 3 → ℕ) a + (![1, 128, 128] : Fin 3 → ℕ) a ≤ S8x128x128.size a)
    (h : (y 0 : Fin 8).val = p) : y ∈ (Rect.unit (s := S8x128x128) ![p, 0, 0] ![1, 128, 128] inb).set := by
  have h1 : (y 1 : Fin 128).val < 128 := (y 1 : Fin 128).isLt
  have h2 : (y 2 : Fin 128).val < 128 := (y 2 : Fin 128).isLt
  refine Rect.mem_set_unit.mpr fun a => ?_
  fin_cases a
  · exact ⟨(show p ≤ (y 0 : Fin 8).val by omega), (show (y 0 : Fin 8).val < p + 1 by omega)⟩
  · exact ⟨Nat.zero_le _, (show (y 1 : Fin 128).val < 0 + 128 by omega)⟩
  · exact ⟨Nat.zero_le _, (show (y 2 : Fin 128).val < 0 + 128 by omega)⟩

set_option maxHeartbeats 8000000 in
/-- The output tile after a point that follows another of its batch. -/
theorem out_B (c : Dev nD) (t : Fin cfg0.N) (h0 : ¬t.val % 64 = 0) :
    (outsAt0 m c t.val t.isLt).1 = outAt (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 := by
  funext y
  rw [outsAt0_B m c t h0]
  frame_out
  canon_tiles x h
  case piece0 =>
    rw [read_unread_whole]
    refine Eq.trans (b := pairOut (View.ld (iblk m c 0 t) (Rect.unit ![0, 896] ![64, 128] inb_S64x1024_S64x128_0_896)) (View.ld (iblk m c 1 t) (Rect.unit ![0, 896] ![64, 128] inb_S64x1024_S64x128_0_896)) (View.ld (iblk m c 2 t) (Rect.unit ![0, 896] ![64, 128] inb_S64x1024_S64x128_0_896)) (View.ld (iblk m c 3 t) (Rect.unit ![0, 896] ![64, 128] inb_S64x1024_S64x128_0_896)) (View.ld (iblk m c 4 t) (Rect.unit ![0, 896] ![64, 128] inb_S64x1024_S64x128_0_896)) (View.ld (iblk m c 5 t) (Rect.unit ![0, 896] ![64, 128] inb_S64x1024_S64x128_0_896)) (View.ld (iblk m c 6 t) (Rect.unit ![0, 896] ![1, 128] inb_S1x1024_S1x128_0_896)) (View.ld (iblk m c 7 t) (Rect.unit ![0, 896] ![1, 128] inb_S1x1024_S1x128_0_896)) (View.ld (iblk m c 8 t) (Rect.unit ![0, 896] ![1, 128] inb_S1x1024_S1x128_0_896)) (View.ld (iblk m c 9 t) (Rect.unit ![0, 896] ![1, 128] inb_S1x1024_S1x128_0_896)) (View.ld (iblk m c 10 t) (Rect.unit ![0, 896] ![1, 128] inb_S1x1024_S1x128_0_896)) (View.ld (Val := Elt Ideal) (e' := EltTy.f32) (S := S8x128x128) ((outsAt0 m c (t.val - 1) (Nat.lt_of_le_of_lt (Nat.sub_le _ _) t.isLt)).2) (Rect.unit (s := S8x128x128) ![7, 0, 0] ![1, 128, 128] inb_S8x128x128_S1x128x128_7_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay1, k0_pay429, k0_pay390, k0_pay16, k0_pay13, k0_pay14, k0_pay15, k0_pay374, k0_pay348, k0_pay172, k0_pay6, k0_pay3, k0_pay4, k0_pay5, k0_pay213, k0_pay11, k0_pay7, k0_pay8, k0_pay9, k0_pay181, k0_pay103, k0_pay101, k0_pay46, k0_pay25, k0_pay36, k0_pay102, k0_pay76, k0_pay17, k0_pay66, k0_pay67, k0_pay112, k0_pay111, k0_pay137, k0_pay92, k0_pay120, k0_pay146, k0_pay57, k0_pay56, k0_pay327, k0_pay335, k0_pay205, k0_pay311, k0_pay291, k0_pay273, k0_pay257, k0_pay241, k0_pay225, k0_pay189, k0_pay12, k0_pay299, k0_pay281, k0_pay265, k0_pay233, k0_pay217, k0_pay197, k0_pay249, k0_pay340, k0_pay402, k0_pay417, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 7 896 rfl, ld_col (iblk m c 1 t) 7 896 rfl, ld_col (iblk m c 2 t) 7 896 rfl, ld_col (iblk m c 3 t) 7 896 rfl, ld_col (iblk m c 4 t) 7 896 rfl, ld_col (iblk m c 5 t) 7 896 rfl,
      ld_row (iblk m c 6 t) 7 896 rfl, ld_row (iblk m c 7 t) 7 896 rfl, ld_row (iblk m c 8 t) 7 896 rfl, ld_row (iblk m c 9 t) 7 896 rfl, ld_row (iblk m c 10 t) 7 896 rfl, ld_st (outsAt0 m c (t.val - 1) (Nat.lt_of_le_of_lt (Nat.sub_le _ _) t.isLt)).2 7 7 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 y x 7 h0 (by omega)
  case piece1 =>
    rw [read_unread_whole]
    refine Eq.trans (b := pairOut (View.ld (iblk m c 0 t) (Rect.unit ![0, 768] ![64, 128] inb_S64x1024_S64x128_0_768)) (View.ld (iblk m c 1 t) (Rect.unit ![0, 768] ![64, 128] inb_S64x1024_S64x128_0_768)) (View.ld (iblk m c 2 t) (Rect.unit ![0, 768] ![64, 128] inb_S64x1024_S64x128_0_768)) (View.ld (iblk m c 3 t) (Rect.unit ![0, 768] ![64, 128] inb_S64x1024_S64x128_0_768)) (View.ld (iblk m c 4 t) (Rect.unit ![0, 768] ![64, 128] inb_S64x1024_S64x128_0_768)) (View.ld (iblk m c 5 t) (Rect.unit ![0, 768] ![64, 128] inb_S64x1024_S64x128_0_768)) (View.ld (iblk m c 6 t) (Rect.unit ![0, 768] ![1, 128] inb_S1x1024_S1x128_0_768)) (View.ld (iblk m c 7 t) (Rect.unit ![0, 768] ![1, 128] inb_S1x1024_S1x128_0_768)) (View.ld (iblk m c 8 t) (Rect.unit ![0, 768] ![1, 128] inb_S1x1024_S1x128_0_768)) (View.ld (iblk m c 9 t) (Rect.unit ![0, 768] ![1, 128] inb_S1x1024_S1x128_0_768)) (View.ld (iblk m c 10 t) (Rect.unit ![0, 768] ![1, 128] inb_S1x1024_S1x128_0_768)) (View.ld (Val := Elt Ideal) (e' := EltTy.f32) (S := S8x128x128) ((outsAt0 m c (t.val - 1) (Nat.lt_of_le_of_lt (Nat.sub_le _ _) t.isLt)).2) (Rect.unit (s := S8x128x128) ![6, 0, 0] ![1, 128, 128] inb_S8x128x128_S1x128x128_6_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay428, k0_pay389, k0_pay16, k0_pay13, k0_pay14, k0_pay15, k0_pay373, k0_pay347, k0_pay171, k0_pay6, k0_pay3, k0_pay4, k0_pay5, k0_pay212, k0_pay11, k0_pay7, k0_pay8, k0_pay9, k0_pay180, k0_pay100, k0_pay45, k0_pay24, k0_pay35, k0_pay75, k0_pay17, k0_pay64, k0_pay65, k0_pay110, k0_pay136, k0_pay91, k0_pay119, k0_pay145, k0_pay55, k0_pay326, k0_pay334, k0_pay204, k0_pay310, k0_pay290, k0_pay272, k0_pay256, k0_pay240, k0_pay224, k0_pay188, k0_pay12, k0_pay298, k0_pay280, k0_pay264, k0_pay248, k0_pay216, k0_pay196, k0_pay232, k0_pay339, k0_pay382, k0_pay401, k0_pay400, k0_pay416, k0_pay413, k0_pay414, k0_pay415, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 6 768 rfl, ld_col (iblk m c 1 t) 6 768 rfl, ld_col (iblk m c 2 t) 6 768 rfl, ld_col (iblk m c 3 t) 6 768 rfl, ld_col (iblk m c 4 t) 6 768 rfl, ld_col (iblk m c 5 t) 6 768 rfl,
      ld_row (iblk m c 6 t) 6 768 rfl, ld_row (iblk m c 7 t) 6 768 rfl, ld_row (iblk m c 8 t) 6 768 rfl, ld_row (iblk m c 9 t) 6 768 rfl, ld_row (iblk m c 10 t) 6 768 rfl, ld_st (outsAt0 m c (t.val - 1) (Nat.lt_of_le_of_lt (Nat.sub_le _ _) t.isLt)).2 6 6 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 y x 6 h0 (by omega)
  case piece2 =>
    rw [read_unread_whole]
    refine Eq.trans (b := pairOut (View.ld (iblk m c 0 t) (Rect.unit ![0, 640] ![64, 128] inb_S64x1024_S64x128_0_640)) (View.ld (iblk m c 1 t) (Rect.unit ![0, 640] ![64, 128] inb_S64x1024_S64x128_0_640)) (View.ld (iblk m c 2 t) (Rect.unit ![0, 640] ![64, 128] inb_S64x1024_S64x128_0_640)) (View.ld (iblk m c 3 t) (Rect.unit ![0, 640] ![64, 128] inb_S64x1024_S64x128_0_640)) (View.ld (iblk m c 4 t) (Rect.unit ![0, 640] ![64, 128] inb_S64x1024_S64x128_0_640)) (View.ld (iblk m c 5 t) (Rect.unit ![0, 640] ![64, 128] inb_S64x1024_S64x128_0_640)) (View.ld (iblk m c 6 t) (Rect.unit ![0, 640] ![1, 128] inb_S1x1024_S1x128_0_640)) (View.ld (iblk m c 7 t) (Rect.unit ![0, 640] ![1, 128] inb_S1x1024_S1x128_0_640)) (View.ld (iblk m c 8 t) (Rect.unit ![0, 640] ![1, 128] inb_S1x1024_S1x128_0_640)) (View.ld (iblk m c 9 t) (Rect.unit ![0, 640] ![1, 128] inb_S1x1024_S1x128_0_640)) (View.ld (iblk m c 10 t) (Rect.unit ![0, 640] ![1, 128] inb_S1x1024_S1x128_0_640)) (View.ld (Val := Elt Ideal) (e' := EltTy.f32) (S := S8x128x128) ((outsAt0 m c (t.val - 1) (Nat.lt_of_le_of_lt (Nat.sub_le _ _) t.isLt)).2) (Rect.unit (s := S8x128x128) ![5, 0, 0] ![1, 128, 128] inb_S8x128x128_S1x128x128_5_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay427, k0_pay412, k0_pay16, k0_pay13, k0_pay14, k0_pay15, k0_pay54, k0_pay426, k0_pay388, k0_pay372, k0_pay346, k0_pay170, k0_pay6, k0_pay3, k0_pay4, k0_pay5, k0_pay211, k0_pay11, k0_pay7, k0_pay8, k0_pay9, k0_pay179, k0_pay99, k0_pay44, k0_pay23, k0_pay34, k0_pay74, k0_pay17, k0_pay62, k0_pay63, k0_pay109, k0_pay135, k0_pay90, k0_pay118, k0_pay144, k0_pay325, k0_pay333, k0_pay203, k0_pay309, k0_pay289, k0_pay271, k0_pay255, k0_pay239, k0_pay223, k0_pay187, k0_pay12, k0_pay297, k0_pay279, k0_pay263, k0_pay247, k0_pay231, k0_pay195, k0_pay338, k0_pay381, k0_pay399, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 5 640 rfl, ld_col (iblk m c 1 t) 5 640 rfl, ld_col (iblk m c 2 t) 5 640 rfl, ld_col (iblk m c 3 t) 5 640 rfl, ld_col (iblk m c 4 t) 5 640 rfl, ld_col (iblk m c 5 t) 5 640 rfl,
      ld_row (iblk m c 6 t) 5 640 rfl, ld_row (iblk m c 7 t) 5 640 rfl, ld_row (iblk m c 8 t) 5 640 rfl, ld_row (iblk m c 9 t) 5 640 rfl, ld_row (iblk m c 10 t) 5 640 rfl, ld_st (outsAt0 m c (t.val - 1) (Nat.lt_of_le_of_lt (Nat.sub_le _ _) t.isLt)).2 5 5 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 y x 5 h0 (by omega)
  case piece3 =>
    rw [read_unread_whole]
    refine Eq.trans (b := pairOut (View.ld (iblk m c 0 t) (Rect.unit ![0, 512] ![64, 128] inb_S64x1024_S64x128_0_512)) (View.ld (iblk m c 1 t) (Rect.unit ![0, 512] ![64, 128] inb_S64x1024_S64x128_0_512)) (View.ld (iblk m c 2 t) (Rect.unit ![0, 512] ![64, 128] inb_S64x1024_S64x128_0_512)) (View.ld (iblk m c 3 t) (Rect.unit ![0, 512] ![64, 128] inb_S64x1024_S64x128_0_512)) (View.ld (iblk m c 4 t) (Rect.unit ![0, 512] ![64, 128] inb_S64x1024_S64x128_0_512)) (View.ld (iblk m c 5 t) (Rect.unit ![0, 512] ![64, 128] inb_S64x1024_S64x128_0_512)) (View.ld (iblk m c 6 t) (Rect.unit ![0, 512] ![1, 128] inb_S1x1024_S1x128_0_512)) (View.ld (iblk m c 7 t) (Rect.unit ![0, 512] ![1, 128] inb_S1x1024_S1x128_0_512)) (View.ld (iblk m c 8 t) (Rect.unit ![0, 512] ![1, 128] inb_S1x1024_S1x128_0_512)) (View.ld (iblk m c 9 t) (Rect.unit ![0, 512] ![1, 128] inb_S1x1024_S1x128_0_512)) (View.ld (iblk m c 10 t) (Rect.unit ![0, 512] ![1, 128] inb_S1x1024_S1x128_0_512)) (View.ld (Val := Elt Ideal) (e' := EltTy.f32) (S := S8x128x128) ((outsAt0 m c (t.val - 1) (Nat.lt_of_le_of_lt (Nat.sub_le _ _) t.isLt)).2) (Rect.unit (s := S8x128x128) ![4, 0, 0] ![1, 128, 128] inb_S8x128x128_S1x128x128_4_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay425, k0_pay387, k0_pay371, k0_pay345, k0_pay169, k0_pay6, k0_pay3, k0_pay4, k0_pay5, k0_pay210, k0_pay11, k0_pay7, k0_pay8, k0_pay9, k0_pay178, k0_pay98, k0_pay43, k0_pay22, k0_pay33, k0_pay16, k0_pay13, k0_pay14, k0_pay15, k0_pay73, k0_pay17, k0_pay60, k0_pay61, k0_pay108, k0_pay134, k0_pay89, k0_pay117, k0_pay143, k0_pay53, k0_pay324, k0_pay332, k0_pay202, k0_pay308, k0_pay288, k0_pay270, k0_pay254, k0_pay238, k0_pay222, k0_pay186, k0_pay12, k0_pay296, k0_pay278, k0_pay262, k0_pay246, k0_pay230, k0_pay194, k0_pay337, k0_pay380, k0_pay398, k0_pay411, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 4 512 rfl, ld_col (iblk m c 1 t) 4 512 rfl, ld_col (iblk m c 2 t) 4 512 rfl, ld_col (iblk m c 3 t) 4 512 rfl, ld_col (iblk m c 4 t) 4 512 rfl, ld_col (iblk m c 5 t) 4 512 rfl,
      ld_row (iblk m c 6 t) 4 512 rfl, ld_row (iblk m c 7 t) 4 512 rfl, ld_row (iblk m c 8 t) 4 512 rfl, ld_row (iblk m c 9 t) 4 512 rfl, ld_row (iblk m c 10 t) 4 512 rfl, ld_st (outsAt0 m c (t.val - 1) (Nat.lt_of_le_of_lt (Nat.sub_le _ _) t.isLt)).2 4 4 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 y x 4 h0 (by omega)
  case piece4 =>
    rw [read_unread_whole]
    refine Eq.trans (b := pairOut (View.ld (iblk m c 0 t) (Rect.unit ![0, 384] ![64, 128] inb_S64x1024_S64x128_0_384)) (View.ld (iblk m c 1 t) (Rect.unit ![0, 384] ![64, 128] inb_S64x1024_S64x128_0_384)) (View.ld (iblk m c 2 t) (Rect.unit ![0, 384] ![64, 128] inb_S64x1024_S64x128_0_384)) (View.ld (iblk m c 3 t) (Rect.unit ![0, 384] ![64, 128] inb_S64x1024_S64x128_0_384)) (View.ld (iblk m c 4 t) (Rect.unit ![0, 384] ![64, 128] inb_S64x1024_S64x128_0_384)) (View.ld (iblk m c 5 t) (Rect.unit ![0, 384] ![64, 128] inb_S64x1024_S64x128_0_384)) (View.ld (iblk m c 6 t) (Rect.unit ![0, 384] ![1, 128] inb_S1x1024_S1x128_0_384)) (View.ld (iblk m c 7 t) (Rect.unit ![0, 384] ![1, 128] inb_S1x1024_S1x128_0_384)) (View.ld (iblk m c 8 t) (Rect.unit ![0, 384] ![1, 128] inb_S1x1024_S1x128_0_384)) (View.ld (iblk m c 9 t) (Rect.unit ![0, 384] ![1, 128] inb_S1x1024_S1x128_0_384)) (View.ld (iblk m c 10 t) (Rect.unit ![0, 384] ![1, 128] inb_S1x1024_S1x128_0_384)) (View.ld (Val := Elt Ideal) (e' := EltTy.f32) (S := S8x128x128) ((outsAt0 m c (t.val - 1) (Nat.lt_of_le_of_lt (Nat.sub_le _ _) t.isLt)).2) (Rect.unit (s := S8x128x128) ![3, 0, 0] ![1, 128, 128] inb_S8x128x128_S1x128x128_3_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay424, k0_pay410, k0_pay16, k0_pay13, k0_pay14, k0_pay15, k0_pay52, k0_pay423, k0_pay386, k0_pay370, k0_pay344, k0_pay107, k0_pay6, k0_pay3, k0_pay4, k0_pay5, k0_pay72, k0_pay17, k0_pay59, k0_pay71, k0_pay168, k0_pay209, k0_pay11, k0_pay7, k0_pay8, k0_pay9, k0_pay177, k0_pay97, k0_pay42, k0_pay21, k0_pay32, k0_pay29, k0_pay30, k0_pay31, k0_pay133, k0_pay88, k0_pay116, k0_pay142, k0_pay323, k0_pay331, k0_pay201, k0_pay307, k0_pay295, k0_pay269, k0_pay253, k0_pay237, k0_pay221, k0_pay185, k0_pay12, k0_pay277, k0_pay261, k0_pay245, k0_pay229, k0_pay193, k0_pay303, k0_pay379, k0_pay397, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 3 384 rfl, ld_col (iblk m c 1 t) 3 384 rfl, ld_col (iblk m c 2 t) 3 384 rfl, ld_col (iblk m c 3 t) 3 384 rfl, ld_col (iblk m c 4 t) 3 384 rfl, ld_col (iblk m c 5 t) 3 384 rfl,
      ld_row (iblk m c 6 t) 3 384 rfl, ld_row (iblk m c 7 t) 3 384 rfl, ld_row (iblk m c 8 t) 3 384 rfl, ld_row (iblk m c 9 t) 3 384 rfl, ld_row (iblk m c 10 t) 3 384 rfl, ld_st (outsAt0 m c (t.val - 1) (Nat.lt_of_le_of_lt (Nat.sub_le _ _) t.isLt)).2 3 3 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 y x 3 h0 (by omega)
  case piece5 =>
    rw [read_unread_whole]
    refine Eq.trans (b := pairOut (View.ld (iblk m c 0 t) (Rect.unit ![0, 256] ![64, 128] inb_S64x1024_S64x128_0_256)) (View.ld (iblk m c 1 t) (Rect.unit ![0, 256] ![64, 128] inb_S64x1024_S64x128_0_256)) (View.ld (iblk m c 2 t) (Rect.unit ![0, 256] ![64, 128] inb_S64x1024_S64x128_0_256)) (View.ld (iblk m c 3 t) (Rect.unit ![0, 256] ![64, 128] inb_S64x1024_S64x128_0_256)) (View.ld (iblk m c 4 t) (Rect.unit ![0, 256] ![64, 128] inb_S64x1024_S64x128_0_256)) (View.ld (iblk m c 5 t) (Rect.unit ![0, 256] ![64, 128] inb_S64x1024_S64x128_0_256)) (View.ld (iblk m c 6 t) (Rect.unit ![0, 256] ![1, 128] inb_S1x1024_S1x128_0_256)) (View.ld (iblk m c 7 t) (Rect.unit ![0, 256] ![1, 128] inb_S1x1024_S1x128_0_256)) (View.ld (iblk m c 8 t) (Rect.unit ![0, 256] ![1, 128] inb_S1x1024_S1x128_0_256)) (View.ld (iblk m c 9 t) (Rect.unit ![0, 256] ![1, 128] inb_S1x1024_S1x128_0_256)) (View.ld (iblk m c 10 t) (Rect.unit ![0, 256] ![1, 128] inb_S1x1024_S1x128_0_256)) (View.ld (Val := Elt Ideal) (e' := EltTy.f32) (S := S8x128x128) ((outsAt0 m c (t.val - 1) (Nat.lt_of_le_of_lt (Nat.sub_le _ _) t.isLt)).2) (Rect.unit (s := S8x128x128) ![2, 0, 0] ![1, 128, 128] inb_S8x128x128_S1x128x128_2_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay422, k0_pay385, k0_pay369, k0_pay343, k0_pay106, k0_pay6, k0_pay3, k0_pay4, k0_pay5, k0_pay70, k0_pay17, k0_pay167, k0_pay208, k0_pay11, k0_pay7, k0_pay8, k0_pay9, k0_pay176, k0_pay132, k0_pay87, k0_pay41, k0_pay20, k0_pay39, k0_pay28, k0_pay16, k0_pay13, k0_pay14, k0_pay15, k0_pay40, k0_pay115, k0_pay141, k0_pay140, k0_pay51, k0_pay49, k0_pay50, k0_pay175, k0_pay96, k0_pay322, k0_pay330, k0_pay200, k0_pay306, k0_pay294, k0_pay268, k0_pay252, k0_pay236, k0_pay220, k0_pay184, k0_pay12, k0_pay276, k0_pay260, k0_pay244, k0_pay228, k0_pay192, k0_pay302, k0_pay378, k0_pay396, k0_pay393, k0_pay394, k0_pay395, k0_pay409, k0_pay407, k0_pay408, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 2 256 rfl, ld_col (iblk m c 1 t) 2 256 rfl, ld_col (iblk m c 2 t) 2 256 rfl, ld_col (iblk m c 3 t) 2 256 rfl, ld_col (iblk m c 4 t) 2 256 rfl, ld_col (iblk m c 5 t) 2 256 rfl,
      ld_row (iblk m c 6 t) 2 256 rfl, ld_row (iblk m c 7 t) 2 256 rfl, ld_row (iblk m c 8 t) 2 256 rfl, ld_row (iblk m c 9 t) 2 256 rfl, ld_row (iblk m c 10 t) 2 256 rfl, ld_st (outsAt0 m c (t.val - 1) (Nat.lt_of_le_of_lt (Nat.sub_le _ _) t.isLt)).2 2 2 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 y x 2 h0 (by omega)
  case piece6 =>
    rw [read_unread_whole]
    refine Eq.trans (b := pairOut (View.ld (iblk m c 0 t) (Rect.unit ![0, 128] ![64, 128] inb_S64x1024_S64x128_0_128)) (View.ld (iblk m c 1 t) (Rect.unit ![0, 128] ![64, 128] inb_S64x1024_S64x128_0_128)) (View.ld (iblk m c 2 t) (Rect.unit ![0, 128] ![64, 128] inb_S64x1024_S64x128_0_128)) (View.ld (iblk m c 3 t) (Rect.unit ![0, 128] ![64, 128] inb_S64x1024_S64x128_0_128)) (View.ld (iblk m c 4 t) (Rect.unit ![0, 128] ![64, 128] inb_S64x1024_S64x128_0_128)) (View.ld (iblk m c 5 t) (Rect.unit ![0, 128] ![64, 128] inb_S64x1024_S64x128_0_128)) (View.ld (iblk m c 6 t) (Rect.unit ![0, 128] ![1, 128] inb_S1x1024_S1x128_0_128)) (View.ld (iblk m c 7 t) (Rect.unit ![0, 128] ![1, 128] inb_S1x1024_S1x128_0_128)) (View.ld (iblk m c 8 t) (Rect.unit ![0, 128] ![1, 128] inb_S1x1024_S1x128_0_128)) (View.ld (iblk m c 9 t) (Rect.unit ![0, 128] ![1, 128] inb_S1x1024_S1x128_0_128)) (View.ld (iblk m c 10 t) (Rect.unit ![0, 128] ![1, 128] inb_S1x1024_S1x128_0_128)) (View.ld (Val := Elt Ideal) (e' := EltTy.f32) (S := S8x128x128) ((outsAt0 m c (t.val - 1) (Nat.lt_of_le_of_lt (Nat.sub_le _ _) t.isLt)).2) (Rect.unit (s := S8x128x128) ![1, 0, 0] ![1, 128, 128] inb_S8x128x128_S1x128x128_1_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay421, k0_pay404, k0_pay16, k0_pay13, k0_pay14, k0_pay15, k0_pay48, k0_pay419, k0_pay384, k0_pay368, k0_pay342, k0_pay105, k0_pay6, k0_pay3, k0_pay4, k0_pay5, k0_pay69, k0_pay17, k0_pay166, k0_pay207, k0_pay11, k0_pay7, k0_pay8, k0_pay9, k0_pay174, k0_pay95, k0_pay94, k0_pay38, k0_pay19, k0_pay27, k0_pay131, k0_pay86, k0_pay114, k0_pay139, k0_pay321, k0_pay329, k0_pay199, k0_pay305, k0_pay293, k0_pay275, k0_pay251, k0_pay235, k0_pay219, k0_pay183, k0_pay12, k0_pay259, k0_pay243, k0_pay227, k0_pay191, k0_pay215, k0_pay283, k0_pay301, k0_pay377, k0_pay376, k0_pay392, k0_pay420, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 1 128 rfl, ld_col (iblk m c 1 t) 1 128 rfl, ld_col (iblk m c 2 t) 1 128 rfl, ld_col (iblk m c 3 t) 1 128 rfl, ld_col (iblk m c 4 t) 1 128 rfl, ld_col (iblk m c 5 t) 1 128 rfl,
      ld_row (iblk m c 6 t) 1 128 rfl, ld_row (iblk m c 7 t) 1 128 rfl, ld_row (iblk m c 8 t) 1 128 rfl, ld_row (iblk m c 9 t) 1 128 rfl, ld_row (iblk m c 10 t) 1 128 rfl, ld_st (outsAt0 m c (t.val - 1) (Nat.lt_of_le_of_lt (Nat.sub_le _ _) t.isLt)).2 1 1 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 y x 1 h0 (by omega)
  case piece7 =>
    rw [read_unread_whole]
    refine Eq.trans (b := pairOut (View.ld (iblk m c 0 t) (Rect.unit ![0, 0] ![64, 128] inb_S64x1024_S64x128_0_0)) (View.ld (iblk m c 1 t) (Rect.unit ![0, 0] ![64, 128] inb_S64x1024_S64x128_0_0)) (View.ld (iblk m c 2 t) (Rect.unit ![0, 0] ![64, 128] inb_S64x1024_S64x128_0_0)) (View.ld (iblk m c 3 t) (Rect.unit ![0, 0] ![64, 128] inb_S64x1024_S64x128_0_0)) (View.ld (iblk m c 4 t) (Rect.unit ![0, 0] ![64, 128] inb_S64x1024_S64x128_0_0)) (View.ld (iblk m c 5 t) (Rect.unit ![0, 0] ![64, 128] inb_S64x1024_S64x128_0_0)) (View.ld (iblk m c 6 t) (Rect.unit ![0, 0] ![1, 128] inb_S1x1024_S1x128_0_0)) (View.ld (iblk m c 7 t) (Rect.unit ![0, 0] ![1, 128] inb_S1x1024_S1x128_0_0)) (View.ld (iblk m c 8 t) (Rect.unit ![0, 0] ![1, 128] inb_S1x1024_S1x128_0_0)) (View.ld (iblk m c 9 t) (Rect.unit ![0, 0] ![1, 128] inb_S1x1024_S1x128_0_0)) (View.ld (iblk m c 10 t) (Rect.unit ![0, 0] ![1, 128] inb_S1x1024_S1x128_0_0)) (View.ld (Val := Elt Ideal) (e' := EltTy.f32) (S := S8x128x128) ((outsAt0 m c (t.val - 1) (Nat.lt_of_le_of_lt (Nat.sub_le _ _) t.isLt)).2) (Rect.unit (s := S8x128x128) ![0, 0, 0] ![1, 128, 128] inb_S8x128x128_S1x128x128_0_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay418, k0_pay383, k0_pay367, k0_pay341, k0_pay165, k0_pay6, k0_pay3, k0_pay4, k0_pay5, k0_pay206, k0_pay11, k0_pay7, k0_pay8, k0_pay9, k0_pay173, k0_pay93, k0_pay37, k0_pay18, k0_pay26, k0_pay16, k0_pay13, k0_pay14, k0_pay15, k0_pay68, k0_pay17, k0_pay104, k0_pay130, k0_pay129, k0_pay85, k0_pay138, k0_pay47, k0_pay113, k0_pay320, k0_pay312, k0_pay328, k0_pay198, k0_pay304, k0_pay292, k0_pay274, k0_pay250, k0_pay234, k0_pay218, k0_pay182, k0_pay12, k0_pay258, k0_pay242, k0_pay226, k0_pay214, k0_pay190, k0_pay282, k0_pay300, k0_pay336, k0_pay375, k0_pay391, k0_pay403, k0_pay77, k0_pay147, k0_pay121, k0_pay156, k0_pay357, k0_pay356]
      rfl
    rw [ld_col (iblk m c 0 t) 0 0 rfl, ld_col (iblk m c 1 t) 0 0 rfl, ld_col (iblk m c 2 t) 0 0 rfl, ld_col (iblk m c 3 t) 0 0 rfl, ld_col (iblk m c 4 t) 0 0 rfl, ld_col (iblk m c 5 t) 0 0 rfl,
      ld_row (iblk m c 6 t) 0 0 rfl, ld_row (iblk m c 7 t) 0 0 rfl, ld_row (iblk m c 8 t) 0 0 rfl, ld_row (iblk m c 9 t) 0 0 rfl, ld_row (iblk m c 10 t) 0 0 rfl, ld_st (outsAt0 m c (t.val - 1) (Nat.lt_of_le_of_lt (Nat.sub_le _ _) t.isLt)).2 0 0 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 y x 0 h0 (by omega)

set_option maxHeartbeats 8000000 in
/-- The carried state after a point that follows another of its batch. -/
theorem state_B (c : Dev nD) (t : Fin cfg0.N) (h0 : ¬t.val % 64 = 0) :
    (outsAt0 m c t.val t.isLt).2 = stateAt (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 := by
  funext y
  rw [outsAt0_B m c t h0]
  frame_out
  canon_tiles x h
  case piece0 =>
    rw [read_unread_whole]
    refine Eq.trans (b := pairState (View.ld (iblk m c 0 t) (Rect.unit ![0, 896] ![64, 128] inb_S64x1024_S64x128_0_896)) (View.ld (iblk m c 1 t) (Rect.unit ![0, 896] ![64, 128] inb_S64x1024_S64x128_0_896)) (View.ld (iblk m c 2 t) (Rect.unit ![0, 896] ![64, 128] inb_S64x1024_S64x128_0_896)) (View.ld (iblk m c 3 t) (Rect.unit ![0, 896] ![64, 128] inb_S64x1024_S64x128_0_896)) (View.ld (iblk m c 4 t) (Rect.unit ![0, 896] ![64, 128] inb_S64x1024_S64x128_0_896)) (View.ld (iblk m c 6 t) (Rect.unit ![0, 896] ![1, 128] inb_S1x1024_S1x128_0_896)) (View.ld (iblk m c 7 t) (Rect.unit ![0, 896] ![1, 128] inb_S1x1024_S1x128_0_896)) (View.ld (Val := Elt Ideal) (e' := EltTy.f32) (S := S8x128x128) ((outsAt0 m c (t.val - 1) (Nat.lt_of_le_of_lt (Nat.sub_le _ _) t.isLt)).2) (Rect.unit (s := S8x128x128) ![7, 0, 0] ![1, 128, 128] inb_S8x128x128_S1x128x128_7_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay366, k0_pay84, k0_pay17, k0_pay66, k0_pay67, k0_pay164, k0_pay6, k0_pay3, k0_pay4, k0_pay5, k0_pay57, k0_pay56, k0_pay128, k0_pay76, k0_pay172, k0_pay319, k0_pay327, k0_pay355, k0_pay155, k0_pay92, k0_pay46, k0_pay25, k0_pay36, k0_pay16, k0_pay13, k0_pay14, k0_pay15, k0_pay311, k0_pay291, k0_pay273, k0_pay257, k0_pay241, k0_pay225, k0_pay189, k0_pay12, k0_pay7, k0_pay8, k0_pay9, k0_pay103, k0_pay101, k0_pay102, k0_pay112, k0_pay111, k0_pay137, k0_pay120, k0_pay146, k0_pay299, k0_pay281, k0_pay265, k0_pay233, k0_pay217, k0_pay197, k0_pay181, k0_pay249, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 7 896 rfl, ld_col (iblk m c 1 t) 7 896 rfl, ld_col (iblk m c 2 t) 7 896 rfl, ld_col (iblk m c 3 t) 7 896 rfl, ld_col (iblk m c 4 t) 7 896 rfl,
      ld_row (iblk m c 6 t) 7 896 rfl, ld_row (iblk m c 7 t) 7 896 rfl, ld_st (outsAt0 m c (t.val - 1) (Nat.lt_of_le_of_lt (Nat.sub_le _ _) t.isLt)).2 7 7 rfl]
    exact stateAt_piece (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 y x 7 (by omega) h1 h2
  case piece1 =>
    rw [read_unread_whole]
    refine Eq.trans (b := pairState (View.ld (iblk m c 0 t) (Rect.unit ![0, 768] ![64, 128] inb_S64x1024_S64x128_0_768)) (View.ld (iblk m c 1 t) (Rect.unit ![0, 768] ![64, 128] inb_S64x1024_S64x128_0_768)) (View.ld (iblk m c 2 t) (Rect.unit ![0, 768] ![64, 128] inb_S64x1024_S64x128_0_768)) (View.ld (iblk m c 3 t) (Rect.unit ![0, 768] ![64, 128] inb_S64x1024_S64x128_0_768)) (View.ld (iblk m c 4 t) (Rect.unit ![0, 768] ![64, 128] inb_S64x1024_S64x128_0_768)) (View.ld (iblk m c 6 t) (Rect.unit ![0, 768] ![1, 128] inb_S1x1024_S1x128_0_768)) (View.ld (iblk m c 7 t) (Rect.unit ![0, 768] ![1, 128] inb_S1x1024_S1x128_0_768)) (View.ld (Val := Elt Ideal) (e' := EltTy.f32) (S := S8x128x128) ((outsAt0 m c (t.val - 1) (Nat.lt_of_le_of_lt (Nat.sub_le _ _) t.isLt)).2) (Rect.unit (s := S8x128x128) ![6, 0, 0] ![1, 128, 128] inb_S8x128x128_S1x128x128_6_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay365, k0_pay364, k0_pay83, k0_pay17, k0_pay64, k0_pay65, k0_pay163, k0_pay6, k0_pay3, k0_pay4, k0_pay5, k0_pay162, k0_pay55, k0_pay127, k0_pay75, k0_pay171, k0_pay318, k0_pay326, k0_pay354, k0_pay154, k0_pay91, k0_pay45, k0_pay24, k0_pay35, k0_pay16, k0_pay13, k0_pay14, k0_pay15, k0_pay310, k0_pay290, k0_pay272, k0_pay256, k0_pay240, k0_pay224, k0_pay188, k0_pay12, k0_pay7, k0_pay8, k0_pay9, k0_pay100, k0_pay110, k0_pay136, k0_pay119, k0_pay145, k0_pay298, k0_pay280, k0_pay264, k0_pay248, k0_pay216, k0_pay196, k0_pay180, k0_pay232, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 6 768 rfl, ld_col (iblk m c 1 t) 6 768 rfl, ld_col (iblk m c 2 t) 6 768 rfl, ld_col (iblk m c 3 t) 6 768 rfl, ld_col (iblk m c 4 t) 6 768 rfl,
      ld_row (iblk m c 6 t) 6 768 rfl, ld_row (iblk m c 7 t) 6 768 rfl, ld_st (outsAt0 m c (t.val - 1) (Nat.lt_of_le_of_lt (Nat.sub_le _ _) t.isLt)).2 6 6 rfl]
    exact stateAt_piece (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 y x 6 (by omega) h1 h2
  case piece2 =>
    rw [read_unread_whole]
    refine Eq.trans (b := pairState (View.ld (iblk m c 0 t) (Rect.unit ![0, 640] ![64, 128] inb_S64x1024_S64x128_0_640)) (View.ld (iblk m c 1 t) (Rect.unit ![0, 640] ![64, 128] inb_S64x1024_S64x128_0_640)) (View.ld (iblk m c 2 t) (Rect.unit ![0, 640] ![64, 128] inb_S64x1024_S64x128_0_640)) (View.ld (iblk m c 3 t) (Rect.unit ![0, 640] ![64, 128] inb_S64x1024_S64x128_0_640)) (View.ld (iblk m c 4 t) (Rect.unit ![0, 640] ![64, 128] inb_S64x1024_S64x128_0_640)) (View.ld (iblk m c 6 t) (Rect.unit ![0, 640] ![1, 128] inb_S1x1024_S1x128_0_640)) (View.ld (iblk m c 7 t) (Rect.unit ![0, 640] ![1, 128] inb_S1x1024_S1x128_0_640)) (View.ld (Val := Elt Ideal) (e' := EltTy.f32) (S := S8x128x128) ((outsAt0 m c (t.val - 1) (Nat.lt_of_le_of_lt (Nat.sub_le _ _) t.isLt)).2) (Rect.unit (s := S8x128x128) ![5, 0, 0] ![1, 128, 128] inb_S8x128x128_S1x128x128_5_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay363, k0_pay82, k0_pay17, k0_pay62, k0_pay63, k0_pay161, k0_pay6, k0_pay3, k0_pay4, k0_pay5, k0_pay54, k0_pay126, k0_pay74, k0_pay170, k0_pay317, k0_pay325, k0_pay353, k0_pay153, k0_pay90, k0_pay44, k0_pay23, k0_pay34, k0_pay16, k0_pay13, k0_pay14, k0_pay15, k0_pay309, k0_pay289, k0_pay271, k0_pay255, k0_pay239, k0_pay223, k0_pay187, k0_pay12, k0_pay7, k0_pay8, k0_pay9, k0_pay99, k0_pay109, k0_pay135, k0_pay118, k0_pay144, k0_pay297, k0_pay279, k0_pay263, k0_pay247, k0_pay231, k0_pay195, k0_pay179, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 5 640 rfl, ld_col (iblk m c 1 t) 5 640 rfl, ld_col (iblk m c 2 t) 5 640 rfl, ld_col (iblk m c 3 t) 5 640 rfl, ld_col (iblk m c 4 t) 5 640 rfl,
      ld_row (iblk m c 6 t) 5 640 rfl, ld_row (iblk m c 7 t) 5 640 rfl, ld_st (outsAt0 m c (t.val - 1) (Nat.lt_of_le_of_lt (Nat.sub_le _ _) t.isLt)).2 5 5 rfl]
    exact stateAt_piece (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 y x 5 (by omega) h1 h2
  case piece3 =>
    rw [read_unread_whole]
    refine Eq.trans (b := pairState (View.ld (iblk m c 0 t) (Rect.unit ![0, 512] ![64, 128] inb_S64x1024_S64x128_0_512)) (View.ld (iblk m c 1 t) (Rect.unit ![0, 512] ![64, 128] inb_S64x1024_S64x128_0_512)) (View.ld (iblk m c 2 t) (Rect.unit ![0, 512] ![64, 128] inb_S64x1024_S64x128_0_512)) (View.ld (iblk m c 3 t) (Rect.unit ![0, 512] ![64, 128] inb_S64x1024_S64x128_0_512)) (View.ld (iblk m c 4 t) (Rect.unit ![0, 512] ![64, 128] inb_S64x1024_S64x128_0_512)) (View.ld (iblk m c 6 t) (Rect.unit ![0, 512] ![1, 128] inb_S1x1024_S1x128_0_512)) (View.ld (iblk m c 7 t) (Rect.unit ![0, 512] ![1, 128] inb_S1x1024_S1x128_0_512)) (View.ld (Val := Elt Ideal) (e' := EltTy.f32) (S := S8x128x128) ((outsAt0 m c (t.val - 1) (Nat.lt_of_le_of_lt (Nat.sub_le _ _) t.isLt)).2) (Rect.unit (s := S8x128x128) ![4, 0, 0] ![1, 128, 128] inb_S8x128x128_S1x128x128_4_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay362, k0_pay81, k0_pay17, k0_pay60, k0_pay61, k0_pay160, k0_pay6, k0_pay3, k0_pay4, k0_pay5, k0_pay53, k0_pay125, k0_pay73, k0_pay169, k0_pay316, k0_pay324, k0_pay352, k0_pay152, k0_pay151, k0_pay89, k0_pay43, k0_pay22, k0_pay33, k0_pay16, k0_pay13, k0_pay14, k0_pay15, k0_pay308, k0_pay288, k0_pay270, k0_pay254, k0_pay238, k0_pay222, k0_pay186, k0_pay12, k0_pay7, k0_pay8, k0_pay9, k0_pay98, k0_pay108, k0_pay134, k0_pay117, k0_pay143, k0_pay296, k0_pay278, k0_pay262, k0_pay246, k0_pay230, k0_pay194, k0_pay178, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 4 512 rfl, ld_col (iblk m c 1 t) 4 512 rfl, ld_col (iblk m c 2 t) 4 512 rfl, ld_col (iblk m c 3 t) 4 512 rfl, ld_col (iblk m c 4 t) 4 512 rfl,
      ld_row (iblk m c 6 t) 4 512 rfl, ld_row (iblk m c 7 t) 4 512 rfl, ld_st (outsAt0 m c (t.val - 1) (Nat.lt_of_le_of_lt (Nat.sub_le _ _) t.isLt)).2 4 4 rfl]
    exact stateAt_piece (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 y x 4 (by omega) h1 h2
  case piece4 =>
    rw [read_unread_whole]
    refine Eq.trans (b := pairState (View.ld (iblk m c 0 t) (Rect.unit ![0, 384] ![64, 128] inb_S64x1024_S64x128_0_384)) (View.ld (iblk m c 1 t) (Rect.unit ![0, 384] ![64, 128] inb_S64x1024_S64x128_0_384)) (View.ld (iblk m c 2 t) (Rect.unit ![0, 384] ![64, 128] inb_S64x1024_S64x128_0_384)) (View.ld (iblk m c 3 t) (Rect.unit ![0, 384] ![64, 128] inb_S64x1024_S64x128_0_384)) (View.ld (iblk m c 4 t) (Rect.unit ![0, 384] ![64, 128] inb_S64x1024_S64x128_0_384)) (View.ld (iblk m c 6 t) (Rect.unit ![0, 384] ![1, 128] inb_S1x1024_S1x128_0_384)) (View.ld (iblk m c 7 t) (Rect.unit ![0, 384] ![1, 128] inb_S1x1024_S1x128_0_384)) (View.ld (Val := Elt Ideal) (e' := EltTy.f32) (S := S8x128x128) ((outsAt0 m c (t.val - 1) (Nat.lt_of_le_of_lt (Nat.sub_le _ _) t.isLt)).2) (Rect.unit (s := S8x128x128) ![3, 0, 0] ![1, 128, 128] inb_S8x128x128_S1x128x128_3_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay361, k0_pay360, k0_pay80, k0_pay17, k0_pay59, k0_pay71, k0_pay159, k0_pay6, k0_pay3, k0_pay4, k0_pay5, k0_pay52, k0_pay124, k0_pay72, k0_pay168, k0_pay315, k0_pay323, k0_pay351, k0_pay150, k0_pay88, k0_pay42, k0_pay21, k0_pay32, k0_pay16, k0_pay13, k0_pay14, k0_pay15, k0_pay29, k0_pay30, k0_pay31, k0_pay307, k0_pay295, k0_pay269, k0_pay253, k0_pay237, k0_pay221, k0_pay185, k0_pay12, k0_pay7, k0_pay8, k0_pay9, k0_pay97, k0_pay107, k0_pay133, k0_pay116, k0_pay142, k0_pay277, k0_pay261, k0_pay245, k0_pay229, k0_pay193, k0_pay177, k0_pay303, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 3 384 rfl, ld_col (iblk m c 1 t) 3 384 rfl, ld_col (iblk m c 2 t) 3 384 rfl, ld_col (iblk m c 3 t) 3 384 rfl, ld_col (iblk m c 4 t) 3 384 rfl,
      ld_row (iblk m c 6 t) 3 384 rfl, ld_row (iblk m c 7 t) 3 384 rfl, ld_st (outsAt0 m c (t.val - 1) (Nat.lt_of_le_of_lt (Nat.sub_le _ _) t.isLt)).2 3 3 rfl]
    exact stateAt_piece (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 y x 3 (by omega) h1 h2
  case piece5 =>
    rw [read_unread_whole]
    refine Eq.trans (b := pairState (View.ld (iblk m c 0 t) (Rect.unit ![0, 256] ![64, 128] inb_S64x1024_S64x128_0_256)) (View.ld (iblk m c 1 t) (Rect.unit ![0, 256] ![64, 128] inb_S64x1024_S64x128_0_256)) (View.ld (iblk m c 2 t) (Rect.unit ![0, 256] ![64, 128] inb_S64x1024_S64x128_0_256)) (View.ld (iblk m c 3 t) (Rect.unit ![0, 256] ![64, 128] inb_S64x1024_S64x128_0_256)) (View.ld (iblk m c 4 t) (Rect.unit ![0, 256] ![64, 128] inb_S64x1024_S64x128_0_256)) (View.ld (iblk m c 6 t) (Rect.unit ![0, 256] ![1, 128] inb_S1x1024_S1x128_0_256)) (View.ld (iblk m c 7 t) (Rect.unit ![0, 256] ![1, 128] inb_S1x1024_S1x128_0_256)) (View.ld (Val := Elt Ideal) (e' := EltTy.f32) (S := S8x128x128) ((outsAt0 m c (t.val - 1) (Nat.lt_of_le_of_lt (Nat.sub_le _ _) t.isLt)).2) (Rect.unit (s := S8x128x128) ![2, 0, 0] ![1, 128, 128] inb_S8x128x128_S1x128x128_2_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay359, k0_pay79, k0_pay70, k0_pay17, k0_pay158, k0_pay6, k0_pay3, k0_pay4, k0_pay5, k0_pay51, k0_pay49, k0_pay50, k0_pay123, k0_pay167, k0_pay314, k0_pay322, k0_pay350, k0_pay149, k0_pay87, k0_pay41, k0_pay20, k0_pay39, k0_pay28, k0_pay16, k0_pay13, k0_pay14, k0_pay15, k0_pay40, k0_pay306, k0_pay294, k0_pay268, k0_pay252, k0_pay236, k0_pay220, k0_pay184, k0_pay12, k0_pay7, k0_pay8, k0_pay9, k0_pay132, k0_pay115, k0_pay141, k0_pay140, k0_pay175, k0_pay96, k0_pay106, k0_pay276, k0_pay260, k0_pay244, k0_pay228, k0_pay192, k0_pay176, k0_pay302, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 2 256 rfl, ld_col (iblk m c 1 t) 2 256 rfl, ld_col (iblk m c 2 t) 2 256 rfl, ld_col (iblk m c 3 t) 2 256 rfl, ld_col (iblk m c 4 t) 2 256 rfl,
      ld_row (iblk m c 6 t) 2 256 rfl, ld_row (iblk m c 7 t) 2 256 rfl, ld_st (outsAt0 m c (t.val - 1) (Nat.lt_of_le_of_lt (Nat.sub_le _ _) t.isLt)).2 2 2 rfl]
    exact stateAt_piece (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 y x 2 (by omega) h1 h2
  case piece6 =>
    rw [read_unread_whole]
    refine Eq.trans (b := pairState (View.ld (iblk m c 0 t) (Rect.unit ![0, 128] ![64, 128] inb_S64x1024_S64x128_0_128)) (View.ld (iblk m c 1 t) (Rect.unit ![0, 128] ![64, 128] inb_S64x1024_S64x128_0_128)) (View.ld (iblk m c 2 t) (Rect.unit ![0, 128] ![64, 128] inb_S64x1024_S64x128_0_128)) (View.ld (iblk m c 3 t) (Rect.unit ![0, 128] ![64, 128] inb_S64x1024_S64x128_0_128)) (View.ld (iblk m c 4 t) (Rect.unit ![0, 128] ![64, 128] inb_S64x1024_S64x128_0_128)) (View.ld (iblk m c 6 t) (Rect.unit ![0, 128] ![1, 128] inb_S1x1024_S1x128_0_128)) (View.ld (iblk m c 7 t) (Rect.unit ![0, 128] ![1, 128] inb_S1x1024_S1x128_0_128)) (View.ld (Val := Elt Ideal) (e' := EltTy.f32) (S := S8x128x128) ((outsAt0 m c (t.val - 1) (Nat.lt_of_le_of_lt (Nat.sub_le _ _) t.isLt)).2) (Rect.unit (s := S8x128x128) ![1, 0, 0] ![1, 128, 128] inb_S8x128x128_S1x128x128_1_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay358, k0_pay78, k0_pay69, k0_pay17, k0_pay157, k0_pay6, k0_pay3, k0_pay4, k0_pay5, k0_pay48, k0_pay122, k0_pay166, k0_pay313, k0_pay321, k0_pay349, k0_pay148, k0_pay86, k0_pay38, k0_pay19, k0_pay27, k0_pay16, k0_pay13, k0_pay14, k0_pay15, k0_pay305, k0_pay293, k0_pay275, k0_pay251, k0_pay235, k0_pay219, k0_pay183, k0_pay12, k0_pay7, k0_pay8, k0_pay9, k0_pay174, k0_pay95, k0_pay94, k0_pay105, k0_pay131, k0_pay114, k0_pay139, k0_pay259, k0_pay243, k0_pay227, k0_pay191, k0_pay215, k0_pay283, k0_pay301, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 1 128 rfl, ld_col (iblk m c 1 t) 1 128 rfl, ld_col (iblk m c 2 t) 1 128 rfl, ld_col (iblk m c 3 t) 1 128 rfl, ld_col (iblk m c 4 t) 1 128 rfl,
      ld_row (iblk m c 6 t) 1 128 rfl, ld_row (iblk m c 7 t) 1 128 rfl, ld_st (outsAt0 m c (t.val - 1) (Nat.lt_of_le_of_lt (Nat.sub_le _ _) t.isLt)).2 1 1 rfl]
    exact stateAt_piece (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 y x 1 (by omega) h1 h2
  case piece7 =>
    rw [read_unread_whole]
    refine Eq.trans (b := pairState (View.ld (iblk m c 0 t) (Rect.unit ![0, 0] ![64, 128] inb_S64x1024_S64x128_0_0)) (View.ld (iblk m c 1 t) (Rect.unit ![0, 0] ![64, 128] inb_S64x1024_S64x128_0_0)) (View.ld (iblk m c 2 t) (Rect.unit ![0, 0] ![64, 128] inb_S64x1024_S64x128_0_0)) (View.ld (iblk m c 3 t) (Rect.unit ![0, 0] ![64, 128] inb_S64x1024_S64x128_0_0)) (View.ld (iblk m c 4 t) (Rect.unit ![0, 0] ![64, 128] inb_S64x1024_S64x128_0_0)) (View.ld (iblk m c 6 t) (Rect.unit ![0, 0] ![1, 128] inb_S1x1024_S1x128_0_0)) (View.ld (iblk m c 7 t) (Rect.unit ![0, 0] ![1, 128] inb_S1x1024_S1x128_0_0)) (View.ld (Val := Elt Ideal) (e' := EltTy.f32) (S := S8x128x128) ((outsAt0 m c (t.val - 1) (Nat.lt_of_le_of_lt (Nat.sub_le _ _) t.isLt)).2) (Rect.unit (s := S8x128x128) ![0, 0, 0] ![1, 128, 128] inb_S8x128x128_S1x128x128_0_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay357, k0_pay356, k0_pay77, k0_pay68, k0_pay17, k0_pay147, k0_pay6, k0_pay3, k0_pay4, k0_pay5, k0_pay85, k0_pay37, k0_pay18, k0_pay26, k0_pay16, k0_pay13, k0_pay14, k0_pay15, k0_pay121, k0_pay156, k0_pay47, k0_pay165, k0_pay304, k0_pay292, k0_pay274, k0_pay250, k0_pay234, k0_pay218, k0_pay182, k0_pay12, k0_pay7, k0_pay8, k0_pay9, k0_pay173, k0_pay93, k0_pay104, k0_pay130, k0_pay129, k0_pay138, k0_pay113, k0_pay258, k0_pay242, k0_pay226, k0_pay214, k0_pay190, k0_pay282, k0_pay300, k0_pay312, k0_pay320, k0_pay198, k0_pay206, k0_pay341, k0_pay328, k0_pay336, k0_pay418, k0_pay383, k0_pay367, k0_pay375, k0_pay391, k0_pay403, k0_pay11]
      rfl
    rw [ld_col (iblk m c 0 t) 0 0 rfl, ld_col (iblk m c 1 t) 0 0 rfl, ld_col (iblk m c 2 t) 0 0 rfl, ld_col (iblk m c 3 t) 0 0 rfl, ld_col (iblk m c 4 t) 0 0 rfl,
      ld_row (iblk m c 6 t) 0 0 rfl, ld_row (iblk m c 7 t) 0 0 rfl, ld_st (outsAt0 m c (t.val - 1) (Nat.lt_of_le_of_lt (Nat.sub_le _ _) t.isLt)).2 0 0 rfl]
    exact stateAt_piece (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2 y x 0 (by omega) h1 h2

set_option maxHeartbeats 8000000 in
/-- The output tile after the first point of a batch, from the zero state. -/
theorem out_A (c : Dev nD) (t : Fin cfg0.N) (h0 : t.val % 64 = 0) :
    (outsAt0 m c t.val t.isLt).1 = outAt (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) := by
  funext y
  rw [outsAt0_A m c t h0]
  frame_out
  canon_tiles x h
  case piece0 =>
    rw [View.readCov_fill (h := off0)]
    refine Eq.trans (b := pairOut (View.ld (iblk m c 0 t) (Rect.unit ![0, 896] ![64, 128] inb_S64x1024_S64x128_0_896)) (View.ld (iblk m c 1 t) (Rect.unit ![0, 896] ![64, 128] inb_S64x1024_S64x128_0_896)) (View.ld (iblk m c 2 t) (Rect.unit ![0, 896] ![64, 128] inb_S64x1024_S64x128_0_896)) (View.ld (iblk m c 3 t) (Rect.unit ![0, 896] ![64, 128] inb_S64x1024_S64x128_0_896)) (View.ld (iblk m c 4 t) (Rect.unit ![0, 896] ![64, 128] inb_S64x1024_S64x128_0_896)) (View.ld (iblk m c 5 t) (Rect.unit ![0, 896] ![64, 128] inb_S64x1024_S64x128_0_896)) (View.ld (iblk m c 6 t) (Rect.unit ![0, 896] ![1, 128] inb_S1x1024_S1x128_0_896)) (View.ld (iblk m c 7 t) (Rect.unit ![0, 896] ![1, 128] inb_S1x1024_S1x128_0_896)) (View.ld (iblk m c 8 t) (Rect.unit ![0, 896] ![1, 128] inb_S1x1024_S1x128_0_896)) (View.ld (iblk m c 9 t) (Rect.unit ![0, 896] ![1, 128] inb_S1x1024_S1x128_0_896)) (View.ld (iblk m c 10 t) (Rect.unit ![0, 896] ![1, 128] inb_S1x1024_S1x128_0_896)) (View.ld (Val := Elt Ideal) (e' := EltTy.f32) (S := S8x128x128) ((k0_pay2 (F := Ideal))) (Rect.unit (s := S8x128x128) ![7, 0, 0] ![1, 128, 128] inb_S8x128x128_S1x128x128_7_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay1, k0_pay429, k0_pay390, k0_pay16, k0_pay13, k0_pay14, k0_pay15, k0_pay374, k0_pay348, k0_pay172, k0_pay6, k0_pay3, k0_pay4, k0_pay5, k0_pay213, k0_pay11, k0_pay7, k0_pay8, k0_pay9, k0_pay181, k0_pay103, k0_pay101, k0_pay46, k0_pay25, k0_pay36, k0_pay102, k0_pay76, k0_pay17, k0_pay66, k0_pay67, k0_pay112, k0_pay111, k0_pay137, k0_pay92, k0_pay120, k0_pay146, k0_pay57, k0_pay56, k0_pay327, k0_pay335, k0_pay205, k0_pay311, k0_pay291, k0_pay273, k0_pay257, k0_pay241, k0_pay225, k0_pay189, k0_pay12, k0_pay299, k0_pay281, k0_pay265, k0_pay233, k0_pay217, k0_pay197, k0_pay249, k0_pay340, k0_pay402, k0_pay417, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 7 896 rfl, ld_col (iblk m c 1 t) 7 896 rfl, ld_col (iblk m c 2 t) 7 896 rfl, ld_col (iblk m c 3 t) 7 896 rfl, ld_col (iblk m c 4 t) 7 896 rfl, ld_col (iblk m c 5 t) 7 896 rfl,
      ld_row (iblk m c 6 t) 7 896 rfl, ld_row (iblk m c 7 t) 7 896 rfl, ld_row (iblk m c 8 t) 7 896 rfl, ld_row (iblk m c 9 t) 7 896 rfl, ld_row (iblk m c 10 t) 7 896 rfl, ld_st (k0_pay2 (F := Ideal)) 7 7 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) y x 7 h0 (by omega)
  case piece1 =>
    rw [View.readCov_fill (h := off0)]
    refine Eq.trans (b := pairOut (View.ld (iblk m c 0 t) (Rect.unit ![0, 768] ![64, 128] inb_S64x1024_S64x128_0_768)) (View.ld (iblk m c 1 t) (Rect.unit ![0, 768] ![64, 128] inb_S64x1024_S64x128_0_768)) (View.ld (iblk m c 2 t) (Rect.unit ![0, 768] ![64, 128] inb_S64x1024_S64x128_0_768)) (View.ld (iblk m c 3 t) (Rect.unit ![0, 768] ![64, 128] inb_S64x1024_S64x128_0_768)) (View.ld (iblk m c 4 t) (Rect.unit ![0, 768] ![64, 128] inb_S64x1024_S64x128_0_768)) (View.ld (iblk m c 5 t) (Rect.unit ![0, 768] ![64, 128] inb_S64x1024_S64x128_0_768)) (View.ld (iblk m c 6 t) (Rect.unit ![0, 768] ![1, 128] inb_S1x1024_S1x128_0_768)) (View.ld (iblk m c 7 t) (Rect.unit ![0, 768] ![1, 128] inb_S1x1024_S1x128_0_768)) (View.ld (iblk m c 8 t) (Rect.unit ![0, 768] ![1, 128] inb_S1x1024_S1x128_0_768)) (View.ld (iblk m c 9 t) (Rect.unit ![0, 768] ![1, 128] inb_S1x1024_S1x128_0_768)) (View.ld (iblk m c 10 t) (Rect.unit ![0, 768] ![1, 128] inb_S1x1024_S1x128_0_768)) (View.ld (Val := Elt Ideal) (e' := EltTy.f32) (S := S8x128x128) ((k0_pay2 (F := Ideal))) (Rect.unit (s := S8x128x128) ![6, 0, 0] ![1, 128, 128] inb_S8x128x128_S1x128x128_6_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay428, k0_pay389, k0_pay16, k0_pay13, k0_pay14, k0_pay15, k0_pay373, k0_pay347, k0_pay171, k0_pay6, k0_pay3, k0_pay4, k0_pay5, k0_pay212, k0_pay11, k0_pay7, k0_pay8, k0_pay9, k0_pay180, k0_pay100, k0_pay45, k0_pay24, k0_pay35, k0_pay75, k0_pay17, k0_pay64, k0_pay65, k0_pay110, k0_pay136, k0_pay91, k0_pay119, k0_pay145, k0_pay55, k0_pay326, k0_pay334, k0_pay204, k0_pay310, k0_pay290, k0_pay272, k0_pay256, k0_pay240, k0_pay224, k0_pay188, k0_pay12, k0_pay298, k0_pay280, k0_pay264, k0_pay248, k0_pay216, k0_pay196, k0_pay232, k0_pay339, k0_pay382, k0_pay401, k0_pay400, k0_pay416, k0_pay413, k0_pay414, k0_pay415, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 6 768 rfl, ld_col (iblk m c 1 t) 6 768 rfl, ld_col (iblk m c 2 t) 6 768 rfl, ld_col (iblk m c 3 t) 6 768 rfl, ld_col (iblk m c 4 t) 6 768 rfl, ld_col (iblk m c 5 t) 6 768 rfl,
      ld_row (iblk m c 6 t) 6 768 rfl, ld_row (iblk m c 7 t) 6 768 rfl, ld_row (iblk m c 8 t) 6 768 rfl, ld_row (iblk m c 9 t) 6 768 rfl, ld_row (iblk m c 10 t) 6 768 rfl, ld_st (k0_pay2 (F := Ideal)) 6 6 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) y x 6 h0 (by omega)
  case piece2 =>
    rw [View.readCov_fill (h := off0)]
    refine Eq.trans (b := pairOut (View.ld (iblk m c 0 t) (Rect.unit ![0, 640] ![64, 128] inb_S64x1024_S64x128_0_640)) (View.ld (iblk m c 1 t) (Rect.unit ![0, 640] ![64, 128] inb_S64x1024_S64x128_0_640)) (View.ld (iblk m c 2 t) (Rect.unit ![0, 640] ![64, 128] inb_S64x1024_S64x128_0_640)) (View.ld (iblk m c 3 t) (Rect.unit ![0, 640] ![64, 128] inb_S64x1024_S64x128_0_640)) (View.ld (iblk m c 4 t) (Rect.unit ![0, 640] ![64, 128] inb_S64x1024_S64x128_0_640)) (View.ld (iblk m c 5 t) (Rect.unit ![0, 640] ![64, 128] inb_S64x1024_S64x128_0_640)) (View.ld (iblk m c 6 t) (Rect.unit ![0, 640] ![1, 128] inb_S1x1024_S1x128_0_640)) (View.ld (iblk m c 7 t) (Rect.unit ![0, 640] ![1, 128] inb_S1x1024_S1x128_0_640)) (View.ld (iblk m c 8 t) (Rect.unit ![0, 640] ![1, 128] inb_S1x1024_S1x128_0_640)) (View.ld (iblk m c 9 t) (Rect.unit ![0, 640] ![1, 128] inb_S1x1024_S1x128_0_640)) (View.ld (iblk m c 10 t) (Rect.unit ![0, 640] ![1, 128] inb_S1x1024_S1x128_0_640)) (View.ld (Val := Elt Ideal) (e' := EltTy.f32) (S := S8x128x128) ((k0_pay2 (F := Ideal))) (Rect.unit (s := S8x128x128) ![5, 0, 0] ![1, 128, 128] inb_S8x128x128_S1x128x128_5_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay427, k0_pay412, k0_pay16, k0_pay13, k0_pay14, k0_pay15, k0_pay54, k0_pay426, k0_pay388, k0_pay372, k0_pay346, k0_pay170, k0_pay6, k0_pay3, k0_pay4, k0_pay5, k0_pay211, k0_pay11, k0_pay7, k0_pay8, k0_pay9, k0_pay179, k0_pay99, k0_pay44, k0_pay23, k0_pay34, k0_pay74, k0_pay17, k0_pay62, k0_pay63, k0_pay109, k0_pay135, k0_pay90, k0_pay118, k0_pay144, k0_pay325, k0_pay333, k0_pay203, k0_pay309, k0_pay289, k0_pay271, k0_pay255, k0_pay239, k0_pay223, k0_pay187, k0_pay12, k0_pay297, k0_pay279, k0_pay263, k0_pay247, k0_pay231, k0_pay195, k0_pay338, k0_pay381, k0_pay399, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 5 640 rfl, ld_col (iblk m c 1 t) 5 640 rfl, ld_col (iblk m c 2 t) 5 640 rfl, ld_col (iblk m c 3 t) 5 640 rfl, ld_col (iblk m c 4 t) 5 640 rfl, ld_col (iblk m c 5 t) 5 640 rfl,
      ld_row (iblk m c 6 t) 5 640 rfl, ld_row (iblk m c 7 t) 5 640 rfl, ld_row (iblk m c 8 t) 5 640 rfl, ld_row (iblk m c 9 t) 5 640 rfl, ld_row (iblk m c 10 t) 5 640 rfl, ld_st (k0_pay2 (F := Ideal)) 5 5 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) y x 5 h0 (by omega)
  case piece3 =>
    rw [View.readCov_fill (h := off0)]
    refine Eq.trans (b := pairOut (View.ld (iblk m c 0 t) (Rect.unit ![0, 512] ![64, 128] inb_S64x1024_S64x128_0_512)) (View.ld (iblk m c 1 t) (Rect.unit ![0, 512] ![64, 128] inb_S64x1024_S64x128_0_512)) (View.ld (iblk m c 2 t) (Rect.unit ![0, 512] ![64, 128] inb_S64x1024_S64x128_0_512)) (View.ld (iblk m c 3 t) (Rect.unit ![0, 512] ![64, 128] inb_S64x1024_S64x128_0_512)) (View.ld (iblk m c 4 t) (Rect.unit ![0, 512] ![64, 128] inb_S64x1024_S64x128_0_512)) (View.ld (iblk m c 5 t) (Rect.unit ![0, 512] ![64, 128] inb_S64x1024_S64x128_0_512)) (View.ld (iblk m c 6 t) (Rect.unit ![0, 512] ![1, 128] inb_S1x1024_S1x128_0_512)) (View.ld (iblk m c 7 t) (Rect.unit ![0, 512] ![1, 128] inb_S1x1024_S1x128_0_512)) (View.ld (iblk m c 8 t) (Rect.unit ![0, 512] ![1, 128] inb_S1x1024_S1x128_0_512)) (View.ld (iblk m c 9 t) (Rect.unit ![0, 512] ![1, 128] inb_S1x1024_S1x128_0_512)) (View.ld (iblk m c 10 t) (Rect.unit ![0, 512] ![1, 128] inb_S1x1024_S1x128_0_512)) (View.ld (Val := Elt Ideal) (e' := EltTy.f32) (S := S8x128x128) ((k0_pay2 (F := Ideal))) (Rect.unit (s := S8x128x128) ![4, 0, 0] ![1, 128, 128] inb_S8x128x128_S1x128x128_4_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay425, k0_pay387, k0_pay371, k0_pay345, k0_pay169, k0_pay6, k0_pay3, k0_pay4, k0_pay5, k0_pay210, k0_pay11, k0_pay7, k0_pay8, k0_pay9, k0_pay178, k0_pay98, k0_pay43, k0_pay22, k0_pay33, k0_pay16, k0_pay13, k0_pay14, k0_pay15, k0_pay73, k0_pay17, k0_pay60, k0_pay61, k0_pay108, k0_pay134, k0_pay89, k0_pay117, k0_pay143, k0_pay53, k0_pay324, k0_pay332, k0_pay202, k0_pay308, k0_pay288, k0_pay270, k0_pay254, k0_pay238, k0_pay222, k0_pay186, k0_pay12, k0_pay296, k0_pay278, k0_pay262, k0_pay246, k0_pay230, k0_pay194, k0_pay337, k0_pay380, k0_pay398, k0_pay411, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 4 512 rfl, ld_col (iblk m c 1 t) 4 512 rfl, ld_col (iblk m c 2 t) 4 512 rfl, ld_col (iblk m c 3 t) 4 512 rfl, ld_col (iblk m c 4 t) 4 512 rfl, ld_col (iblk m c 5 t) 4 512 rfl,
      ld_row (iblk m c 6 t) 4 512 rfl, ld_row (iblk m c 7 t) 4 512 rfl, ld_row (iblk m c 8 t) 4 512 rfl, ld_row (iblk m c 9 t) 4 512 rfl, ld_row (iblk m c 10 t) 4 512 rfl, ld_st (k0_pay2 (F := Ideal)) 4 4 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) y x 4 h0 (by omega)
  case piece4 =>
    rw [View.readCov_fill (h := off0)]
    refine Eq.trans (b := pairOut (View.ld (iblk m c 0 t) (Rect.unit ![0, 384] ![64, 128] inb_S64x1024_S64x128_0_384)) (View.ld (iblk m c 1 t) (Rect.unit ![0, 384] ![64, 128] inb_S64x1024_S64x128_0_384)) (View.ld (iblk m c 2 t) (Rect.unit ![0, 384] ![64, 128] inb_S64x1024_S64x128_0_384)) (View.ld (iblk m c 3 t) (Rect.unit ![0, 384] ![64, 128] inb_S64x1024_S64x128_0_384)) (View.ld (iblk m c 4 t) (Rect.unit ![0, 384] ![64, 128] inb_S64x1024_S64x128_0_384)) (View.ld (iblk m c 5 t) (Rect.unit ![0, 384] ![64, 128] inb_S64x1024_S64x128_0_384)) (View.ld (iblk m c 6 t) (Rect.unit ![0, 384] ![1, 128] inb_S1x1024_S1x128_0_384)) (View.ld (iblk m c 7 t) (Rect.unit ![0, 384] ![1, 128] inb_S1x1024_S1x128_0_384)) (View.ld (iblk m c 8 t) (Rect.unit ![0, 384] ![1, 128] inb_S1x1024_S1x128_0_384)) (View.ld (iblk m c 9 t) (Rect.unit ![0, 384] ![1, 128] inb_S1x1024_S1x128_0_384)) (View.ld (iblk m c 10 t) (Rect.unit ![0, 384] ![1, 128] inb_S1x1024_S1x128_0_384)) (View.ld (Val := Elt Ideal) (e' := EltTy.f32) (S := S8x128x128) ((k0_pay2 (F := Ideal))) (Rect.unit (s := S8x128x128) ![3, 0, 0] ![1, 128, 128] inb_S8x128x128_S1x128x128_3_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay424, k0_pay410, k0_pay16, k0_pay13, k0_pay14, k0_pay15, k0_pay52, k0_pay423, k0_pay386, k0_pay370, k0_pay344, k0_pay107, k0_pay6, k0_pay3, k0_pay4, k0_pay5, k0_pay72, k0_pay17, k0_pay59, k0_pay71, k0_pay168, k0_pay209, k0_pay11, k0_pay7, k0_pay8, k0_pay9, k0_pay177, k0_pay97, k0_pay42, k0_pay21, k0_pay32, k0_pay29, k0_pay30, k0_pay31, k0_pay133, k0_pay88, k0_pay116, k0_pay142, k0_pay323, k0_pay331, k0_pay201, k0_pay307, k0_pay295, k0_pay269, k0_pay253, k0_pay237, k0_pay221, k0_pay185, k0_pay12, k0_pay277, k0_pay261, k0_pay245, k0_pay229, k0_pay193, k0_pay303, k0_pay379, k0_pay397, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 3 384 rfl, ld_col (iblk m c 1 t) 3 384 rfl, ld_col (iblk m c 2 t) 3 384 rfl, ld_col (iblk m c 3 t) 3 384 rfl, ld_col (iblk m c 4 t) 3 384 rfl, ld_col (iblk m c 5 t) 3 384 rfl,
      ld_row (iblk m c 6 t) 3 384 rfl, ld_row (iblk m c 7 t) 3 384 rfl, ld_row (iblk m c 8 t) 3 384 rfl, ld_row (iblk m c 9 t) 3 384 rfl, ld_row (iblk m c 10 t) 3 384 rfl, ld_st (k0_pay2 (F := Ideal)) 3 3 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) y x 3 h0 (by omega)
  case piece5 =>
    rw [View.readCov_fill (h := off0)]
    refine Eq.trans (b := pairOut (View.ld (iblk m c 0 t) (Rect.unit ![0, 256] ![64, 128] inb_S64x1024_S64x128_0_256)) (View.ld (iblk m c 1 t) (Rect.unit ![0, 256] ![64, 128] inb_S64x1024_S64x128_0_256)) (View.ld (iblk m c 2 t) (Rect.unit ![0, 256] ![64, 128] inb_S64x1024_S64x128_0_256)) (View.ld (iblk m c 3 t) (Rect.unit ![0, 256] ![64, 128] inb_S64x1024_S64x128_0_256)) (View.ld (iblk m c 4 t) (Rect.unit ![0, 256] ![64, 128] inb_S64x1024_S64x128_0_256)) (View.ld (iblk m c 5 t) (Rect.unit ![0, 256] ![64, 128] inb_S64x1024_S64x128_0_256)) (View.ld (iblk m c 6 t) (Rect.unit ![0, 256] ![1, 128] inb_S1x1024_S1x128_0_256)) (View.ld (iblk m c 7 t) (Rect.unit ![0, 256] ![1, 128] inb_S1x1024_S1x128_0_256)) (View.ld (iblk m c 8 t) (Rect.unit ![0, 256] ![1, 128] inb_S1x1024_S1x128_0_256)) (View.ld (iblk m c 9 t) (Rect.unit ![0, 256] ![1, 128] inb_S1x1024_S1x128_0_256)) (View.ld (iblk m c 10 t) (Rect.unit ![0, 256] ![1, 128] inb_S1x1024_S1x128_0_256)) (View.ld (Val := Elt Ideal) (e' := EltTy.f32) (S := S8x128x128) ((k0_pay2 (F := Ideal))) (Rect.unit (s := S8x128x128) ![2, 0, 0] ![1, 128, 128] inb_S8x128x128_S1x128x128_2_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay422, k0_pay385, k0_pay369, k0_pay343, k0_pay106, k0_pay6, k0_pay3, k0_pay4, k0_pay5, k0_pay70, k0_pay17, k0_pay167, k0_pay208, k0_pay11, k0_pay7, k0_pay8, k0_pay9, k0_pay176, k0_pay132, k0_pay87, k0_pay41, k0_pay20, k0_pay39, k0_pay28, k0_pay16, k0_pay13, k0_pay14, k0_pay15, k0_pay40, k0_pay115, k0_pay141, k0_pay140, k0_pay51, k0_pay49, k0_pay50, k0_pay175, k0_pay96, k0_pay322, k0_pay330, k0_pay200, k0_pay306, k0_pay294, k0_pay268, k0_pay252, k0_pay236, k0_pay220, k0_pay184, k0_pay12, k0_pay276, k0_pay260, k0_pay244, k0_pay228, k0_pay192, k0_pay302, k0_pay378, k0_pay396, k0_pay393, k0_pay394, k0_pay395, k0_pay409, k0_pay407, k0_pay408, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 2 256 rfl, ld_col (iblk m c 1 t) 2 256 rfl, ld_col (iblk m c 2 t) 2 256 rfl, ld_col (iblk m c 3 t) 2 256 rfl, ld_col (iblk m c 4 t) 2 256 rfl, ld_col (iblk m c 5 t) 2 256 rfl,
      ld_row (iblk m c 6 t) 2 256 rfl, ld_row (iblk m c 7 t) 2 256 rfl, ld_row (iblk m c 8 t) 2 256 rfl, ld_row (iblk m c 9 t) 2 256 rfl, ld_row (iblk m c 10 t) 2 256 rfl, ld_st (k0_pay2 (F := Ideal)) 2 2 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) y x 2 h0 (by omega)
  case piece6 =>
    rw [View.readCov_fill (h := off0)]
    refine Eq.trans (b := pairOut (View.ld (iblk m c 0 t) (Rect.unit ![0, 128] ![64, 128] inb_S64x1024_S64x128_0_128)) (View.ld (iblk m c 1 t) (Rect.unit ![0, 128] ![64, 128] inb_S64x1024_S64x128_0_128)) (View.ld (iblk m c 2 t) (Rect.unit ![0, 128] ![64, 128] inb_S64x1024_S64x128_0_128)) (View.ld (iblk m c 3 t) (Rect.unit ![0, 128] ![64, 128] inb_S64x1024_S64x128_0_128)) (View.ld (iblk m c 4 t) (Rect.unit ![0, 128] ![64, 128] inb_S64x1024_S64x128_0_128)) (View.ld (iblk m c 5 t) (Rect.unit ![0, 128] ![64, 128] inb_S64x1024_S64x128_0_128)) (View.ld (iblk m c 6 t) (Rect.unit ![0, 128] ![1, 128] inb_S1x1024_S1x128_0_128)) (View.ld (iblk m c 7 t) (Rect.unit ![0, 128] ![1, 128] inb_S1x1024_S1x128_0_128)) (View.ld (iblk m c 8 t) (Rect.unit ![0, 128] ![1, 128] inb_S1x1024_S1x128_0_128)) (View.ld (iblk m c 9 t) (Rect.unit ![0, 128] ![1, 128] inb_S1x1024_S1x128_0_128)) (View.ld (iblk m c 10 t) (Rect.unit ![0, 128] ![1, 128] inb_S1x1024_S1x128_0_128)) (View.ld (Val := Elt Ideal) (e' := EltTy.f32) (S := S8x128x128) ((k0_pay2 (F := Ideal))) (Rect.unit (s := S8x128x128) ![1, 0, 0] ![1, 128, 128] inb_S8x128x128_S1x128x128_1_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay421, k0_pay404, k0_pay16, k0_pay13, k0_pay14, k0_pay15, k0_pay48, k0_pay419, k0_pay384, k0_pay368, k0_pay342, k0_pay105, k0_pay6, k0_pay3, k0_pay4, k0_pay5, k0_pay69, k0_pay17, k0_pay166, k0_pay207, k0_pay11, k0_pay7, k0_pay8, k0_pay9, k0_pay174, k0_pay95, k0_pay94, k0_pay38, k0_pay19, k0_pay27, k0_pay131, k0_pay86, k0_pay114, k0_pay139, k0_pay321, k0_pay329, k0_pay199, k0_pay305, k0_pay293, k0_pay275, k0_pay251, k0_pay235, k0_pay219, k0_pay183, k0_pay12, k0_pay259, k0_pay243, k0_pay227, k0_pay191, k0_pay215, k0_pay283, k0_pay301, k0_pay377, k0_pay376, k0_pay392, k0_pay420, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403]
      rfl
    rw [ld_col (iblk m c 0 t) 1 128 rfl, ld_col (iblk m c 1 t) 1 128 rfl, ld_col (iblk m c 2 t) 1 128 rfl, ld_col (iblk m c 3 t) 1 128 rfl, ld_col (iblk m c 4 t) 1 128 rfl, ld_col (iblk m c 5 t) 1 128 rfl,
      ld_row (iblk m c 6 t) 1 128 rfl, ld_row (iblk m c 7 t) 1 128 rfl, ld_row (iblk m c 8 t) 1 128 rfl, ld_row (iblk m c 9 t) 1 128 rfl, ld_row (iblk m c 10 t) 1 128 rfl, ld_st (k0_pay2 (F := Ideal)) 1 1 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) y x 1 h0 (by omega)
  case piece7 =>
    rw [View.readCov_fill (h := off0)]
    refine Eq.trans (b := pairOut (View.ld (iblk m c 0 t) (Rect.unit ![0, 0] ![64, 128] inb_S64x1024_S64x128_0_0)) (View.ld (iblk m c 1 t) (Rect.unit ![0, 0] ![64, 128] inb_S64x1024_S64x128_0_0)) (View.ld (iblk m c 2 t) (Rect.unit ![0, 0] ![64, 128] inb_S64x1024_S64x128_0_0)) (View.ld (iblk m c 3 t) (Rect.unit ![0, 0] ![64, 128] inb_S64x1024_S64x128_0_0)) (View.ld (iblk m c 4 t) (Rect.unit ![0, 0] ![64, 128] inb_S64x1024_S64x128_0_0)) (View.ld (iblk m c 5 t) (Rect.unit ![0, 0] ![64, 128] inb_S64x1024_S64x128_0_0)) (View.ld (iblk m c 6 t) (Rect.unit ![0, 0] ![1, 128] inb_S1x1024_S1x128_0_0)) (View.ld (iblk m c 7 t) (Rect.unit ![0, 0] ![1, 128] inb_S1x1024_S1x128_0_0)) (View.ld (iblk m c 8 t) (Rect.unit ![0, 0] ![1, 128] inb_S1x1024_S1x128_0_0)) (View.ld (iblk m c 9 t) (Rect.unit ![0, 0] ![1, 128] inb_S1x1024_S1x128_0_0)) (View.ld (iblk m c 10 t) (Rect.unit ![0, 0] ![1, 128] inb_S1x1024_S1x128_0_0)) (View.ld (Val := Elt Ideal) (e' := EltTy.f32) (S := S8x128x128) ((k0_pay2 (F := Ideal))) (Rect.unit (s := S8x128x128) ![0, 0, 0] ![1, 128, 128] inb_S8x128x128_S1x128x128_0_0_0)) x) ?_ ?_
    · dsimp only [pairOut, nkk, nk, ncum, ntot, nbeta, nas, nrs, nbt, nkt, nbh, nkh, nvs, nquad, nlp, nlak, nmrb, nmrk, nx0, nsolve, nx6, no, nout, rowN, colN, same, inclM, strictM, grp, lower, k0_pay418, k0_pay383, k0_pay367, k0_pay341, k0_pay165, k0_pay6, k0_pay3, k0_pay4, k0_pay5, k0_pay206, k0_pay11, k0_pay7, k0_pay8, k0_pay9, k0_pay173, k0_pay93, k0_pay37, k0_pay18, k0_pay26, k0_pay16, k0_pay13, k0_pay14, k0_pay15, k0_pay68, k0_pay17, k0_pay104, k0_pay130, k0_pay129, k0_pay85, k0_pay138, k0_pay47, k0_pay113, k0_pay320, k0_pay312, k0_pay328, k0_pay198, k0_pay304, k0_pay292, k0_pay274, k0_pay250, k0_pay234, k0_pay218, k0_pay182, k0_pay12, k0_pay258, k0_pay242, k0_pay226, k0_pay214, k0_pay190, k0_pay282, k0_pay300, k0_pay336, k0_pay375, k0_pay391, k0_pay403, k0_pay77, k0_pay147, k0_pay121, k0_pay156, k0_pay357, k0_pay356]
      rfl
    rw [ld_col (iblk m c 0 t) 0 0 rfl, ld_col (iblk m c 1 t) 0 0 rfl, ld_col (iblk m c 2 t) 0 0 rfl, ld_col (iblk m c 3 t) 0 0 rfl, ld_col (iblk m c 4 t) 0 0 rfl, ld_col (iblk m c 5 t) 0 0 rfl,
      ld_row (iblk m c 6 t) 0 0 rfl, ld_row (iblk m c 7 t) 0 0 rfl, ld_row (iblk m c 8 t) 0 0 rfl, ld_row (iblk m c 9 t) 0 0 rfl, ld_row (iblk m c 10 t) 0 0 rfl, ld_st (k0_pay2 (F := Ideal)) 0 0 rfl]
    exact outAt_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) y x 0 h0 (by omega)

set_option maxHeartbeats 8000000 in
/-- The carried state after the first point of a batch, from the zero state. -/
theorem state_A (c : Dev nD) (t : Fin cfg0.N) (h0 : t.val % 64 = 0) :
    (outsAt0 m c t.val t.isLt).2 = stateAt (iblk m c 0 t) (iblk m c 1 t) (iblk m c 2 t) (iblk m c 3 t) (iblk m c 4 t) (iblk m c 6 t) (iblk m c 7 t) (k0_pay2 (F := Ideal)) := by
  funext y
  rw [outsAt0_A m c t h0]
  frame_out
  refine View.canon_append_of_piecesOf (Val := Elt Ideal) (s := S8x128x128) (e := EltTy.f32) (stateAt (iblk m c 0 t) (iblk m c 1 t) (iblk m c 2 t) (iblk m c 3 t) (iblk m c 4 t) (iblk m c 6 t) (iblk m c 7 t) (k0_pay2 (F := Ideal))) [_] [_, _, _, _, _, _, _, _] ⟨fun x => ?piece0, fun x => ?piece1, fun x => ?piece2, fun x => ?piece3, fun x => ?piece4, fun x => ?piece5, fun x => ?piece6, fun x => ?piece7, trivial⟩ y ?cover
  case piece0 =>
    rw [View.readCov_fill (h := off0)]
    refine Eq.trans (b := pairState (View.ld (iblk m c 0 t) (Rect.unit ![0, 896] ![64, 128] inb_S64x1024_S64x128_0_896)) (View.ld (iblk m c 1 t) (Rect.unit ![0, 896] ![64, 128] inb_S64x1024_S64x128_0_896)) (View.ld (iblk m c 2 t) (Rect.unit ![0, 896] ![64, 128] inb_S64x1024_S64x128_0_896)) (View.ld (iblk m c 3 t) (Rect.unit ![0, 896] ![64, 128] inb_S64x1024_S64x128_0_896)) (View.ld (iblk m c 4 t) (Rect.unit ![0, 896] ![64, 128] inb_S64x1024_S64x128_0_896)) (View.ld (iblk m c 6 t) (Rect.unit ![0, 896] ![1, 128] inb_S1x1024_S1x128_0_896)) (View.ld (iblk m c 7 t) (Rect.unit ![0, 896] ![1, 128] inb_S1x1024_S1x128_0_896)) (View.ld (Val := Elt Ideal) (e' := EltTy.f32) (S := S8x128x128) ((k0_pay2 (F := Ideal))) (Rect.unit (s := S8x128x128) ![7, 0, 0] ![1, 128, 128] inb_S8x128x128_S1x128x128_7_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay366, k0_pay84, k0_pay17, k0_pay66, k0_pay67, k0_pay164, k0_pay6, k0_pay3, k0_pay4, k0_pay5, k0_pay57, k0_pay56, k0_pay128, k0_pay76, k0_pay172, k0_pay319, k0_pay327, k0_pay355, k0_pay155, k0_pay92, k0_pay46, k0_pay25, k0_pay36, k0_pay16, k0_pay13, k0_pay14, k0_pay15, k0_pay311, k0_pay291, k0_pay273, k0_pay257, k0_pay241, k0_pay225, k0_pay189, k0_pay12, k0_pay7, k0_pay8, k0_pay9, k0_pay103, k0_pay101, k0_pay102, k0_pay112, k0_pay111, k0_pay137, k0_pay120, k0_pay146, k0_pay299, k0_pay281, k0_pay265, k0_pay233, k0_pay217, k0_pay197, k0_pay181, k0_pay249, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 7 896 rfl, ld_col (iblk m c 1 t) 7 896 rfl, ld_col (iblk m c 2 t) 7 896 rfl, ld_col (iblk m c 3 t) 7 896 rfl, ld_col (iblk m c 4 t) 7 896 rfl,
      ld_row (iblk m c 6 t) 7 896 rfl, ld_row (iblk m c 7 t) 7 896 rfl, ld_st (k0_pay2 (F := Ideal)) 7 7 rfl]
    exact stateAt_piece (iblk m c 0 t) (iblk m c 1 t) (iblk m c 2 t) (iblk m c 3 t) (iblk m c 4 t) (iblk m c 6 t) (iblk m c 7 t) (k0_pay2 (F := Ideal)) _ x 7 (by have h : (x 0 : Fin 1).val < 1 := (x 0 : Fin 1).isLt; show 7 + 1 * (x 0 : Fin 1).val = 7; omega) (by show 0 + 1 * (x 1 : Fin 128).val = (x 1 : Fin 128).val; omega) (by show 0 + 1 * (x 2 : Fin 128).val = (x 2 : Fin 128).val; omega)
  case piece1 =>
    rw [View.readCov_fill (h := off0)]
    refine Eq.trans (b := pairState (View.ld (iblk m c 0 t) (Rect.unit ![0, 768] ![64, 128] inb_S64x1024_S64x128_0_768)) (View.ld (iblk m c 1 t) (Rect.unit ![0, 768] ![64, 128] inb_S64x1024_S64x128_0_768)) (View.ld (iblk m c 2 t) (Rect.unit ![0, 768] ![64, 128] inb_S64x1024_S64x128_0_768)) (View.ld (iblk m c 3 t) (Rect.unit ![0, 768] ![64, 128] inb_S64x1024_S64x128_0_768)) (View.ld (iblk m c 4 t) (Rect.unit ![0, 768] ![64, 128] inb_S64x1024_S64x128_0_768)) (View.ld (iblk m c 6 t) (Rect.unit ![0, 768] ![1, 128] inb_S1x1024_S1x128_0_768)) (View.ld (iblk m c 7 t) (Rect.unit ![0, 768] ![1, 128] inb_S1x1024_S1x128_0_768)) (View.ld (Val := Elt Ideal) (e' := EltTy.f32) (S := S8x128x128) ((k0_pay2 (F := Ideal))) (Rect.unit (s := S8x128x128) ![6, 0, 0] ![1, 128, 128] inb_S8x128x128_S1x128x128_6_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay365, k0_pay364, k0_pay83, k0_pay17, k0_pay64, k0_pay65, k0_pay163, k0_pay6, k0_pay3, k0_pay4, k0_pay5, k0_pay162, k0_pay55, k0_pay127, k0_pay75, k0_pay171, k0_pay318, k0_pay326, k0_pay354, k0_pay154, k0_pay91, k0_pay45, k0_pay24, k0_pay35, k0_pay16, k0_pay13, k0_pay14, k0_pay15, k0_pay310, k0_pay290, k0_pay272, k0_pay256, k0_pay240, k0_pay224, k0_pay188, k0_pay12, k0_pay7, k0_pay8, k0_pay9, k0_pay100, k0_pay110, k0_pay136, k0_pay119, k0_pay145, k0_pay298, k0_pay280, k0_pay264, k0_pay248, k0_pay216, k0_pay196, k0_pay180, k0_pay232, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 6 768 rfl, ld_col (iblk m c 1 t) 6 768 rfl, ld_col (iblk m c 2 t) 6 768 rfl, ld_col (iblk m c 3 t) 6 768 rfl, ld_col (iblk m c 4 t) 6 768 rfl,
      ld_row (iblk m c 6 t) 6 768 rfl, ld_row (iblk m c 7 t) 6 768 rfl, ld_st (k0_pay2 (F := Ideal)) 6 6 rfl]
    exact stateAt_piece (iblk m c 0 t) (iblk m c 1 t) (iblk m c 2 t) (iblk m c 3 t) (iblk m c 4 t) (iblk m c 6 t) (iblk m c 7 t) (k0_pay2 (F := Ideal)) _ x 6 (by have h : (x 0 : Fin 1).val < 1 := (x 0 : Fin 1).isLt; show 6 + 1 * (x 0 : Fin 1).val = 6; omega) (by show 0 + 1 * (x 1 : Fin 128).val = (x 1 : Fin 128).val; omega) (by show 0 + 1 * (x 2 : Fin 128).val = (x 2 : Fin 128).val; omega)
  case piece2 =>
    rw [View.readCov_fill (h := off0)]
    refine Eq.trans (b := pairState (View.ld (iblk m c 0 t) (Rect.unit ![0, 640] ![64, 128] inb_S64x1024_S64x128_0_640)) (View.ld (iblk m c 1 t) (Rect.unit ![0, 640] ![64, 128] inb_S64x1024_S64x128_0_640)) (View.ld (iblk m c 2 t) (Rect.unit ![0, 640] ![64, 128] inb_S64x1024_S64x128_0_640)) (View.ld (iblk m c 3 t) (Rect.unit ![0, 640] ![64, 128] inb_S64x1024_S64x128_0_640)) (View.ld (iblk m c 4 t) (Rect.unit ![0, 640] ![64, 128] inb_S64x1024_S64x128_0_640)) (View.ld (iblk m c 6 t) (Rect.unit ![0, 640] ![1, 128] inb_S1x1024_S1x128_0_640)) (View.ld (iblk m c 7 t) (Rect.unit ![0, 640] ![1, 128] inb_S1x1024_S1x128_0_640)) (View.ld (Val := Elt Ideal) (e' := EltTy.f32) (S := S8x128x128) ((k0_pay2 (F := Ideal))) (Rect.unit (s := S8x128x128) ![5, 0, 0] ![1, 128, 128] inb_S8x128x128_S1x128x128_5_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay363, k0_pay82, k0_pay17, k0_pay62, k0_pay63, k0_pay161, k0_pay6, k0_pay3, k0_pay4, k0_pay5, k0_pay54, k0_pay126, k0_pay74, k0_pay170, k0_pay317, k0_pay325, k0_pay353, k0_pay153, k0_pay90, k0_pay44, k0_pay23, k0_pay34, k0_pay16, k0_pay13, k0_pay14, k0_pay15, k0_pay309, k0_pay289, k0_pay271, k0_pay255, k0_pay239, k0_pay223, k0_pay187, k0_pay12, k0_pay7, k0_pay8, k0_pay9, k0_pay99, k0_pay109, k0_pay135, k0_pay118, k0_pay144, k0_pay297, k0_pay279, k0_pay263, k0_pay247, k0_pay231, k0_pay195, k0_pay179, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 5 640 rfl, ld_col (iblk m c 1 t) 5 640 rfl, ld_col (iblk m c 2 t) 5 640 rfl, ld_col (iblk m c 3 t) 5 640 rfl, ld_col (iblk m c 4 t) 5 640 rfl,
      ld_row (iblk m c 6 t) 5 640 rfl, ld_row (iblk m c 7 t) 5 640 rfl, ld_st (k0_pay2 (F := Ideal)) 5 5 rfl]
    exact stateAt_piece (iblk m c 0 t) (iblk m c 1 t) (iblk m c 2 t) (iblk m c 3 t) (iblk m c 4 t) (iblk m c 6 t) (iblk m c 7 t) (k0_pay2 (F := Ideal)) _ x 5 (by have h : (x 0 : Fin 1).val < 1 := (x 0 : Fin 1).isLt; show 5 + 1 * (x 0 : Fin 1).val = 5; omega) (by show 0 + 1 * (x 1 : Fin 128).val = (x 1 : Fin 128).val; omega) (by show 0 + 1 * (x 2 : Fin 128).val = (x 2 : Fin 128).val; omega)
  case piece3 =>
    rw [View.readCov_fill (h := off0)]
    refine Eq.trans (b := pairState (View.ld (iblk m c 0 t) (Rect.unit ![0, 512] ![64, 128] inb_S64x1024_S64x128_0_512)) (View.ld (iblk m c 1 t) (Rect.unit ![0, 512] ![64, 128] inb_S64x1024_S64x128_0_512)) (View.ld (iblk m c 2 t) (Rect.unit ![0, 512] ![64, 128] inb_S64x1024_S64x128_0_512)) (View.ld (iblk m c 3 t) (Rect.unit ![0, 512] ![64, 128] inb_S64x1024_S64x128_0_512)) (View.ld (iblk m c 4 t) (Rect.unit ![0, 512] ![64, 128] inb_S64x1024_S64x128_0_512)) (View.ld (iblk m c 6 t) (Rect.unit ![0, 512] ![1, 128] inb_S1x1024_S1x128_0_512)) (View.ld (iblk m c 7 t) (Rect.unit ![0, 512] ![1, 128] inb_S1x1024_S1x128_0_512)) (View.ld (Val := Elt Ideal) (e' := EltTy.f32) (S := S8x128x128) ((k0_pay2 (F := Ideal))) (Rect.unit (s := S8x128x128) ![4, 0, 0] ![1, 128, 128] inb_S8x128x128_S1x128x128_4_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay362, k0_pay81, k0_pay17, k0_pay60, k0_pay61, k0_pay160, k0_pay6, k0_pay3, k0_pay4, k0_pay5, k0_pay53, k0_pay125, k0_pay73, k0_pay169, k0_pay316, k0_pay324, k0_pay352, k0_pay152, k0_pay151, k0_pay89, k0_pay43, k0_pay22, k0_pay33, k0_pay16, k0_pay13, k0_pay14, k0_pay15, k0_pay308, k0_pay288, k0_pay270, k0_pay254, k0_pay238, k0_pay222, k0_pay186, k0_pay12, k0_pay7, k0_pay8, k0_pay9, k0_pay98, k0_pay108, k0_pay134, k0_pay117, k0_pay143, k0_pay296, k0_pay278, k0_pay262, k0_pay246, k0_pay230, k0_pay194, k0_pay178, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 4 512 rfl, ld_col (iblk m c 1 t) 4 512 rfl, ld_col (iblk m c 2 t) 4 512 rfl, ld_col (iblk m c 3 t) 4 512 rfl, ld_col (iblk m c 4 t) 4 512 rfl,
      ld_row (iblk m c 6 t) 4 512 rfl, ld_row (iblk m c 7 t) 4 512 rfl, ld_st (k0_pay2 (F := Ideal)) 4 4 rfl]
    exact stateAt_piece (iblk m c 0 t) (iblk m c 1 t) (iblk m c 2 t) (iblk m c 3 t) (iblk m c 4 t) (iblk m c 6 t) (iblk m c 7 t) (k0_pay2 (F := Ideal)) _ x 4 (by have h : (x 0 : Fin 1).val < 1 := (x 0 : Fin 1).isLt; show 4 + 1 * (x 0 : Fin 1).val = 4; omega) (by show 0 + 1 * (x 1 : Fin 128).val = (x 1 : Fin 128).val; omega) (by show 0 + 1 * (x 2 : Fin 128).val = (x 2 : Fin 128).val; omega)
  case piece4 =>
    rw [View.readCov_fill (h := off0)]
    refine Eq.trans (b := pairState (View.ld (iblk m c 0 t) (Rect.unit ![0, 384] ![64, 128] inb_S64x1024_S64x128_0_384)) (View.ld (iblk m c 1 t) (Rect.unit ![0, 384] ![64, 128] inb_S64x1024_S64x128_0_384)) (View.ld (iblk m c 2 t) (Rect.unit ![0, 384] ![64, 128] inb_S64x1024_S64x128_0_384)) (View.ld (iblk m c 3 t) (Rect.unit ![0, 384] ![64, 128] inb_S64x1024_S64x128_0_384)) (View.ld (iblk m c 4 t) (Rect.unit ![0, 384] ![64, 128] inb_S64x1024_S64x128_0_384)) (View.ld (iblk m c 6 t) (Rect.unit ![0, 384] ![1, 128] inb_S1x1024_S1x128_0_384)) (View.ld (iblk m c 7 t) (Rect.unit ![0, 384] ![1, 128] inb_S1x1024_S1x128_0_384)) (View.ld (Val := Elt Ideal) (e' := EltTy.f32) (S := S8x128x128) ((k0_pay2 (F := Ideal))) (Rect.unit (s := S8x128x128) ![3, 0, 0] ![1, 128, 128] inb_S8x128x128_S1x128x128_3_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay361, k0_pay360, k0_pay80, k0_pay17, k0_pay59, k0_pay71, k0_pay159, k0_pay6, k0_pay3, k0_pay4, k0_pay5, k0_pay52, k0_pay124, k0_pay72, k0_pay168, k0_pay315, k0_pay323, k0_pay351, k0_pay150, k0_pay88, k0_pay42, k0_pay21, k0_pay32, k0_pay16, k0_pay13, k0_pay14, k0_pay15, k0_pay29, k0_pay30, k0_pay31, k0_pay307, k0_pay295, k0_pay269, k0_pay253, k0_pay237, k0_pay221, k0_pay185, k0_pay12, k0_pay7, k0_pay8, k0_pay9, k0_pay97, k0_pay107, k0_pay133, k0_pay116, k0_pay142, k0_pay277, k0_pay261, k0_pay245, k0_pay229, k0_pay193, k0_pay177, k0_pay303, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 3 384 rfl, ld_col (iblk m c 1 t) 3 384 rfl, ld_col (iblk m c 2 t) 3 384 rfl, ld_col (iblk m c 3 t) 3 384 rfl, ld_col (iblk m c 4 t) 3 384 rfl,
      ld_row (iblk m c 6 t) 3 384 rfl, ld_row (iblk m c 7 t) 3 384 rfl, ld_st (k0_pay2 (F := Ideal)) 3 3 rfl]
    exact stateAt_piece (iblk m c 0 t) (iblk m c 1 t) (iblk m c 2 t) (iblk m c 3 t) (iblk m c 4 t) (iblk m c 6 t) (iblk m c 7 t) (k0_pay2 (F := Ideal)) _ x 3 (by have h : (x 0 : Fin 1).val < 1 := (x 0 : Fin 1).isLt; show 3 + 1 * (x 0 : Fin 1).val = 3; omega) (by show 0 + 1 * (x 1 : Fin 128).val = (x 1 : Fin 128).val; omega) (by show 0 + 1 * (x 2 : Fin 128).val = (x 2 : Fin 128).val; omega)
  case piece5 =>
    rw [View.readCov_fill (h := off0)]
    refine Eq.trans (b := pairState (View.ld (iblk m c 0 t) (Rect.unit ![0, 256] ![64, 128] inb_S64x1024_S64x128_0_256)) (View.ld (iblk m c 1 t) (Rect.unit ![0, 256] ![64, 128] inb_S64x1024_S64x128_0_256)) (View.ld (iblk m c 2 t) (Rect.unit ![0, 256] ![64, 128] inb_S64x1024_S64x128_0_256)) (View.ld (iblk m c 3 t) (Rect.unit ![0, 256] ![64, 128] inb_S64x1024_S64x128_0_256)) (View.ld (iblk m c 4 t) (Rect.unit ![0, 256] ![64, 128] inb_S64x1024_S64x128_0_256)) (View.ld (iblk m c 6 t) (Rect.unit ![0, 256] ![1, 128] inb_S1x1024_S1x128_0_256)) (View.ld (iblk m c 7 t) (Rect.unit ![0, 256] ![1, 128] inb_S1x1024_S1x128_0_256)) (View.ld (Val := Elt Ideal) (e' := EltTy.f32) (S := S8x128x128) ((k0_pay2 (F := Ideal))) (Rect.unit (s := S8x128x128) ![2, 0, 0] ![1, 128, 128] inb_S8x128x128_S1x128x128_2_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay359, k0_pay79, k0_pay70, k0_pay17, k0_pay158, k0_pay6, k0_pay3, k0_pay4, k0_pay5, k0_pay51, k0_pay49, k0_pay50, k0_pay123, k0_pay167, k0_pay314, k0_pay322, k0_pay350, k0_pay149, k0_pay87, k0_pay41, k0_pay20, k0_pay39, k0_pay28, k0_pay16, k0_pay13, k0_pay14, k0_pay15, k0_pay40, k0_pay306, k0_pay294, k0_pay268, k0_pay252, k0_pay236, k0_pay220, k0_pay184, k0_pay12, k0_pay7, k0_pay8, k0_pay9, k0_pay132, k0_pay115, k0_pay141, k0_pay140, k0_pay175, k0_pay96, k0_pay106, k0_pay276, k0_pay260, k0_pay244, k0_pay228, k0_pay192, k0_pay176, k0_pay302, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 2 256 rfl, ld_col (iblk m c 1 t) 2 256 rfl, ld_col (iblk m c 2 t) 2 256 rfl, ld_col (iblk m c 3 t) 2 256 rfl, ld_col (iblk m c 4 t) 2 256 rfl,
      ld_row (iblk m c 6 t) 2 256 rfl, ld_row (iblk m c 7 t) 2 256 rfl, ld_st (k0_pay2 (F := Ideal)) 2 2 rfl]
    exact stateAt_piece (iblk m c 0 t) (iblk m c 1 t) (iblk m c 2 t) (iblk m c 3 t) (iblk m c 4 t) (iblk m c 6 t) (iblk m c 7 t) (k0_pay2 (F := Ideal)) _ x 2 (by have h : (x 0 : Fin 1).val < 1 := (x 0 : Fin 1).isLt; show 2 + 1 * (x 0 : Fin 1).val = 2; omega) (by show 0 + 1 * (x 1 : Fin 128).val = (x 1 : Fin 128).val; omega) (by show 0 + 1 * (x 2 : Fin 128).val = (x 2 : Fin 128).val; omega)
  case piece6 =>
    rw [View.readCov_fill (h := off0)]
    refine Eq.trans (b := pairState (View.ld (iblk m c 0 t) (Rect.unit ![0, 128] ![64, 128] inb_S64x1024_S64x128_0_128)) (View.ld (iblk m c 1 t) (Rect.unit ![0, 128] ![64, 128] inb_S64x1024_S64x128_0_128)) (View.ld (iblk m c 2 t) (Rect.unit ![0, 128] ![64, 128] inb_S64x1024_S64x128_0_128)) (View.ld (iblk m c 3 t) (Rect.unit ![0, 128] ![64, 128] inb_S64x1024_S64x128_0_128)) (View.ld (iblk m c 4 t) (Rect.unit ![0, 128] ![64, 128] inb_S64x1024_S64x128_0_128)) (View.ld (iblk m c 6 t) (Rect.unit ![0, 128] ![1, 128] inb_S1x1024_S1x128_0_128)) (View.ld (iblk m c 7 t) (Rect.unit ![0, 128] ![1, 128] inb_S1x1024_S1x128_0_128)) (View.ld (Val := Elt Ideal) (e' := EltTy.f32) (S := S8x128x128) ((k0_pay2 (F := Ideal))) (Rect.unit (s := S8x128x128) ![1, 0, 0] ![1, 128, 128] inb_S8x128x128_S1x128x128_1_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay358, k0_pay78, k0_pay69, k0_pay17, k0_pay157, k0_pay6, k0_pay3, k0_pay4, k0_pay5, k0_pay48, k0_pay122, k0_pay166, k0_pay313, k0_pay321, k0_pay349, k0_pay148, k0_pay86, k0_pay38, k0_pay19, k0_pay27, k0_pay16, k0_pay13, k0_pay14, k0_pay15, k0_pay305, k0_pay293, k0_pay275, k0_pay251, k0_pay235, k0_pay219, k0_pay183, k0_pay12, k0_pay7, k0_pay8, k0_pay9, k0_pay174, k0_pay95, k0_pay94, k0_pay105, k0_pay131, k0_pay114, k0_pay139, k0_pay259, k0_pay243, k0_pay227, k0_pay191, k0_pay215, k0_pay283, k0_pay301, k0_pay37, k0_pay18, k0_pay26, k0_pay47, k0_pay68, k0_pay77, k0_pay85, k0_pay93, k0_pay104, k0_pay130, k0_pay129, k0_pay138, k0_pay113, k0_pay147, k0_pay121, k0_pay156, k0_pay165, k0_pay173, k0_pay182, k0_pay190, k0_pay198, k0_pay206, k0_pay214, k0_pay304, k0_pay292, k0_pay274, k0_pay250, k0_pay234, k0_pay218, k0_pay258, k0_pay242, k0_pay226, k0_pay282, k0_pay300, k0_pay341, k0_pay320, k0_pay312, k0_pay328, k0_pay336, k0_pay357, k0_pay356, k0_pay418, k0_pay383, k0_pay367, k0_pay375, k0_pay391, k0_pay403, k0_pay11]
      rfl
    rw [ld_col (iblk m c 0 t) 1 128 rfl, ld_col (iblk m c 1 t) 1 128 rfl, ld_col (iblk m c 2 t) 1 128 rfl, ld_col (iblk m c 3 t) 1 128 rfl, ld_col (iblk m c 4 t) 1 128 rfl,
      ld_row (iblk m c 6 t) 1 128 rfl, ld_row (iblk m c 7 t) 1 128 rfl, ld_st (k0_pay2 (F := Ideal)) 1 1 rfl]
    exact stateAt_piece (iblk m c 0 t) (iblk m c 1 t) (iblk m c 2 t) (iblk m c 3 t) (iblk m c 4 t) (iblk m c 6 t) (iblk m c 7 t) (k0_pay2 (F := Ideal)) _ x 1 (by have h : (x 0 : Fin 1).val < 1 := (x 0 : Fin 1).isLt; show 1 + 1 * (x 0 : Fin 1).val = 1; omega) (by show 0 + 1 * (x 1 : Fin 128).val = (x 1 : Fin 128).val; omega) (by show 0 + 1 * (x 2 : Fin 128).val = (x 2 : Fin 128).val; omega)
  case piece7 =>
    rw [View.readCov_fill (h := off0)]
    refine Eq.trans (b := pairState (View.ld (iblk m c 0 t) (Rect.unit ![0, 0] ![64, 128] inb_S64x1024_S64x128_0_0)) (View.ld (iblk m c 1 t) (Rect.unit ![0, 0] ![64, 128] inb_S64x1024_S64x128_0_0)) (View.ld (iblk m c 2 t) (Rect.unit ![0, 0] ![64, 128] inb_S64x1024_S64x128_0_0)) (View.ld (iblk m c 3 t) (Rect.unit ![0, 0] ![64, 128] inb_S64x1024_S64x128_0_0)) (View.ld (iblk m c 4 t) (Rect.unit ![0, 0] ![64, 128] inb_S64x1024_S64x128_0_0)) (View.ld (iblk m c 6 t) (Rect.unit ![0, 0] ![1, 128] inb_S1x1024_S1x128_0_0)) (View.ld (iblk m c 7 t) (Rect.unit ![0, 0] ![1, 128] inb_S1x1024_S1x128_0_0)) (View.ld (Val := Elt Ideal) (e' := EltTy.f32) (S := S8x128x128) ((k0_pay2 (F := Ideal))) (Rect.unit (s := S8x128x128) ![0, 0, 0] ![1, 128, 128] inb_S8x128x128_S1x128x128_0_0_0)) x) ?_ ?_
    · dsimp only [pairState, nkk, nk, ncum, ntot, nbeta, nas, nrs, nbt, nkt, nbh, nkh, nvs, nquad, nlp, nlak, nmrb, nmrk, nx0, nsolve, nx6, no, nout, rowN, colN, same, inclM, strictM, grp, lower, k0_pay357, k0_pay356, k0_pay77, k0_pay68, k0_pay17, k0_pay147, k0_pay6, k0_pay3, k0_pay4, k0_pay5, k0_pay85, k0_pay37, k0_pay18, k0_pay26, k0_pay16, k0_pay13, k0_pay14, k0_pay15, k0_pay121, k0_pay156, k0_pay47, k0_pay165, k0_pay304, k0_pay292, k0_pay274, k0_pay250, k0_pay234, k0_pay218, k0_pay182, k0_pay12, k0_pay7, k0_pay8, k0_pay9, k0_pay173, k0_pay93, k0_pay104, k0_pay130, k0_pay129, k0_pay138, k0_pay113, k0_pay258, k0_pay242, k0_pay226, k0_pay214, k0_pay190, k0_pay282, k0_pay300, k0_pay312, k0_pay320, k0_pay198, k0_pay206, k0_pay341, k0_pay328, k0_pay336, k0_pay418, k0_pay383, k0_pay367, k0_pay375, k0_pay391, k0_pay403, k0_pay11]
      rfl
    rw [ld_col (iblk m c 0 t) 0 0 rfl, ld_col (iblk m c 1 t) 0 0 rfl, ld_col (iblk m c 2 t) 0 0 rfl, ld_col (iblk m c 3 t) 0 0 rfl, ld_col (iblk m c 4 t) 0 0 rfl,
      ld_row (iblk m c 6 t) 0 0 rfl, ld_row (iblk m c 7 t) 0 0 rfl, ld_st (k0_pay2 (F := Ideal)) 0 0 rfl]
    exact stateAt_piece (iblk m c 0 t) (iblk m c 1 t) (iblk m c 2 t) (iblk m c 3 t) (iblk m c 4 t) (iblk m c 6 t) (iblk m c 7 t) (k0_pay2 (F := Ideal)) _ x 0 (by have h : (x 0 : Fin 1).val < 1 := (x 0 : Fin 1).isLt; show 0 + 1 * (x 0 : Fin 1).val = 0; omega) (by show 0 + 1 * (x 1 : Fin 128).val = (x 1 : Fin 128).val; omega) (by show 0 + 1 * (x 2 : Fin 128).val = (x 2 : Fin 128).val; omega)
  case cover =>
    have hy : (y 0 : Fin 8).val < 8 := (y 0 : Fin 8).isLt
    rcases (by omega : (y 0 : Fin 8).val = 7 ∨ (y 0 : Fin 8).val = 6 ∨ (y 0 : Fin 8).val = 5 ∨ (y 0 : Fin 8).val = 4 ∨ (y 0 : Fin 8).val = 3 ∨ (y 0 : Fin 8).val = 2 ∨ (y 0 : Fin 8).val = 1 ∨ (y 0 : Fin 8).val = 0) with e | e | e | e | e | e | e | e
    · exact ⟨_, List.mem_cons_self, mem_block y 7 inb_S8x128x128_S1x128x128_7_0_0 e⟩
    · exact ⟨_, List.mem_cons_of_mem _ (List.mem_cons_self), mem_block y 6 inb_S8x128x128_S1x128x128_6_0_0 e⟩
    · exact ⟨_, List.mem_cons_of_mem _ (List.mem_cons_of_mem _ (List.mem_cons_self)), mem_block y 5 inb_S8x128x128_S1x128x128_5_0_0 e⟩
    · exact ⟨_, List.mem_cons_of_mem _ (List.mem_cons_of_mem _ (List.mem_cons_of_mem _ (List.mem_cons_self))), mem_block y 4 inb_S8x128x128_S1x128x128_4_0_0 e⟩
    · exact ⟨_, List.mem_cons_of_mem _ (List.mem_cons_of_mem _ (List.mem_cons_of_mem _ (List.mem_cons_of_mem _ (List.mem_cons_self)))), mem_block y 3 inb_S8x128x128_S1x128x128_3_0_0 e⟩
    · exact ⟨_, List.mem_cons_of_mem _ (List.mem_cons_of_mem _ (List.mem_cons_of_mem _ (List.mem_cons_of_mem _ (List.mem_cons_of_mem _ (List.mem_cons_self))))), mem_block y 2 inb_S8x128x128_S1x128x128_2_0_0 e⟩
    · exact ⟨_, List.mem_cons_of_mem _ (List.mem_cons_of_mem _ (List.mem_cons_of_mem _ (List.mem_cons_of_mem _ (List.mem_cons_of_mem _ (List.mem_cons_of_mem _ (List.mem_cons_self)))))), mem_block y 1 inb_S8x128x128_S1x128x128_1_0_0 e⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_block y 0 inb_S8x128x128_S1x128x128_0_0_0 e⟩

end Cert.Proof.Pieces

end
-- ==== Proof.Seq.lean ====
/- The recurrence as a sequence of real matrices, one for each head of each batch: the tables it reads from the arrays, the
   state after any number of steps, and that the chunked form's states are that sequence's. -/
module

public import proofs.«01_k».proof.Defs
public import proofs.«01_k».proof.Proof.Pair

@[expose] public section

set_option maxRecDepth 16384

noncomputable section

namespace Cert.Proof.Seq

open Idealize.ShloMosaic
open Cert.Proof.Pair Cert.Proof.Tiles

/-- An array whose every entry is a real number. -/
def Fine {s : Shape} (x : s.Idx → EReal) : Prop := ∀ i, x i = (((x i).toReal : ℝ) : EReal)

abbrev Arr := (⟨2, ![16384, 1024]⟩ : Shape).Idx → EReal
abbrev Par := (⟨1, ![1024]⟩ : Shape).Idx → EReal

/-- The row of time `t` of batch `b`. -/
def rowAt (b : Fin 4) (t : ℕ) : Fin 16384 := ⟨(4096 * b.val + t) % 16384, Nat.mod_lt _ (by norm_num)⟩
/-- The column of coordinate `n` of head `h`. -/
def colAt (h : Fin 16) (n : Fin 64) : Fin 1024 := ⟨64 * h.val + n.val, by omega⟩

/-- An array's entry at a batch, a head, a time and a coordinate. -/
def rd (x : Arr) (b : Fin 4) (h : Fin 16) (t : ℕ) (n : Fin 64) : ℝ := (x (ix2 (rowAt b t) (colAt h n))).toReal
/-- A parameter's entry at a head and a coordinate. -/
def pd (x : Par) (h : Fin 16) (n : Fin 64) : ℝ := (x (ix1 (colAt h n))).toReal

/-- The state after `n` steps from zero. -/
def gst (LD K V Q A : ℕ → Fin 64 → ℝ) : ℕ → Chunk.M64
  | 0 => fun _ _ => 0
  | n + 1 => Chunk.next (gst LD K V Q A n) (fun j => Real.exp (LD n j)) (K n) (V n) (Q n) (A n)

theorem st_gst (LD K V Q A : ℕ → Fin 64 → ℝ) (c : ℕ) : ∀ n, n ≤ 64 →
    Chunk.st (gst LD K V Q A (64 * c)) (fun r => LD (64 * c + r.val)) (fun r => K (64 * c + r.val)) (fun r => V (64 * c + r.val))
      (fun r => Q (64 * c + r.val)) (fun r => A (64 * c + r.val)) n = gst LD K V Q A (64 * c + n)
  | 0, _ => rfl
  | n + 1, h => by
    have hn : n < 64 := h
    refine (Chunk.st_succ _ _ _ _ _ _ ⟨n, hn⟩).trans ?_
    rw [st_gst LD K V Q A c n (Nat.le_of_succ_le h)]
    rfl

section tables

variable (R LD K V A : Arr) (s ka rk : Par) (b : Fin 4) (h : Fin 16)

/-- The normalised removal direction at a time. -/
def tq (t : ℕ) : Fin 64 → ℝ := qrow fun n => rd K b h t n * pd s h n
/-- The replacement key at a time. -/
def tk (t : ℕ) (n : Fin 64) : ℝ := rd K b h t n * (1 + (rd A b h t n - 1) * pd ka h n)

/-- The state of head `h` of batch `b` after `n` steps. -/
def state (n : ℕ) : Chunk.M64 := gst (rd LD b h) (tk K A ka b h) (rd V b h) (tq K s b h) (rd A b h) n

theorem state_zero : state LD K V A s ka b h 0 = fun _ _ => 0 := rfl

theorem state_succ (n : ℕ) : state LD K V A s ka b h (n + 1) = Chunk.next (state LD K V A s ka b h n)
    (fun j => Real.exp (rd LD b h n j)) (tk K A ka b h n) (rd V b h n) (tq K s b h n) (rd A b h n) := rfl

/-- What the recurrence reads out at a time: the state after it, applied to the receptance. -/
def outRow (t : ℕ) (v : Fin 64) : ℝ := ∑ l, state LD K V A s ka b h (t + 1) v l * rd R b h t l

/-- The bonus weight at a time. -/
def bonus (t : ℕ) : ℝ := ∑ n, rd R b h t n * tk K A ka b h t n * pd rk h n

/-- One entry of the layer's result. -/
def result (G : Arr) (lw lb : Par) (t : ℕ) (n : Fin 64) : EReal :=
  entry (outRow R LD K V A s ka b h t) (bonus R K A ka rk b h t) (rd V b h t n) n (lw (ix1 (colAt h n))) (lb (ix1 (colAt h n)))
    (G (ix2 (rowAt b t) (colAt h n)))

end tables

/-! One chunk of one pair of heads. -/

section chunk

variable (R LD K V A : Arr) (s ka rk : Par) (b : Fin 4) (p : Fin 8) (c : ℕ)

/-- Head `h` of pair `p`. -/
def hp (p : Fin 8) (h : Fin 2) : Fin 16 := ⟨2 * p.val + h.val, by omega⟩

/-- A pair's table for one chunk. -/
def win (x : Arr) : Two := fun h r n => rd x b (hp p h) (64 * c + r.val) n
/-- A pair's parameters. -/
def par (x : Par) (h : Fin 2) (n : Fin 64) : ℝ := pd x (hp p h) n
/-- A pair's states before a chunk. -/
def st0 : Two := fun h i j => state LD K V A s ka b (hp p h) (64 * c) i j

theorem chunk_end : sT (win b p c K) (win b p c V) (win b p c LD) (win b p c A) (st0 LD K V A s ka b p c) (par p s) (par p ka)
    = st0 LD K V A s ka b p (c + 1) := by
  funext h
  refine (sT_eq (win b p c K) (win b p c V) (win b p c LD) (win b p c A) (st0 LD K V A s ka b p c) (par p s) (par p ka) h).trans ?_
  rw [← Chunk.end_eq]
  exact st_gst (rd LD b (hp p h)) (tk K A ka b (hp p h)) (rd V b (hp p h)) (tq K s b (hp p h)) (rd A b (hp p h)) c 64 le_rfl

theorem chunk_out (h : Fin 2) (r v : Fin 64) :
    oT (win b p c R) (win b p c K) (win b p c V) (win b p c LD) (win b p c A) (st0 LD K V A s ka b p c) (par p s) (par p ka) h r v
      = outRow R LD K V A s ka b (hp p h) (64 * c + r.val) v := by
  refine (congrFun (congrFun (oT_eq (win b p c R) (win b p c K) (win b p c V) (win b p c LD) (win b p c A)
    (st0 LD K V A s ka b p c) (par p s) (par p ka) h) r) v).trans ?_
  rw [← Chunk.out_eq]
  refine Finset.sum_congr rfl fun l _ => congrArg (· * _) ?_
  exact congrFun (congrFun (st_gst (rd LD b (hp p h)) (tk K A ka b (hp p h)) (rd V b (hp p h)) (tq K s b (hp p h)) (rd A b (hp p h)) c
    (r.val + 1) r.isLt) v) l

end chunk

end Cert.Proof.Seq

end
-- ==== Proof.KerVal.lean ====
/- What the kernel computes, entry by entry: the tiles each grid point reads, the state it carries from point to point, and the
   rows it writes, against the recurrence run from zero. -/
module

public import proofs.«01_k».proof.Defs
public import proofs.«01_k».proof.Proof.Gen.KernelIdeal.Value
public import proofs.«01_k».proof.Proof.Pieces
public import proofs.«01_k».proof.Proof.Seq
public import Idealize.ShloMosaic.Lib.IdealHost

@[expose] public section

set_option maxRecDepth 16384

noncomputable section

namespace Cert.Proof.KerVal

open Idealize.ShloMosaic Idealize.SL.Sem Cert.KernelIdeal
open Cert.KernelIdeal.Gen Idealize.ShloMosaic.TcCoe
open Idealize.ShloMosaic.Pipeline (Dat Cfg Window)
open Cert.Proof.Pair Cert.Proof.Tiles Cert.Proof.Seq Cert.Proof.Pieces

variable (m : (ℓ : Loc nD τ sig) → Buf (Elt Ideal) ℓ)

/-- Where each window's block sits at a grid point. -/
theorem idx (t : Fin cfg0.N) : win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0] := by
  revert t; decide +kernel

/-- A row of a block, as a row of the array. -/
def rowOf (t : Fin cfg0.N) (r : Fin 64) : Fin 16384 :=
  ⟨t.val * 64 + r.val, by have := t.isLt; have h : cfg0.N = 256 := N_0; omega⟩

/-- The batch of a grid point. -/
def bOf (n : ℕ) : Fin 4 := ⟨n / 64 % 4, Nat.mod_lt _ (by norm_num)⟩

theorem rowOf_eq (t : Fin cfg0.N) (r : Fin 64) : rowOf t r = rowAt (bOf t.val) (64 * (t.val % 64) + r.val) := by
  have := t.isLt
  have h : cfg0.N = 256 := N_0
  exact Fin.ext (by simp only [rowOf, rowAt, bOf]; omega)

theorem col_eq (p : Fin 8) (q : Fin 128) (pf : 128 * p.val + q.val < 1024) : (⟨128 * p.val + q.val, pf⟩ : Fin 1024) = colAt (hp p (hd q)) (tm q) :=
  Fin.ext (by simp only [colAt, hp, hd, tm]; omega)

section blocks

variable (c : Dev nD) (t : Fin cfg0.N) (r : Fin 64) (z : Fin 1) (k : Fin 1024)

theorem blk0 : iblk m c 0 t (ix2 r k) = m ((c : Thread nD τ).loc main_arg0) (ix2 (rowOf t r) k) := by blk_ext [iblk, idx t, rowOf]
theorem blk1 : iblk m c 1 t (ix2 r k) = m ((c : Thread nD τ).loc main_arg1) (ix2 (rowOf t r) k) := by blk_ext [iblk, idx t, rowOf]
theorem blk2 : iblk m c 2 t (ix2 r k) = m ((c : Thread nD τ).loc main_arg2) (ix2 (rowOf t r) k) := by blk_ext [iblk, idx t, rowOf]
theorem blk3 : iblk m c 3 t (ix2 r k) = m ((c : Thread nD τ).loc main_arg3) (ix2 (rowOf t r) k) := by blk_ext [iblk, idx t, rowOf]
theorem blk4 : iblk m c 4 t (ix2 r k) = m ((c : Thread nD τ).loc main_arg4) (ix2 (rowOf t r) k) := by blk_ext [iblk, idx t, rowOf]
theorem blk5 : iblk m c 5 t (ix2 r k) = m ((c : Thread nD τ).loc main_arg5) (ix2 (rowOf t r) k) := by blk_ext [iblk, idx t, rowOf]
theorem blk6 : iblk m c 6 t (ix2 z k) = m ((c : Thread nD τ).loc main_arg6) (ix1 k) := by
  unfold iblk; entry_read; blk_simp; pointwise; blk_ext [idx t]
theorem blk7 : iblk m c 7 t (ix2 z k) = m ((c : Thread nD τ).loc main_arg7) (ix1 k) := by
  unfold iblk; entry_read; blk_simp; pointwise; blk_ext [idx t]
theorem blk8 : iblk m c 8 t (ix2 z k) = m ((c : Thread nD τ).loc main_arg8) (ix1 k) := by
  unfold iblk; entry_read; blk_simp; pointwise; blk_ext [idx t]
theorem blk9 : iblk m c 9 t (ix2 z k) = m ((c : Thread nD τ).loc main_arg9) (ix1 k) := by
  unfold iblk; entry_read; blk_simp; pointwise; blk_ext [idx t]
theorem blk10 : iblk m c 10 t (ix2 z k) = m ((c : Thread nD τ).loc main_arg10) (ix1 k) := by
  unfold iblk; entry_read; blk_simp; pointwise; blk_ext [idx t]

end blocks

/-- A pair's columns of a tile, from the tile's entries. -/
theorem cols (x : Arr) (hx : Fine x) (t : Fin cfg0.N) (p : Fin 8) (w : FVec Ideal S64x1024 .f32)
    (hw : ∀ r k, w (ix2 r k) = x (ix2 (rowOf t r) k)) : colS w p = upR (φ := .f32) (win (bOf t.val) p (t.val % 64) x) := by
  funext i
  obtain ⟨r, q, rfl⟩ : ∃ (r : Fin 64) (q : Fin 128), i = ix2 r q := ⟨i 0, i 1, eq_ix2 i⟩
  refine (hw r _).trans ?_
  refine (congrArg₂ (fun (j : Fin 16384) (k : Fin 1024) => x (ix2 j k)) (rowOf_eq t r) (col_eq p q _)).trans ?_
  exact hx _

/-- A pair's columns of a parameter row, from the row's entries. -/
theorem rows (x : Par) (hx : Fine x) (p : Fin 8) (w : FVec Ideal S1x1024 .f32)
    (hw : ∀ z k, w (ix2 z k) = x (ix1 k)) : rowS w p = upP (φ := .f32) (par p x) := by
  funext i
  obtain ⟨z, q, rfl⟩ : ∃ (z : Fin 1) (q : Fin 128), i = ix2 z q := ⟨i 0, i 1, eq_ix2 i⟩
  refine (hw z _).trans ?_
  refine (congrArg (fun k : Fin 1024 => x (ix1 k)) (col_eq p q _)).trans ?_
  exact hx _

/-- The state of a point, pair by pair. -/
theorem stateAt_pair (r k v ld a : FVec Ideal S64x1024 .f32) (kks ka : FVec Ideal S1x1024 .f32) (s : FVec Ideal S8x128x128 .f32) (p : Fin 8) :
    stS (stateAt r k v ld a kks ka s) p
      = pairState (colS r p) (colS k p) (colS v p) (colS ld p) (colS a p) (rowS kks p) (rowS ka p) (stS s p) := by
  funext i
  have h : (ix3 (0 : Fin 1) (i 1 : Fin 128) (i 2 : Fin 128) : S1x128x128.Idx) = i := by
    funext a
    match a with
    | ⟨0, _⟩ => exact Subsingleton.elim (α := Fin 1) _ _
    | ⟨1, _⟩ => rfl
    | ⟨2, _⟩ => rfl
  exact congrArg (pairState (colS r p) (colS k p) (colS v p) (colS ld p) (colS a p) (rowS kks p) (rowS ka p) (stS s p)) h

/-- The zero state, pair by pair. -/
theorem zero_pair (LD K V A : Arr) (s ka : Par) (b : Fin 4) (p : Fin 8) :
    stS (k0_pay2 (F := Ideal)) p = upH (φ := .f32) (st0 LD K V A s ka b p 0) := by
  funext i
  have hz : blk (st0 LD K V A s ka b p 0) (i 1) (i 2) = 0 := by
    unfold blk
    split
    · rfl
    · rfl
  have e : stS (k0_pay2 (F := Ideal)) p i = Ideal.ofBits .f32 0x00000000#32 := by
    unfold stS k0_pay2
    rw [shapeCast_self]
    rfl
  rw [e, Ideal.ofBits_zero_f32]
  exact ((congrArg (fun q : ℝ => ((q : ℝ) : EReal)) hz).trans EReal.coe_zero).symm

/-- The recurrence's arguments. -/
structure Args (c : Dev nD) : Prop where
  h0 : Fine (m ((c : Thread nD τ).loc main_arg0) : Arr)
  h1 : Fine (m ((c : Thread nD τ).loc main_arg1) : Arr)
  h2 : Fine (m ((c : Thread nD τ).loc main_arg2) : Arr)
  h3 : Fine (m ((c : Thread nD τ).loc main_arg3) : Arr)
  h4 : Fine (m ((c : Thread nD τ).loc main_arg4) : Arr)
  h6 : Fine (m ((c : Thread nD τ).loc main_arg6) : Par)
  h7 : Fine (m ((c : Thread nD τ).loc main_arg7) : Par)
  h8 : Fine (m ((c : Thread nD τ).loc main_arg8) : Par)

/-- The states a pair starts a chunk from, of the kernel's arguments. -/
abbrev stOf (c : Dev nD) (b : Fin 4) (p : Fin 8) (n : ℕ) : Two :=
  st0 (m ((c : Thread nD τ).loc main_arg3)) (m ((c : Thread nD τ).loc main_arg1)) (m ((c : Thread nD τ).loc main_arg2))
    (m ((c : Thread nD τ).loc main_arg4)) (m ((c : Thread nD τ).loc main_arg6)) (m ((c : Thread nD τ).loc main_arg7)) b p n

theorem zero_of (c : Dev nD) (b : Fin 4) (p : Fin 8) : stS (k0_pay2 (F := Ideal)) p = upH (φ := .f32) (stOf m c b p 0) :=
  zero_pair (m ((c : Thread nD τ).loc main_arg3)) (m ((c : Thread nD τ).loc main_arg1)) (m ((c : Thread nD τ).loc main_arg2))
    (m ((c : Thread nD τ).loc main_arg4)) (m ((c : Thread nD τ).loc main_arg6)) (m ((c : Thread nD τ).loc main_arg7)) b p

/-- One point's state, from the state it starts from. -/
theorem point_state (c : Dev nD) (H : Args m c) (t : Fin cfg0.N) (p : Fin 8) (s : FVec Ideal S8x128x128 .f32)
    (hs : stS s p = upH (φ := .f32) (stOf m c (bOf t.val) p (t.val % 64))) :
    stS (stateAt (iblk m c 0 t) (iblk m c 1 t) (iblk m c 2 t) (iblk m c 3 t) (iblk m c 4 t) (iblk m c 6 t) (iblk m c 7 t) s) p
      = upH (φ := .f32) (stOf m c (bOf t.val) p (t.val % 64 + 1)) := by
  refine (stateAt_pair _ _ _ _ _ _ _ s p).trans ?_
  rw [hs, cols _ H.h0 t p (iblk m c 0 t) (blk0 m c t), cols _ H.h1 t p (iblk m c 1 t) (blk1 m c t),
    cols _ H.h2 t p (iblk m c 2 t) (blk2 m c t), cols _ H.h3 t p (iblk m c 3 t) (blk3 m c t),
    cols _ H.h4 t p (iblk m c 4 t) (blk4 m c t), rows _ H.h6 p (iblk m c 6 t) (blk6 m c t),
    rows _ H.h7 p (iblk m c 7 t) (blk7 m c t)]
  refine (pairState_up _ _ _ _ _ _ _ _).trans ?_
  exact congrArg (upH (φ := .f32)) (chunk_end _ _ _ _ _ _ (bOf t.val) p (t.val % 64))

/-- The state after each point. -/
theorem carried (c : Dev nD) (H : Args m c) (p : Fin 8) : ∀ n (hn : n < cfg0.N),
    stS (outsAt0 m c n hn).2 p = upH (φ := .f32) (stOf m c (bOf n) p (n % 64 + 1)) := by
  intro n
  induction n with
  | zero =>
    intro hn
    refine (congrArg (fun s => stS s p) (state_A m c ⟨0, hn⟩ (Nat.zero_mod _))).trans ?_
    exact point_state m c H ⟨0, hn⟩ p _ (zero_of m c _ p)
  | succ n ih =>
    intro hn
    by_cases h0 : (n + 1) % 64 = 0
    · refine (congrArg (fun s => stS s p) (state_A m c ⟨n + 1, hn⟩ h0)).trans ?_
      refine point_state m c H ⟨n + 1, hn⟩ p _ ?_
      refine (zero_of m c (bOf (n + 1)) p).trans ?_
      exact congrArg (fun k => upH (φ := .f32) (stOf m c (bOf (n + 1)) p k)) h0.symm
    · refine (congrArg (fun s => stS s p) (state_B m c ⟨n + 1, hn⟩ h0)).trans ?_
      refine point_state m c H ⟨n + 1, hn⟩ p _ ?_
      refine (ih (Nat.lt_of_succ_lt hn)).trans ?_
      have e1 : bOf n = bOf (n + 1) := Fin.ext (by simp only [bOf]; omega)
      have e2 : n % 64 + 1 = (n + 1) % 64 := by omega
      exact congrArg₂ (fun b k => upH (φ := .f32) (stOf m c b p k)) e1 e2

/-- What the layer's result is, of the kernel's arguments. -/
abbrev resOf (c : Dev nD) (b : Fin 4) (h : Fin 16) (t : ℕ) (n : Fin 64) : EReal :=
  result (m ((c : Thread nD τ).loc main_arg0)) (m ((c : Thread nD τ).loc main_arg3)) (m ((c : Thread nD τ).loc main_arg1))
    (m ((c : Thread nD τ).loc main_arg2)) (m ((c : Thread nD τ).loc main_arg4)) (m ((c : Thread nD τ).loc main_arg6))
    (m ((c : Thread nD τ).loc main_arg7)) (m ((c : Thread nD τ).loc main_arg8)) b h (m ((c : Thread nD τ).loc main_arg5))
    (m ((c : Thread nD τ).loc main_arg9)) (m ((c : Thread nD τ).loc main_arg10)) t n

/-- One point's rows, from the state it starts from. -/
theorem point_out (c : Dev nD) (H : Args m c) (t : Fin cfg0.N) (p : Fin 8) (q : Fin 128) (r : Fin 64) (s : FVec Ideal S8x128x128 .f32)
    (hs : stS s p = upH (φ := .f32) (stOf m c (bOf t.val) p (t.val % 64))) (k : Fin 1024) (hk : k.val = 128 * p.val + q.val) :
    outAt (iblk m c 0 t) (iblk m c 1 t) (iblk m c 2 t) (iblk m c 3 t) (iblk m c 4 t) (iblk m c 5 t) (iblk m c 6 t) (iblk m c 7 t)
        (iblk m c 8 t) (iblk m c 9 t) (iblk m c 10 t) s (ix2 r k)
      = resOf m c (bOf t.val) (hp p (hd q)) (64 * (t.val % 64) + r.val) (tm q) := by
  have e1 : (⟨k.val / 128, by omega⟩ : Fin 8) = p := Fin.ext (by show k.val / 128 = p.val; omega)
  have e2 : (⟨k.val % 128, by omega⟩ : Fin 128) = q := Fin.ext (by show k.val % 128 = q.val; omega)
  refine (congrArg₂ (fun (p' : Fin 8) (q' : Fin 128) => (pairOut (colS (iblk m c 0 t) p') (colS (iblk m c 1 t) p')
    (colS (iblk m c 2 t) p') (colS (iblk m c 3 t) p') (colS (iblk m c 4 t) p') (colS (iblk m c 5 t) p') (rowS (iblk m c 6 t) p')
    (rowS (iblk m c 7 t) p') (rowS (iblk m c 8 t) p') (rowS (iblk m c 9 t) p') (rowS (iblk m c 10 t) p') (stS s p') (ix2 r q') : EReal))
    e1 e2).trans ?_
  beta_reduce
  rw [hs, cols _ H.h0 t p (iblk m c 0 t) (blk0 m c t), cols _ H.h1 t p (iblk m c 1 t) (blk1 m c t),
    cols _ H.h2 t p (iblk m c 2 t) (blk2 m c t), cols _ H.h3 t p (iblk m c 3 t) (blk3 m c t),
    cols _ H.h4 t p (iblk m c 4 t) (blk4 m c t), rows _ H.h6 p (iblk m c 6 t) (blk6 m c t),
    rows _ H.h7 p (iblk m c 7 t) (blk7 m c t), rows _ H.h8 p (iblk m c 8 t) (blk8 m c t)]
  refine (pairOut_up _ _ _ _ _ _ _ _ _ _ _ _ _).trans ?_
  unfold resOf result
  have a1 := funext fun v => chunk_out (m ((c : Thread nD τ).loc main_arg0)) (m ((c : Thread nD τ).loc main_arg3))
    (m ((c : Thread nD τ).loc main_arg1)) (m ((c : Thread nD τ).loc main_arg2)) (m ((c : Thread nD τ).loc main_arg4))
    (m ((c : Thread nD τ).loc main_arg6)) (m ((c : Thread nD τ).loc main_arg7)) (bOf t.val) p (t.val % 64) (hd q) r v
  have pf : 128 * p.val + q.val < 1024 := by omega
  have a2 : rowS (iblk m c 9 t) p (ix2 (0 : Fin 1) q) = m ((c : Thread nD τ).loc main_arg9) (ix1 (colAt (hp p (hd q)) (tm q))) :=
    (blk9 m c t 0 _).trans (congrArg (fun k : Fin 1024 => m ((c : Thread nD τ).loc main_arg9) (ix1 k)) (col_eq p q pf))
  have a3 : rowS (iblk m c 10 t) p (ix2 (0 : Fin 1) q) = m ((c : Thread nD τ).loc main_arg10) (ix1 (colAt (hp p (hd q)) (tm q))) :=
    (blk10 m c t 0 _).trans (congrArg (fun k : Fin 1024 => m ((c : Thread nD τ).loc main_arg10) (ix1 k)) (col_eq p q pf))
  have a4 : colS (iblk m c 5 t) p (ix2 r q)
      = m ((c : Thread nD τ).loc main_arg5) (ix2 (rowAt (bOf t.val) (64 * (t.val % 64) + r.val)) (colAt (hp p (hd q)) (tm q))) :=
    (blk5 m c t r _).trans (congrArg₂ (fun (j : Fin 16384) (k : Fin 1024) => m ((c : Thread nD τ).loc main_arg5) (ix2 j k))
      (rowOf_eq t r) (col_eq p q pf))
  have a5 : ∀ (o o' : Fin 64 → ℝ) (b v : ℝ) (lw lw' lb lb' g g' : EReal), o = o' → lw = lw' → lb = lb' → g = g' →
      entry o b v (tm q) lw lb g = entry o' b v (tm q) lw' lb' g' := by
    rintro o o' b v lw lw' lb lb' g g' rfl rfl rfl rfl
    rfl
  exact a5 _ _ _ _ _ _ _ _ _ _ a1 a2 a3 a4

/-- The rows each point writes. -/
theorem written (c : Dev nD) (H : Args m c) (p : Fin 8) (q : Fin 128) (r : Fin 64) (n : ℕ) (hn : n < cfg0.N) (k : Fin 1024)
    (hk : k.val = 128 * p.val + q.val) : ((outsAt0 m c n hn).1 (ix2 r k) : EReal)
      = resOf m c (bOf n) (hp p (hd q)) (64 * (n % 64) + r.val) (tm q) := by
  by_cases h0 : n % 64 = 0
  · refine (congrFun (out_A m c ⟨n, hn⟩ h0) (ix2 r k)).trans ?_
    refine point_out m c H ⟨n, hn⟩ p q r _ ?_ k hk
    refine (zero_of m c (bOf n) p).trans ?_
    exact congrArg (fun k => upH (φ := .f32) (stOf m c (bOf n) p k)) h0.symm
  · refine (congrFun (out_B m c ⟨n, hn⟩ h0) (ix2 r k)).trans ?_
    refine point_out m c H ⟨n, hn⟩ p q r _ ?_ k hk
    refine (carried m c H p (n - 1) (Nat.lt_of_le_of_lt (Nat.sub_le _ _) hn)).trans ?_
    have e1 : bOf (n - 1) = bOf n := Fin.ext (by simp only [bOf]; omega)
    have e2 : (n - 1) % 64 + 1 = n % 64 := by omega
    exact congrArg₂ (fun b k => upH (φ := .f32) (stOf m c b p k)) e1 e2

/-- The kernel's result at a batch, a time, a head and a coordinate. -/
theorem result_at (c : Dev nD) (H : Args m c) (t : Fin 4096) (b : Fin 4) (h : Fin 16) (n : Fin 64) :
    (Value.G11 m c (ix2 (rowAt b t) (colAt h n)) : EReal) = resOf m c b h t n := by
  have hN : cfg0.N = 256 := N_0
  have hr : (rowAt b t).val = 4096 * b.val + t.val := by simp only [rowAt]; omega
  have hc : (colAt h n).val = 64 * h.val + n.val := rfl
  have hpt : Value.pt11Of (ix2 (rowAt b t) (colAt h n)) = 64 * b.val + t.val / 64 := by
    show 1 * ((rowAt b t).val / 64 - 0) + 1 * ((colAt h n).val / 1024 - 0) = _
    omega
  have hlt : Value.pt11Of (ix2 (rowAt b t) (colAt h n)) < cfg0.N := by omega
  refine (dif_pos hlt).trans ?_
  refine (congrArg (fun z : Vec Ideal S64x1024 .bf16 × Vec Ideal S8x128x128 .f32 => z.1 (Value.loc11Of (ix2 (rowAt b t) (colAt h n))))
    (Value.outsAt0_sweep m c _ hlt).symm).trans ?_
  have hl : Value.loc11Of (ix2 (rowAt b t) (colAt h n)) = (ix2 (⟨t.val % 64, by omega⟩ : Fin 64) (colAt h n) : S64x1024.Idx) := by
    funext a
    match a with
    | ⟨0, _⟩ => exact Fin.ext (by show (rowAt b t).val % 64 = t.val % 64; omega)
    | ⟨1, _⟩ => exact Fin.ext (by show (colAt h n).val % 1024 = (colAt h n).val; omega)
  refine (congrArg (outsAt0 m c _ hlt).1 hl).trans ?_
  refine (written m c H (⟨h.val / 2, by omega⟩ : Fin 8) (⟨64 * (h.val % 2) + n.val, by omega⟩ : Fin 128) _ _ hlt (colAt h n)
    (by show (colAt h n).val = 128 * (h.val / 2) + (64 * (h.val % 2) + n.val); omega)).trans ?_
  have e1 : bOf (Value.pt11Of (ix2 (rowAt b t) (colAt h n))) = b := Fin.ext (by rw [hpt]; simp only [bOf]; omega)
  have e2 : hp (⟨h.val / 2, by omega⟩ : Fin 8) (hd (⟨64 * (h.val % 2) + n.val, by omega⟩ : Fin 128)) = h :=
    Fin.ext (by simp only [hp, hd]; omega)
  have e3 : 64 * (Value.pt11Of (ix2 (rowAt b t) (colAt h n)) % 64) + t.val % 64 = t.val := by rw [hpt]; omega
  have e4 : tm (⟨64 * (h.val % 2) + n.val, by omega⟩ : Fin 128) = n := Fin.ext (by simp only [tm]; omega)
  have e5 : ∀ (b' : Fin 4) (h' : Fin 16) (t' : ℕ) (n' : Fin 64), b' = b → h' = h → t' = t.val → n' = n →
      resOf m c b' h' t' n' = resOf m c b h t n := by
    rintro _ _ _ _ rfl rfl rfl rfl
    rfl
  exact e5 _ _ _ _ e1 e2 e3 e4

end Cert.Proof.KerVal

end
-- ==== Proof.RefRun.lean ====
/- The reference's run, trip by trip: after any number of trips the arrays its loop carries are the state of the plain
   recurrence of operations (`Step.step`), and its result is read off the last state. -/
module

public import proofs.«01_k».proof.Defs
public import proofs.«01_k».proof.Proof.Gen.ReferenceIdeal.Run
public import proofs.«01_k».proof.Proof.Gen.ReferenceIdeal.Step
public import Idealize.ShloMosaic.Lib.StableHlo.RunRead

@[expose] public section

set_option maxRecDepth 65536

noncomputable section

namespace Cert.Proof.RefRun

open Idealize.ShloMosaic Idealize.SL.Sem Idealize.ShloMosaic.TcCoe
open Cert.ReferenceIdeal Cert.ReferenceIdeal.Gen Cert.ReferenceIdeal.Value Idealize.ShloMosaic.StableHlo Idealize.ShloMosaic.Tactic

/-- The carried buffers hold the state `s` before trip `j`. -/
structure At (V0 : Valuation τ sig (Elt Ideal)) (s : Step.State Ideal) (j : ℕ) : Prop where
  f0 : V0 (Proc.devRef .tc main_v37_0) = s.main_v37_0
  f1 : V0 (Proc.devRef .tc main_v37_1) = s.main_v37_1
  f2 : V0 (Proc.devRef .tc main_v37_2) = s.main_v37_2
  f3 : V0 (Proc.devRef .tc main_v37_3) = s.main_v37_3
  f4 : V0 (Proc.devRef .tc main_v37_4) = s.main_v37_4
  f5 : V0 (Proc.devRef .tc main_v37_5) = s.main_v37_5
  f7 : V0 (Proc.devRef .tc main_v37_7) = s.main_v37_7
  f8 : V0 (Proc.devRef .tc main_v37_8) = s.main_v37_8
  n6 : V0 (Proc.devRef .tc main_v37_6) = (constantI S_ 32 (BitVec.ofNat 32 j) : (⟨S_, .i32⟩ : BufTy).Contents (Elt Ideal))

theorem res_eq {V0 : Valuation τ sig (Elt Ideal)} {s : Step.State Ideal} {j : ℕ} (h : At V0 s j) :
    res_main_while0b_v114 V0 = Step.b47 j s := by
  unfold res_main_while0b_v114 res_main_while0b_v95
  rw [h.f1, h.f2, h.f3, h.f4, h.f5, h.f7, h.n6]
  rfl

theorem at_succ {V0 : Valuation τ sig (Elt Ideal)} {s : Step.State Ideal} {j : ℕ} (h : At V0 s j) : At (STEP V0) (Step.step j s) (j + 1) where
  f0 := (STEP_main_v37_0 V0).trans h.f0
  f1 := (STEP_main_v37_1 V0).trans h.f1
  f2 := (STEP_main_v37_2 V0).trans h.f2
  f3 := (STEP_main_v37_3 V0).trans h.f3
  f4 := (STEP_main_v37_4 V0).trans h.f4
  f5 := (STEP_main_v37_5 V0).trans h.f5
  f7 := (STEP_main_v37_7 V0).trans (res_eq h)
  f8 := by
    rw [STEP_main_v37_8]
    unfold step_main_v37_8
    rw [res_eq h, h.f8, h.f0, h.n6]
    rfl
  n6 := by
    rw [STEP_main_v37_6]
    unfold step_main_v37_6
    rw [h.n6]
    funext i
    show BitVec.ofNat 32 j + 1#32 = BitVec.ofNat 32 (j + 1)
    simp only [BitVec.ofNat_add]

variable (m : (ℓ : Loc nD τ sig) → Buf (Elt Ideal) ℓ)

/-- The state before the first trip. -/
def first (c : Dev nD) : Step.State Ideal :=
  Step.init (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg7))

/-- The state before trip `j`. -/
def after (s : Step.State Ideal) : ℕ → Step.State Ideal
  | 0 => s
  | j + 1 => Step.step j (after s j)

set_option maxHeartbeats 1000000 in
theorem at_zero (c : Dev nD) : At (entryContents preI m c) (first m c) 0 := by
  constructor <;> (simp only [entryContents, afterL_cons, afterL_nil]; after_reads_simp) <;> rfl

theorem at_iter (c : Dev nD) : ∀ j, At (STEP^[j] (entryContents preI m c)) (after (first m c) j) j
  | 0 => at_zero m c
  | j + 1 => by rw [Function.iterate_succ_apply']; exact at_succ (at_iter c j)

/-- The reference's result. -/
theorem out_eq (c : Dev nD) : out_main_v90 (STEP^[4096] (entryContents preI m c))
    = Step.R_main_v90 (after (first m c) 4096) (m ((c : Thread nD τ).loc main_arg0)) (m ((c : Thread nD τ).loc main_arg1))
        (m ((c : Thread nD τ).loc main_arg2)) (m ((c : Thread nD τ).loc main_arg4)) (m ((c : Thread nD τ).loc main_arg5))
        (m ((c : Thread nD τ).loc main_arg7)) (m ((c : Thread nD τ).loc main_arg8)) (m ((c : Thread nD τ).loc main_arg9))
        (m ((c : Thread nD τ).loc main_arg10)) := by
  unfold out_main_v90 Step.R_main_v90
  rw [(at_iter m c 4096).f8, iter_main_arg0, iter_main_arg1, iter_main_arg2, iter_main_arg4, iter_main_arg5, iter_main_arg7,
    iter_main_arg8, iter_main_arg9, iter_main_arg10]
  rfl

end Cert.Proof.RefRun

end
-- ==== Proof.RefVal.lean ====
/- What the reference computes, entry by entry: the arrays its loop reads, one trip of the loop, the states and the rows after
   any number of trips, and the result made of them. -/
module

public import proofs.«01_k».proof.Defs
public import proofs.«01_k».proof.Proof.RefRun
public import proofs.«01_k».proof.Proof.Seq
public import Idealize.ShloMosaic.Lib.IdealHost
public import Idealize.ShloMosaic.Lib.KernelVsHost
public import Idealize.ShloMosaic.Lib.MatmulPlain
public import Idealize.ShloMosaic.Lib.WordCmp
public import Idealize.ShloMosaic.Lib.DynamicIndex

@[expose] public section

set_option maxRecDepth 65536

noncomputable section

namespace Cert.Proof.RefVal

open Idealize.ShloMosaic Idealize.SL.Sem Idealize.ShloMosaic.TcCoe
open Cert.ReferenceIdeal Cert.ReferenceIdeal.Gen
open Cert.Proof.Seq Cert.Proof.Pair Cert.Proof.Tiles

theorem row_eq (b : Fin 4) (t : Fin 4096) (pf : b.val * 4096 + t.val < 16384) : (⟨b.val * 4096 + t.val, pf⟩ : Fin 16384) = rowAt b t.val :=
  Fin.ext (by simp only [rowAt]; omega)
theorem col_eq (h : Fin 16) (n : Fin 64) (pf : h.val * 64 + n.val < 1024) : (⟨h.val * 64 + n.val, pf⟩ : Fin 1024) = colAt h n :=
  Fin.ext (by simp only [colAt]; omega)
theorem rd_eq {x : Arr} (hx : Fine x) (b : Fin 4) (h : Fin 16) (t : ℕ) (n : Fin 64) :
    x (ix2 (rowAt b t) (colAt h n)) = ((rd x b h t n : ℝ) : EReal) := hx _
theorem pd_eq {x : Par} (hx : Fine x) (h : Fin 16) (n : Fin 64) : x (ix1 (colAt h n)) = ((pd x h n : ℝ) : EReal) := hx _

/-! Reading one time of an array, and writing one. -/

theorem offs (j : ℕ) (hj : j < 4096) : S4096x4x16x64.Slices (![j, 0, 0, 0] : Fin 4 → ℕ) S1x4x16x64 := by
  refine ⟨rfl, fun a => ?_⟩
  fin_cases a
  · show j + 1 ≤ 4096
    omega
  · exact Nat.le_refl 4
  · exact Nat.le_refl 16
  · exact Nat.le_refl 64

theorem slice_at (x : FVec Ideal S4096x4x16x64 .f32) (st : Fin 4 → Int) (fit : S4096x4x16x64.Slices (fun _ => 0) S1x4x16x64) (j : ℕ)
    (hj : j < 4096) (hs : ∀ a, st a = ((![j, 0, 0, 0] : Fin 4 → ℕ) a : Int)) (b : Fin 4) (h : Fin 16) (n : Fin 64) :
    shapeCast S4x16x64 (Host.dynamicSlice S1x4x16x64 x st fit) shapeCasts_S1x4x16x64_S4x16x64 (ix3 b h n) = x (ix4 ⟨j, hj⟩ b h n) := by
  have e := Idealize.ShloMosaic.Host.dynamicSlice_eq_extractStridedSlice S1x4x16x64 x st ![j, 0, 0, 0] fit (offs j hj) hs
  refine (congrArg (fun y => shapeCast S4x16x64 y shapeCasts_S1x4x16x64_S4x16x64 (ix3 b h n)) e).trans ?_
  pointwise

theorem put_at (x : FVec Ideal S4096x4x16x64 .f32) (u : FVec Ideal S4x16x64 .f32) (st : Fin 4 → Int)
    (fit : S4096x4x16x64.Slices (fun _ => 0) S1x4x16x64) (j : ℕ) (hj : j < 4096)
    (hs : ∀ a, st a = ((![j, 0, 0, 0] : Fin 4 → ℕ) a : Int)) (t : Fin 4096) (b : Fin 4) (h : Fin 16) (n : Fin 64) :
    Host.dynamicUpdateSlice x (broadcastInDim S1x4x16x64 ![1, 2, 3] bcast_S4x16x64_S1x4x16x64_1_2_3 u) st fit (ix4 t b h n)
      = if t.val = j then u (ix3 b h n) else x (ix4 t b h n) := by
  refine (congrFun (WordCmp.dynamicUpdateSlice_eq_update x _ st fit ![j, 0, 0, 0] (offs j hj) hs) _).trans ?_
  unfold updateSlice
  by_cases ht : t.val = j
  · rw [if_pos ht, dif_pos]
    · pointwise
    · intro a
      fin_cases a
      · show j ≤ t.val ∧ t.val < j + 1
        omega
      · show 0 ≤ b.val ∧ b.val < 0 + 4
        omega
      · show 0 ≤ h.val ∧ h.val < 0 + 16
        omega
      · show 0 ≤ n.val ∧ n.val < 0 + 64
        omega
  · rw [if_neg ht, dif_neg]
    intro H
    have h0 : j ≤ t.val ∧ t.val < j + 1 := H 0
    omega

theorem start (j : ℕ) (hj : j < 4096) : ∀ a : Fin 4, ((![(constantI S_ 32 (BitVec.ofNat 32 j) : IVec S_ 32), constantI S_ 32 0#32,
    constantI S_ 32 0#32, constantI S_ 32 0#32] : Fin 4 → IVec S_ 32) a (Shape.Idx.first h_S_)).toInt = ((![j, 0, 0, 0] : Fin 4 → ℕ) a : Int) := by
  intro a
  fin_cases a
  · exact Idealize.ShloMosaic.toInt_ofNat_of_lt (by omega)
  · rfl
  · rfl
  · rfl

/-! One trip. -/

section trip

variable (j : ℕ) (hj : j < 4096) (s : Step.State Ideal) (b : Fin 4) (h : Fin 16) (i n : Fin 64)

theorem b4_at : Step.b4 j s (ix3 b h n) = s.main_v37_0 (ix4 ⟨j, hj⟩ b h n) := slice_at _ _ _ j hj (start j hj) b h n
theorem b9_at : Step.b9 j s (ix3 b h n) = s.main_v37_1 (ix4 ⟨j, hj⟩ b h n) := slice_at _ _ _ j hj (start j hj) b h n
theorem b14_at : Step.b14 j s (ix3 b h n) = s.main_v37_2 (ix4 ⟨j, hj⟩ b h n) := slice_at _ _ _ j hj (start j hj) b h n
theorem b19_at : Step.b19 j s (ix3 b h n) = s.main_v37_3 (ix4 ⟨j, hj⟩ b h n) := slice_at _ _ _ j hj (start j hj) b h n
theorem b24_at : Step.b24 j s (ix3 b h n) = s.main_v37_4 (ix4 ⟨j, hj⟩ b h n) := slice_at _ _ _ j hj (start j hj) b h n
theorem b29_at : Step.b29 j s (ix3 b h n) = s.main_v37_5 (ix4 ⟨j, hj⟩ b h n) := slice_at _ _ _ j hj (start j hj) b h n

theorem b31_at : (Step.b31 j s (ix3 b h i) : EReal)
    = ∑ l : Fin 64, (s.main_v37_7 (ix4 b h i l) : EReal) * -(s.main_v37_4 (ix4 ⟨j, hj⟩ b h l) : EReal) := by
  unfold Step.b31 Step.b30
  pointwise
  refine Finset.sum_congr rfl fun l _ => ?_
  rw [b24_at j hj]

theorem b47_at : (Step.b47 j s (ix4 b h i n) : EReal)
    = s.main_v37_7 (ix4 b h i n) * s.main_v37_1 (ix4 ⟨j, hj⟩ b h n)
      + (∑ l : Fin 64, (s.main_v37_7 (ix4 b h i l) : EReal) * -(s.main_v37_4 (ix4 ⟨j, hj⟩ b h l) : EReal))
        * (s.main_v37_4 (ix4 ⟨j, hj⟩ b h n) * s.main_v37_5 (ix4 ⟨j, hj⟩ b h n))
      + s.main_v37_3 (ix4 ⟨j, hj⟩ b h i) * s.main_v37_2 (ix4 ⟨j, hj⟩ b h n) := by
  unfold Step.b47 Step.b46 Step.b45 Step.b44 Step.b43 Step.b42 Step.b41 Step.b40 Step.b39 Step.b38 Step.b37 Step.b36 Step.b35
    Step.b34 Step.b33 Step.b32
  pointwise
  rw [b31_at j hj, b9_at j hj, b14_at j hj, b19_at j hj, b24_at j hj, b29_at j hj]

theorem b48_at : (Step.b48 j s (ix3 b h i) : EReal)
    = ∑ l : Fin 64, (Step.b47 j s (ix4 b h i l) : EReal) * (s.main_v37_0 (ix4 ⟨j, hj⟩ b h l) : EReal) := by
  unfold Step.b48
  pointwise
  refine Finset.sum_congr rfl fun l _ => ?_
  rw [b4_at j hj]

end trip

theorem b53_at (j : ℕ) (hj : j < 4096) (s : Step.State Ideal) (b : Fin 4) (h : Fin 16) (n : Fin 64) (t : Fin 4096) : (Step.b53 j s (ix4 t b h n) : EReal)
    = if t.val = j then Step.b48 j s (ix3 b h n) else s.main_v37_8 (ix4 t b h n) :=
  put_at _ _ _ _ j hj (start j hj) t b h n

/-! The states after any number of trips. -/

/-- What the loop's constant arrays hold. -/
structure Reads (s : Step.State Ideal) (R LD K V A : Arr) (sc ka : Par) : Prop where
  f0 : ∀ (t : Fin 4096) b h n, (s.main_v37_0 (ix4 t b h n) : EReal) = ((rd R b h t n : ℝ) : EReal)
  f1 : ∀ (t : Fin 4096) b h n, (s.main_v37_1 (ix4 t b h n) : EReal) = ((Real.exp (rd LD b h t n) : ℝ) : EReal)
  f2 : ∀ (t : Fin 4096) b h n, (s.main_v37_2 (ix4 t b h n) : EReal) = ((tk K A ka b h t n : ℝ) : EReal)
  f3 : ∀ (t : Fin 4096) b h n, (s.main_v37_3 (ix4 t b h n) : EReal) = ((rd V b h t n : ℝ) : EReal)
  f4 : ∀ (t : Fin 4096) b h n, (s.main_v37_4 (ix4 t b h n) : EReal) = ((tq K sc b h t n : ℝ) : EReal)
  f5 : ∀ (t : Fin 4096) b h n, (s.main_v37_5 (ix4 t b h n) : EReal) = ((rd A b h t n : ℝ) : EReal)

theorem reads_step {s : Step.State Ideal} {R LD K V A : Arr} {sc ka : Par} (j : ℕ) (H : Reads s R LD K V A sc ka) :
    Reads (Step.step j s) R LD K V A sc ka := ⟨H.f0, H.f1, H.f2, H.f3, H.f4, H.f5⟩

theorem reads_after {s : Step.State Ideal} {R LD K V A : Arr} {sc ka : Par} (H : Reads s R LD K V A sc ka) :
    ∀ j, Reads (RefRun.after s j) R LD K V A sc ka
  | 0 => H
  | j + 1 => reads_step j (reads_after H j)

theorem states {s : Step.State Ideal} {R LD K V A : Arr} {sc ka : Par} (H : Reads s R LD K V A sc ka)
    (hz : ∀ i, (s.main_v37_7 i : EReal) = 0) (b : Fin 4) (h : Fin 16) : ∀ j, j ≤ 4096 → ∀ i n : Fin 64,
    ((RefRun.after s j).main_v37_7 (ix4 b h i n) : EReal) = ((state LD K V A sc ka b h j i n : ℝ) : EReal)
  | 0, _, i, n => (hz _).trans EReal.coe_zero.symm
  | j + 1, hj, i, n => by
    have hj' : j < 4096 := hj
    have ih := states H hz b h j (Nat.le_of_lt hj')
    have G := reads_after H j
    refine (b47_at j hj' (RefRun.after s j) b h i n).trans ?_
    simp only [ih, G.f1, G.f2, G.f3, G.f4, G.f5, ← EReal.coe_neg, ← EReal.coe_mul, coe_sum, ← EReal.coe_add]
    rfl

theorem outs {s : Step.State Ideal} {R LD K V A : Arr} {sc ka : Par} (H : Reads s R LD K V A sc ka)
    (hz : ∀ i, (s.main_v37_7 i : EReal) = 0) (b : Fin 4) (h : Fin 16) : ∀ j, j ≤ 4096 → ∀ t : Fin 4096, t.val < j → ∀ n : Fin 64,
    ((RefRun.after s j).main_v37_8 (ix4 t b h n) : EReal) = ((outRow R LD K V A sc ka b h t n : ℝ) : EReal)
  | 0, _, t, ht, n => absurd ht (Nat.not_lt_zero _)
  | j + 1, hj, t, ht, n => by
    have hj' : j < 4096 := hj
    refine (b53_at j hj' (RefRun.after s j) b h n t).trans ?_
    by_cases e : t.val = j
    · rw [if_pos e, b48_at j hj']
      have G := reads_after H j
      have S := states H hz b h (j + 1) hj
      refine (Finset.sum_congr rfl fun l _ => congrArg₂ (fun p q : EReal => p * q) (S n l) (G.f0 ⟨j, hj'⟩ b h l)).trans ?_
      rw [coe_sum_mul, e]
      rfl
    · rw [if_neg e]
      exact outs H hz b h j (Nat.le_of_lt hj') t (by omega) n

/-! The arrays the loop reads. -/

section fields

variable (x0 x1 x2 x3 x4 : Arr) (x6 x7 : Par) (t : Fin 4096) (b : Fin 4) (h : Fin 16) (n : Fin 64)

theorem v29 (h0 : Fine x0) : (Step.A_main_v29 (F := Ideal) x0 x1 x2 x3 x4 x6 x7 (ix4 t b h n) : EReal) = ((rd x0 b h t n : ℝ) : EReal) := by
  dsimp only [Step.A_main_v29, Step.A_main_v13]
  pointwise
  simp only [row_eq, col_eq, rd_eq h0]

theorem v30 (h3 : Fine x3) : (Step.A_main_v30 (F := Ideal) x0 x1 x2 x3 x4 x6 x7 (ix4 t b h n) : EReal)
    = ((Real.exp (rd x3 b h t n) : ℝ) : EReal) := by
  dsimp only [Step.A_main_v30, Step.A_main_v15, Step.A_main_v14]
  pointwise
  simp only [row_eq, col_eq, rd_eq h3]
  rfl

theorem v31 (h1 : Fine x1) (h4 : Fine x4) (h7 : Fine x7) : (Step.A_main_v31 (F := Ideal) x0 x1 x2 x3 x4 x6 x7 (ix4 t b h n) : EReal)
    = ((tk x1 x4 x7 b h t n : ℝ) : EReal) := by
  dsimp only [Step.A_main_v31, Step.A_main_v26, Step.A_main_v25, Step.K_main_v24, Step.K_main_cst_2, Step.A_main_v23, Step.A_main_v22, Step.A_main_v21, Step.A_main_v20, Step.A_main_v19, Step.K_main_v18, Step.K_main_cst_1, Step.A_main_v17, Step.A_main_v16]
  pointwise
  simp only [row_eq, col_eq, rd_eq h1, rd_eq h4, pd_eq h7, tk, EReal.coe_mul, EReal.coe_add, EReal.coe_sub, EReal.coe_one]

theorem v32 (h2 : Fine x2) : (Step.A_main_v32 (F := Ideal) x0 x1 x2 x3 x4 x6 x7 (ix4 t b h n) : EReal) = ((rd x2 b h t n : ℝ) : EReal) := by
  dsimp only [Step.A_main_v32, Step.A_main_v27]
  pointwise
  simp only [row_eq, col_eq, rd_eq h2]

theorem v33 (h1 : Fine x1) (h6 : Fine x6) : (Step.A_main_v33 (F := Ideal) x0 x1 x2 x3 x4 x6 x7 (ix4 t b h n) : EReal)
    = ((tq x1 x6 b h t n : ℝ) : EReal) := by
  dsimp only [Step.A_main_v33, Step.A_main_v12, Step.A_main_v4, Step.A_main_v3, Step.A_main_v2, Step.A_main_v1, Step.A_main_v0, Step.A_main_v11, Step.A_main_v10, Step.K_main_v9, Step.K_main_cst_0, Step.A_main_v8, Step.A_main_v7, Step.A_main_v6, Step.K_main_cst, Step.A_main_v5]
  pointwise
  simp only [row_eq, col_eq, rd_eq h1, pd_eq h6, ← EReal.coe_mul, coe_sum]
  exact unit_real (fun n => rd x1 b h t n * pd x6 h n) n

theorem v34 (h4 : Fine x4) : (Step.A_main_v34 (F := Ideal) x0 x1 x2 x3 x4 x6 x7 (ix4 t b h n) : EReal) = ((rd x4 b h t n : ℝ) : EReal) := by
  dsimp only [Step.A_main_v34, Step.A_main_v28]
  pointwise
  simp only [row_eq, col_eq, rd_eq h4]

end fields

theorem reads_init {x0 x1 x2 x3 x4 : Arr} {x6 x7 : Par} (h0 : Fine x0) (h1 : Fine x1) (h2 : Fine x2) (h3 : Fine x3) (h4 : Fine x4)
    (h6 : Fine x6) (h7 : Fine x7) : Reads (Step.init (F := Ideal) x0 x1 x2 x3 x4 x6 x7) x0 x3 x1 x2 x4 x6 x7 where
  f0 := fun t b h n => v29 x0 x1 x2 x3 x4 x6 x7 t b h n h0
  f1 := fun t b h n => v30 x0 x1 x2 x3 x4 x6 x7 t b h n h3
  f2 := fun t b h n => v31 x0 x1 x2 x3 x4 x6 x7 t b h n h1 h4 h7
  f3 := fun t b h n => v32 x0 x1 x2 x3 x4 x6 x7 t b h n h2
  f4 := fun t b h n => v33 x0 x1 x2 x3 x4 x6 x7 t b h n h1 h6
  f5 := fun t b h n => v34 x0 x1 x2 x3 x4 x6 x7 t b h n h4

theorem zero_init (x0 x1 x2 x3 x4 : Arr) (x6 x7 : Par) (i : S4x16x64x64.Idx) :
    ((Step.init (F := Ideal) x0 x1 x2 x3 x4 x6 x7).main_v37_7 i : EReal) = 0 := Ideal.ofBits_zero_f32

/-! The result. -/

theorem lit64 : Ideal.ofBits .f32 0x42800000#32 = ((64 : ℝ) : EReal) := by
  simp [Ideal.ofBits, Ideal.ieee]; rw [← EReal.coe_mul]; norm_num

theorem div64 (x : ℝ) : Ideal.div (x : EReal) (Ideal.ofBits .f32 0x42800000#32) = ((x * (1 / 64) : ℝ) : EReal) := by
  rw [lit64, div_real _ _ (by norm_num), div_eq_mul_one_div]

theorem out_at (s : Step.State Ideal) {x0 x1 x2 x4 x5 : Arr} {x7 x8 x9 x10 : Par} (h0 : Fine x0) (h1 : Fine x1) (h2 : Fine x2)
    (h4 : Fine x4) (h7 : Fine x7) (h8 : Fine x8) (t : Fin 4096) (b : Fin 4) (h : Fin 16) (n : Fin 64) (o : Fin 64 → ℝ)
    (ho : ∀ v, (s.main_v37_8 (ix4 t b h v) : EReal) = ((o v : ℝ) : EReal)) :
    (Step.R_main_v90 (F := Ideal) s x0 x1 x2 x4 x5 x7 x8 x9 x10 (ix2 (rowAt b t) (colAt h n)) : EReal)
      = entry o (bonus x0 x1 x4 x7 x8 b h t) (rd x2 b h t n) n (x9 (ix1 (colAt h n))) (x10 (ix1 (colAt h n)))
          (x5 (ix2 (rowAt b t) (colAt h n))) := by
  have key : (Step.R_main_v90 (F := Ideal) s x0 x1 x2 x4 x5 x7 x8 x9 x10
      (ix2 (⟨b.val * 4096 + t.val, by omega⟩ : Fin 16384) (⟨h.val * 64 + n.val, by omega⟩ : Fin 1024)) : EReal)
      = entry o (bonus x0 x1 x4 x7 x8 b h t) (rd x2 b h t n) n (x9 (ix1 (colAt h n))) (x10 (ix1 (colAt h n)))
          (x5 (ix2 (rowAt b t) (colAt h n))) := by
    unfold Step.R_main_v90
    pointwise
    unfold entry bonus mean vari mean tk
    simp only [row_eq, col_eq, ho, rd_eq h0, rd_eq h1, rd_eq h2, rd_eq h4, pd_eq h7, pd_eq h8, coe_sum, div64,
      ← EReal.coe_one, ← EReal.coe_sub, ← EReal.coe_mul, ← EReal.coe_add]
  rw [row_eq, col_eq] at key
  exact key

/-- The reference's result at a batch, a time, a head and a coordinate. -/
theorem result_at {x0 x1 x2 x3 x4 x5 : Arr} {x6 x7 x8 x9 x10 : Par} (h0 : Fine x0) (h1 : Fine x1) (h2 : Fine x2) (h3 : Fine x3)
    (h4 : Fine x4) (h6 : Fine x6) (h7 : Fine x7) (h8 : Fine x8) (t : Fin 4096) (b : Fin 4) (h : Fin 16) (n : Fin 64) :
    (Step.R_main_v90 (F := Ideal) (RefRun.after (Step.init x0 x1 x2 x3 x4 x6 x7) 4096) x0 x1 x2 x4 x5 x7 x8 x9 x10
        (ix2 (rowAt b t) (colAt h n)) : EReal)
      = result x0 x3 x1 x2 x4 x6 x7 x8 b h x5 x9 x10 t n :=
  out_at _ h0 h1 h2 h4 h7 h8 t b h n _
    (outs (reads_init h0 h1 h2 h3 h4 h6 h7) (zero_init x0 x1 x2 x3 x4 x6 x7) b h 4096 le_rfl t t.isLt)

end Cert.Proof.RefVal

end
-- ==== Proof.Tie1.lean ====
/- The recurrence: the chunked kernel and the reference, run step by step, end with the same array when every argument the
   recurrence reads is a finite number. -/
module

public import proofs.«01_k».proof.Defs
public import proofs.«01_k».proof.Proof.Gen.Pre_finite_inputs
public import proofs.«01_k».proof.Proof.KerVal
public import proofs.«01_k».proof.Proof.RefVal
public import Idealize.ShloMosaic.Lib.KernelVsHost

@[expose] public section

set_option maxRecDepth 16384

noncomputable section

namespace Cert.Proof.Tie1

open Idealize.ShloMosaic Idealize.SL.Sem Idealize.ShloMosaic.TcCoe
open Cert.Proof.Seq

/-! What the precondition says. -/

theorem lit_top : Ideal.ofBits .f32 0x7F800000#32 = (⊤ : EReal) := by
  simp [Ideal.ofBits, Ideal.ieee]

theorem real_of (x : EReal) (h : max x (-x) < ⊤) : x = ((x.toReal : ℝ) : EReal) := by
  refine (EReal.coe_toReal ?_ ?_).symm
  · rintro rfl
    exact absurd (lt_of_le_of_lt (le_max_left _ _) h) (lt_irrefl _)
  · rintro rfl
    rw [EReal.neg_bot] at h
    exact absurd (lt_of_le_of_lt (le_max_right _ _) h) (lt_irrefl _)

theorem real_bit (x : Ideal .f32) (h : BitVec.ofBool (decide ((FloatOps.absf x : EReal) < Ideal.ofBits .f32 0x7F800000#32)) = 1#1) :
    (x : EReal) = (((x : EReal).toReal : ℝ) : EReal) := by
  refine real_of x ?_
  rw [lit_top] at h
  by_contra hn
  have e : decide ((FloatOps.absf x : EReal) < ⊤) = false := decide_eq_false hn
  rw [e] at h
  exact absurd h (by decide)

theorem and_bit : ∀ a b : BitVec 1, IntOp.andi a b = 1#1 → a = 1#1 ∧ b = 1#1 := by decide

section pre

variable (x0 x1 x2 x3 x4 x5 : FVec Ideal Cert.Pre_finite_inputs.S16384x1024 .f32) (x6 x7 x8 x9 x10 : FVec Ideal Cert.Pre_finite_inputs.S1024 .f32)

theorem bits (p : Fin 16384) (q : Fin 1024) (h : Cert.Pre_finite_inputs.fn (F := Ideal) x0 x1 x2 x3 x4 x5 x6 x7 x8 x9 x10 (ix2 p q) = 1#1) :
    ((x0 (ix2 p q) : EReal) = (((x0 (ix2 p q) : EReal).toReal : ℝ) : EReal)
      ∧ (x1 (ix2 p q) : EReal) = (((x1 (ix2 p q) : EReal).toReal : ℝ) : EReal)
      ∧ (x2 (ix2 p q) : EReal) = (((x2 (ix2 p q) : EReal).toReal : ℝ) : EReal)
      ∧ (x3 (ix2 p q) : EReal) = (((x3 (ix2 p q) : EReal).toReal : ℝ) : EReal)
      ∧ (x4 (ix2 p q) : EReal) = (((x4 (ix2 p q) : EReal).toReal : ℝ) : EReal))
    ∧ (x6 (ix1 q) : EReal) = (((x6 (ix1 q) : EReal).toReal : ℝ) : EReal)
      ∧ (x7 (ix1 q) : EReal) = (((x7 (ix1 q) : EReal).toReal : ℝ) : EReal)
      ∧ (x8 (ix1 q) : EReal) = (((x8 (ix1 q) : EReal).toReal : ℝ) : EReal) := by
  revert h
  unfold Cert.Pre_finite_inputs.fn Cert.Pre_finite_inputs.fn_part1
  pointwise
  intro h
  obtain ⟨h, k⟩ := and_bit _ _ h
  obtain ⟨h, h4⟩ := and_bit _ _ h
  obtain ⟨h, h3⟩ := and_bit _ _ h
  obtain ⟨h, h2⟩ := and_bit _ _ h
  obtain ⟨h0, h1⟩ := and_bit _ _ h
  obtain ⟨k, k8⟩ := and_bit _ _ k
  obtain ⟨k6, k7⟩ := and_bit _ _ k
  exact ⟨⟨real_bit _ h0, real_bit _ h1, real_bit _ h2, real_bit _ h3, real_bit _ h4⟩, real_bit _ k6, real_bit _ k7, real_bit _ k8⟩

end pre

theorem args_of (m : (ℓ : Loc Cert.KernelIdeal.nD Cert.KernelIdeal.τ Cert.KernelIdeal.sig) → Buf (Elt Ideal) ℓ)
    (h : Cert.Pre_KernelIdeal_finite_inputs m) (c : Dev Cert.KernelIdeal.nD) : KerVal.Args m c := by
  have H : ∀ (p : Fin 16384) (q : Fin 1024), _ := fun p q => bits _ _ _ _ _ _ _ _ _ _ _ p q (congrFun (h c) (ix2 p q))
  have e2 : ∀ i : (⟨2, ![16384, 1024]⟩ : Shape).Idx, i = ix2 (i 0 : Fin 16384) (i 1 : Fin 1024) := fun i => eq_ix2 i
  have e1 : ∀ i : (⟨1, ![1024]⟩ : Shape).Idx, i = ix1 (i 0 : Fin 1024) := fun i => eq_ix1 i
  constructor
  · intro i; rw [e2 i]; exact (H _ _).1.1
  · intro i; rw [e2 i]; exact (H _ _).1.2.1
  · intro i; rw [e2 i]; exact (H _ _).1.2.2.1
  · intro i; rw [e2 i]; exact (H _ _).1.2.2.2.1
  · intro i; rw [e2 i]; exact (H _ _).1.2.2.2.2
  · intro i; rw [e1 i]; exact (H 0 _).2.1
  · intro i; rw [e1 i]; exact (H 0 _).2.2.1
  · intro i; rw [e1 i]; exact (H 0 _).2.2.2

/-- Kernel and reference end with the same array. -/
theorem tie : Cert.algebraic_KernelIdeal_ReferenceIdeal_pre_finite_inputs := by
  intro m g m' g' hp hag
  refine ⟨fun c => Cert.KernelIdeal.Value.G11 m c, Cert.KernelIdeal.Value.run m g,
    (θ_run _ _ _).mono (fun r h c => ⟨(h c).1.trans ?_, (h c).2⟩) (Cert.ReferenceIdeal.Value.run m' g')⟩
  have H := args_of m hp c
  obtain ⟨a0, a1, a2, a3, a4, a5, a6, a7, a8, a9, a10⟩ := hag c
  refine (RefRun.out_eq m' c).trans ?_
  unfold RefRun.first
  rw [a0, a1, a2, a3, a4, a5, a6, a7, a8, a9, a10]
  funext i
  obtain ⟨P, Q, rfl⟩ : ∃ (P : Fin 16384) (Q : Fin 1024), i = ix2 P Q := ⟨i 0, i 1, eq_ix2 i⟩
  have eP : P = rowAt (⟨P.val / 4096, by omega⟩ : Fin 4) (⟨P.val % 4096, by omega⟩ : Fin 4096).val := Fin.ext (by simp only [rowAt]; omega)
  have eQ : Q = colAt (⟨Q.val / 64, by omega⟩ : Fin 16) (⟨Q.val % 64, by omega⟩ : Fin 64) := Fin.ext (by simp only [colAt]; omega)
  rw [eP, eQ]
  exact (RefVal.result_at H.h0 H.h1 H.h2 H.h3 H.h4 H.h6 H.h7 H.h8 _ _ _ _).trans (KerVal.result_at m c H _ _ _ _).symm

end Cert.Proof.Tie1

end
-- ==== Proof.lean ====
/- The proof of every claim of the certificate: the frames, from the programs' runs; the idealizations, which rewrite
   no operation; and that each kernel and its reference end with the same arrays, from the modules beside this one. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Pre_finite_inputs
public import proofs.«01_k».proof.Proof.Gate2
public import proofs.«01_k».proof.Proof.Gate3
public import proofs.«01_k».proof.Proof.Tie4
public import proofs.«01_k».proof.Proof.Merge5
public import proofs.«01_k».proof.Proof.Resid6
public import proofs.«01_k».proof.Proof.Norm7
public import proofs.«01_k».proof.Proof.Conv8
public import proofs.«01_k».proof.Proof.Tie1
public import Idealize.ShloMosaic.Adequacy
public import Idealize.ShloMosaic.Init

@[expose] public section

noncomputable section

namespace Cert.Proof

open Idealize.ShloMosaic Idealize.SL.Sem

/-- The reference `ReferenceIdeal` ends, with its arguments unchanged and no counter raised. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference `Reference2Ideal` ends, with its arguments unchanged and no counter raised. -/
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference `Reference3Ideal` ends, with its arguments unchanged and no counter raised. -/
theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference `Reference4Ideal` ends, with its arguments unchanged and no counter raised. -/
theorem frame_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference `Reference5Ideal` ends, with its arguments unchanged and no counter raised. -/
theorem frame_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference `Reference6Ideal` ends, with its arguments unchanged and no counter raised. -/
theorem frame_Reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference `Reference7Ideal` ends, with its arguments unchanged and no counter raised. -/
theorem frame_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference `Reference8Ideal` ends, with its arguments unchanged and no counter raised. -/
theorem frame_Reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Pre_finite_inputs.Gen.facts,
    (fun m ρ _ => Cert.Kernel.Gen.frame m ρ),
    (fun m ρ _ => Cert.KernelIdeal.Gen.frame m ρ),
    (fun m ρ _ => Cert.KernelIdeal.Gen.frame m ρ),
    frame_ReferenceIdeal,
    (fun m ρ _ => frame_ReferenceIdeal m ρ trivial),
    (fun m ρ _ => Cert.Kernel2.Gen.frame m ρ),
    (fun m ρ _ => Cert.Kernel2Ideal.Gen.frame m ρ),
    frame_Reference2Ideal,
    (fun m ρ _ => Cert.Kernel3.Gen.frame m ρ),
    (fun m ρ _ => Cert.Kernel3Ideal.Gen.frame m ρ),
    frame_Reference3Ideal,
    (fun m ρ _ => Cert.Kernel4.Gen.frame m ρ),
    (fun m ρ _ => Cert.Kernel4Ideal.Gen.frame m ρ),
    frame_Reference4Ideal,
    (fun m ρ _ => Cert.Kernel5.Gen.frame m ρ),
    (fun m ρ _ => Cert.Kernel5Ideal.Gen.frame m ρ),
    frame_Reference5Ideal,
    (fun m ρ _ => Cert.Kernel6.Gen.frame m ρ),
    (fun m ρ _ => Cert.Kernel6Ideal.Gen.frame m ρ),
    frame_Reference6Ideal,
    (fun m ρ _ => Cert.Kernel7.Gen.frame m ρ),
    (fun m ρ _ => Cert.Kernel7Ideal.Gen.frame m ρ),
    frame_Reference7Ideal,
    (fun m ρ _ => Cert.Kernel8.Gen.frame m ρ),
    (fun m ρ _ => Cert.Kernel8Ideal.Gen.frame m ρ),
    frame_Reference8Ideal,
    trivial,
    Tie1.tie,
    trivial,
    Gate2.tie,
    trivial,
    Gate3.tie,
    trivial,
    Qkv4.tie,
    trivial,
    Merge5.tie,
    trivial,
    Resid6.tie,
    trivial,
    Norm7.tie,
    trivial,
    Conv8.tie⟩

end Cert.Proof

end
